-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43_0)) (v1 : (c : Dev Cert.KernelIdeal.nD) → Buf (Elt Ideal) ((c.tc : Thread Cert.KernelIdeal.nD Cert.KernelIdeal.τ).loc Cert.KernelIdeal.main_v43_1)) (v2 : (c : Dev Cert.KernelIdeal.nD) → Buf (Elt Ideal) ((c.tc : Thread Cert.KernelIdeal.nD Cert.KernelIdeal.τ).loc Cert.KernelIdeal.main_v43_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_v43_1) = v1 c
          ∧ r.2.mem ((c.tc : Thread Cert.KernelIdeal.nD Cert.KernelIdeal.τ).loc Cert.KernelIdeal.main_v43_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥
  ∧ IdealRules.named_const.Statement Cert.Kernel2Ideal.κ "rln2" .f32 0x3FB8AA3B#32 (((Real.log 2)⁻¹ : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v49) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S8x8192x256 : Shape := ⟨3, ![8, 8192, 256]⟩
abbrev S8x8192x128 : Shape := ⟨3, ![8, 8192, 128]⟩
abbrev S8192x1024 : Shape := ⟨2, ![8192, 1024]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8x8192x256 .f32) (main_arg1 : FVec F S8x8192x256 .f32) (main_arg2 : FVec F S8x8192x128 .f32) (main_arg3 : FVec F S8192x1024 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite2.lean ====
abbrev S8x8192x256 : Shape := ⟨3, ![8, 8192, 256]⟩
abbrev S8x8192x128 : Shape := ⟨3, ![8, 8192, 128]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_

variable [Facts]

def fn {F : FTy → Type} [FloatOps F] (main_arg0 : FVec F S8x8192x256 .f32) (main_arg1 : FVec F S8x8192x256 .f32) (main_arg2 : FVec F S8x8192x128 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  let main_v9 : FVec F S8x8192x128 .f32 := Host.absf main_arg2
  let main_cst_2 : FVec F S_ .f32 := constant S_ .f32 0x7F800000#32
  let main_v10 : FVec F S8x8192x128 .f32 := broadcastInDim S8x8192x128 ![] bcast_S_S8x8192x128 main_cst_2
  let main_v11 : IVec S8x8192x128 1 := cmpf .olt main_v9 main_v10
  let main_c_3 : IVec S_ 1 := constantI S_ 1 1#1
  let main_v12 : IVec S_ 1 := (fun x v => Host.reduce IntOp.andi x v reducesTo_S8x8192x128_S_d0_1_2 h_S_) main_v11 main_c_3
  let main_v13 : IVec S_ 1 := andi main_v8 main_v12
  main_v13
-- ==== Kernel.lean ====
abbrev S8x8192x256 : Shape := ⟨3, ![8, 8192, 256]⟩
abbrev S8x8192x128 : Shape := ⟨3, ![8, 8192, 128]⟩
abbrev S8192x1024 : Shape := ⟨2, ![8192, 1024]⟩
abbrev S36 : Shape := ⟨1, ![36]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S8192x8x128 : Shape := ⟨3, ![8192, 8, 128]⟩
abbrev S1x1024x256 : Shape := ⟨3, ![1, 1024, 256]⟩
abbrev S1 : Shape := ⟨1, ![1]⟩
abbrev S1x1024x128 : Shape := ⟨3, ![1, 1024, 128]⟩
abbrev S1024x128 : Shape := ⟨2, ![1024, 128]⟩
abbrev S1x1x1024 : Shape := ⟨3, ![1, 1, 1024]⟩
abbrev S1x8192x256 : Shape := ⟨3, ![1, 8192, 256]⟩
abbrev S1024x256 : Shape := ⟨2, ![1024, 256]⟩
abbrev S8192x256 : Shape := ⟨2, ![8192, 256]⟩
abbrev S1x512x256 : Shape := ⟨3, ![1, 512, 256]⟩
abbrev S512x256 : Shape := ⟨2, ![512, 256]⟩
abbrev S1x512x128 : Shape := ⟨3, ![1, 512, 128]⟩
abbrev S512x128 : Shape := ⟨2, ![512, 128]⟩
abbrev S512x1024 : Shape := ⟨2, ![512, 1024]⟩
abbrev S1x1024 : Shape := ⟨2, ![1, 1024]⟩
abbrev S512x512 : Shape := ⟨2, ![512, 512]⟩
abbrev S1x512 : Shape := ⟨2, ![1, 512]⟩
abbrev S1024x1024 : Shape := ⟨2, ![1024, 1024]⟩

abbrev nBuf : Space → Nat
  | .hbm => 57
  | .vmem => 21
  | .smem => 2
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x128, .f32⟩
  | .hbm, ⟨3, _⟩ => ⟨S8192x1024, .f32⟩
  | .hbm, ⟨4, _⟩ => ⟨S_, .f32⟩
  | .hbm, ⟨5, _⟩ => ⟨S8x8192x256, .f32⟩
  | .hbm, ⟨6, _⟩ => ⟨S8x8192x256, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S8x8192x8192, .i1⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192, .f32⟩
  | .hbm, ⟨22, _⟩ => ⟨S8x8192x1, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x1x8192, .f32⟩
  | .hbm, ⟨35, _⟩ => ⟨S8x8192x1, .f32⟩
  | .hbm, ⟨36, _⟩ => ⟨S8x8192x8192, .f32⟩
  | .hbm, ⟨37, _⟩ => ⟨S8x8192x8192, .f32⟩
  | .hbm, ⟨38, _⟩ => ⟨S8x8192x128, .f32⟩
  | .hbm, ⟨39, _⟩ => ⟨S8192x8x128, .f32⟩
  | .hbm, ⟨40, _⟩ => ⟨S8x8192x128, .f32⟩
  | .hbm, ⟨41, _⟩ => ⟨S8x8192x128, .f32⟩
  | .hbm, ⟨42, _⟩ => ⟨S_, .f32⟩
  | .hbm, ⟨43, _⟩ => ⟨S8x8192, .f32⟩
  | .hbm, ⟨44, _⟩ => ⟨S8x1x8192, .f32⟩
  | .hbm, ⟨45, _⟩ => ⟨S_, .f32⟩
  | .hbm, ⟨46, _⟩ => ⟨S8x8192x256, .f32⟩
  | .hbm, ⟨47, _⟩ => ⟨S8x8192x256, .f32⟩
  | .hbm, ⟨48, _⟩ => ⟨S8x8192x256, .f32⟩
  | .hbm, ⟨49, _⟩ => ⟨S8x8192x256, .f32⟩
  | .hbm, ⟨50, _⟩ => ⟨S8x8192x256, .bf16⟩
  | .hbm, ⟨51, _⟩ => ⟨S8x8192x256, .bf16⟩
  | .hbm, ⟨52, _⟩ => ⟨S8x8192x128, .bf16⟩
  | .hbm, ⟨53, _⟩ => ⟨S8192x1024, .bf16⟩
  | .hbm, ⟨54, _⟩ => ⟨S8x8192x256, .bf16⟩
  | .hbm, ⟨55, _⟩ => ⟨S8x8192x256, .bf16⟩
  | .hbm, ⟨56, _⟩ => ⟨S8x8192x128, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x8192x256, .bf16⟩
  | .local _ .vmem, ⟨13, _⟩ => ⟨S1x8192x256, .bf16⟩
  | .local _ .vmem, ⟨14, _⟩ => ⟨S1x1024x256, .bf16⟩
  | .local _ .vmem, ⟨15, _⟩ => ⟨S1x1024x256, .bf16⟩
  | .local _ .vmem, ⟨16, _⟩ => ⟨S1x1024x128, .bf16⟩
  | .local _ .vmem, ⟨17, _⟩ => ⟨S1x1024x128, .bf16⟩
  | .local _ .vmem, ⟨18, _⟩ => ⟨S1024x256, .f32⟩
  | .local _ .vmem, ⟨19, _⟩ => ⟨S1024x128, .f32⟩
  | .local _ .vmem, ⟨20, _⟩ => ⟨S8192x256, .f32⟩
  | .local _ .smem, ⟨0, _⟩ => ⟨S36, .i32⟩
  | .local _ .smem, ⟨1, _⟩ => ⟨S36, .i32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c1024_i32 : BitVec 32 := 1024#32
  let v52 : BitVec 32 := Scalar.muli v1 c1024_i32
  let c0_i32_27 : BitVec 32 := 0#32
  let v53 : BitVec 32 := Scalar.addi v52 c0_i32_27
  v53
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) : Fin 2 → Nat :=
  let c1024_i32 : BitVec 32 := 1024#32
  let v52 : BitVec 32 := Scalar.muli v1 c1024_i32
  let c0_i32_27 : BitVec 32 := 0#32
  let v53 : BitVec 32 := Scalar.addi v52 c0_i32_27
  let v54 : BitVec 32 := v53
  let v55 : Index := Scalar.indexCast v54
  let c0_28 : Index := 0#32
  ![v55.toNat, 0]
def k0_mult2 (v1 : BitVec 32) : BitVec 32 :=
  let c1024_i32_57 : BitVec 32 := 1024#32
  let v104 : BitVec 32 := Scalar.muli v1 c1024_i32_57
  let c512_i32_58 : BitVec 32 := 512#32
  let v105 : BitVec 32 := Scalar.addi v104 c512_i32_58
  v105
def k0_off3 (v1 : BitVec 32) : Fin 2 → Nat :=
  let c1024_i32_57 : BitVec 32 := 1024#32
  let v104 : BitVec 32 := Scalar.muli v1 c1024_i32_57
  let c512_i32_58 : BitVec 32 := 512#32
  let v105 : BitVec 32 := Scalar.addi v104 c512_i32_58
  let v106 : BitVec 32 := v105
  let v107 : Index := Scalar.indexCast v106
  let c0_59 : Index := 0#32
  ![v107.toNat, 0]
def k0_mult3 (v1 : BitVec 32) : BitVec 32 :=
  let c1024_i32 : BitVec 32 := 1024#32
  let v43 : BitVec 32 := Scalar.muli v1 c1024_i32
  let c0_i32_24 : BitVec 32 := 0#32
  let v44 : BitVec 32 := Scalar.addi v43 c0_i32_24
  v44
def k0_cond3 (v1 : BitVec 32) (v3 : BitVec 32) : BitVec 1 :=
  let v10 : BitVec 1 := Scalar.cmpi .ne v1 v3
  let v11 : BitVec 32 := Scalar.extui v10
  let c0_i32_2 : BitVec 32 := 0#32
  let v12 : BitVec 1 := Scalar.cmpi .ne v11 c0_i32_2
  v12

def k0_off4 (v1 : BitVec 32) : Fin 2 → Nat :=
  let c1024_i32 : BitVec 32 := 1024#32
  let v43 : BitVec 32 := Scalar.muli v1 c1024_i32
  let c0_i32_24 : BitVec 32 := 0#32
  let v44 : BitVec 32 := Scalar.addi v43 c0_i32_24
  let v45 : BitVec 32 := v44
  let v46 : Index := Scalar.indexCast v45
  let c0_25 : Index := 0#32
  ![v46.toNat, 0]

def k0_chk1 (v1 : BitVec 32) (v3 : BitVec 32) : Prop :=
  (∀ (k0_h2 : k0_cond2 v1 v3 = 1#1), 128 ∣ (k0_mult1 v1).toNat) ∧
  (∀ (k0_h2 : k0_cond2 v1 v3 = 1#1), ∀ a, (k0_off2 v1) a + S1024x256.size a ≤ S8192x256.size a) ∧
  (∀ (k0_h2 : k0_cond2 v1 v3 = 1#1), 128 ∣ (k0_mult2 v1).toNat) ∧
  (∀ (k0_h2 : k0_cond2 v1 v3 = 1#1), ∀ a, (k0_off3 v1) a + S512x256.size a ≤ S8192x256.size a) ∧
  (∀ (k0_h3 : k0_cond3 v1 v3 = 1#1), 128 ∣ (k0_mult3 v1).toNat) ∧
  (∀ (k0_h3 : k0_cond3 v1 v3 = 1#1), ∀ a, (k0_off4 v1) a + S1024x256.size a ≤ S8192x256.size a)
theorem k0_mult1_dvd : ∀ (v1 : BitVec 32) (v3 : BitVec 32) (k0_hw1 : k0_chk1 v1 v3), ∀ (k0_h2 : k0_cond2 v1 v3 = 1#1), 128 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ a, (k0_off2 v1) a + S1024x256.size a ≤ S8192x256.size a := fun v1 v3 k0_hw1 k0_h2 => k0_hw1.2.1 k0_h2
theorem k0_mult2_dvd : ∀ (v1 : BitVec 32) (v3 : BitVec 32) (k0_hw1 : k0_chk1 v1 v3), ∀ (k0_h2 : k0_cond2 v1 v3 = 1#1), 128 ∣ (k0_mult2 v1).toNat := fun v1 v3 k0_hw1 k0_h2 => k0_hw1.2.2.1 k0_h2
theorem k0_off3_inb : ∀ (v1 : BitVec 32) (v3 : BitVec 32) (k0_hw1 : k0_chk1 v1 v3), ∀ (k0_h2 : k0_cond2 v1 v3 = 1#1), ∀ a, (k0_off3 v1) a + S512x256.size a ≤ S8192x256.size a := fun v1 v3 k0_hw1 k0_h2 => k0_hw1.2.2.2.1 k0_h2
theorem k0_mult3_dvd : ∀ (v1 : BitVec 32) (v3 : BitVec 32) (k0_hw1 : k0_chk1 v1 v3), ∀ (k0_h3 : k0_cond3 v1 v3 = 1#1), 128 ∣ (k0_mult3 v1).toNat := fun v1 v3 k0_hw1 k0_h3 => k0_hw1.2.2.2.2.1 k0_h3
theorem k0_off4_inb : ∀ (v1 : BitVec 32) (v3 : BitVec 32) (k0_hw1 : k0_chk1 v1 v3), ∀ (k0_h3 : k0_cond3 v1 v3 = 1#1), ∀ a, (k0_off4 v1) a + S1024x256.size a ≤ S8192x256.size a := fun v1 v3 k0_hw1 k0_h3 => k0_hw1.2.2.2.2.2 k0_h3

def k0_cond5 (i : grid0.Coords) : BitVec 1 :=
  let arg1 : BitVec 32 := BitVec.ofNat 32 (i 1).val
  let c35_i32 : BitVec 32 := 35#32
  let v16 : BitVec 1 := Scalar.cmpi .eq arg1 c35_i32
  let v17 : BitVec 32 := Scalar.extui v16
  let c0_i32_4 : BitVec 32 := 0#32
  let v18 : BitVec 1 := Scalar.cmpi .ne v17 c0_i32_4
  v18

def k0_cond4 (v1 : BitVec 32) : BitVec 1 :=
  let c7_i32 : BitVec 32 := 7#32
  let v13 : BitVec 1 := Scalar.cmpi .eq v1 c7_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_5 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S8x8192x256 : Shape := ⟨3, ![8, 8192, 256]⟩
abbrev S8x8192x128 : Shape := ⟨3, ![8, 8192, 128]⟩
abbrev S8192x1024 : Shape := ⟨2, ![8192, 1024]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x128, .f32⟩
  | .hbm, ⟨3, _⟩ => ⟨S8192x1024, .f32⟩
  | .hbm, ⟨4, _⟩ => ⟨S_, .f32⟩
  | .hbm, ⟨5, _⟩ => ⟨S8x8192x256, .f32⟩
  | .hbm, ⟨6, _⟩ => ⟨S8x8192x256, .f32⟩
  | .hbm, ⟨7, _⟩ => ⟨S8x8192x8192, .f32⟩
  | .hbm, ⟨8, _⟩ => ⟨S8192, .i32⟩
  | .hbm, ⟨9, _⟩ => ⟨S8192x1, .i32⟩
  | .hbm, ⟨10, _⟩ => ⟨S8192, .i32⟩
  | .hbm, ⟨11, _⟩ => ⟨S1x8192, .i32⟩
  | .hbm, ⟨12, _⟩ => ⟨S8192x8192, .i32⟩
  | .hbm, ⟨13, _⟩ => ⟨S8192x8192, .i32⟩
  | .hbm, ⟨14, _⟩ => ⟨S8192x8192, .i1⟩
  | .hbm, ⟨15, _⟩ => ⟨S1x8192x8192, .i1⟩
  | .hbm, ⟨16, _⟩ => ⟨S8x8192x8192, .i1⟩
  | .hbm, ⟨17, _⟩ => ⟨S_, .f32⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x128x8192, .f32⟩
  | .hbm, ⟨61, _⟩ => ⟨S8192x8x128, .f32⟩
  | .hbm, ⟨62, _⟩ => ⟨S8192x1024, .f32⟩
  | .hbm, ⟨63, _⟩ => ⟨S8192x8x128, .f32⟩
  | .hbm, ⟨64, _⟩ => ⟨S8x128x8192, .f32⟩
  | .hbm, ⟨65, _⟩ => ⟨S8x8192x8192, .f32⟩
  | .hbm, ⟨66, _⟩ => ⟨S8x128x8192, .f32⟩
  | .hbm, ⟨67, _⟩ => ⟨S8x8192x128, .f32⟩
  | .hbm, ⟨68, _⟩ => ⟨S8x8192x8192, .f32⟩
  | .hbm, ⟨69, _⟩ => ⟨S8x8192x8192, .f32⟩
  | .hbm, ⟨70, _⟩ => ⟨S8x8192x8192, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S8x8192x1, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x8192, .f32⟩
  | .hbm, ⟨80, _⟩ => ⟨S8x8192x8192, .f32⟩
  | .hbm, ⟨81, _⟩ => ⟨S8x8192x8192, .f32⟩
  | .hbm, ⟨82, _⟩ => ⟨S_, .f32⟩
  | .hbm, ⟨83, _⟩ => ⟨S8x8192x8192, .f32⟩
  | .hbm, ⟨84, _⟩ => ⟨S8x8192x8192, .f32⟩
  | .hbm, ⟨85, _⟩ => ⟨S8x8192x256, .f32⟩
  | .hbm, ⟨86, _⟩ => ⟨S8x8192x256, .f32⟩
  | .hbm, ⟨87, _⟩ => ⟨S8x8192x256, .bf16⟩
  | .hbm, ⟨88, _⟩ => ⟨S8x8192x256, .bf16⟩
  | .hbm, ⟨89, _⟩ => ⟨S8x8192x128, .bf16⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_13 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_14 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Kernel2.lean ====
abbrev S8x8192x256 : Shape := ⟨3, ![8, 8192, 256]⟩
abbrev S8x8192x128 : Shape := ⟨3, ![8, 8192, 128]⟩
abbrev S36 : Shape := ⟨1, ![36]⟩
abbrev S_ : Shape := ⟨0, ![]⟩
abbrev S8192x1024 : Shape := ⟨2, ![8192, 1024]⟩
abbrev S8x1x8192 : Shape := ⟨3, ![8, 1, 8192]⟩
abbrev S4x1024x256 : Shape := ⟨3, ![4, 1024, 256]⟩
abbrev S1 : Shape := ⟨1, ![1]⟩
abbrev S4x1024x128 : Shape := ⟨3, ![4, 1024, 128]⟩
abbrev S1024x512 : Shape := ⟨2, ![1024, 512]⟩
abbrev S4x1x1024 : Shape := ⟨3, ![4, 1, 1024]⟩
abbrev S1x1024x256 : Shape := ⟨3, ![1, 1024, 256]⟩
abbrev S1024x256 : Shape := ⟨2, ![1024, 256]⟩
abbrev S1024x1024 : Shape := ⟨2, ![1024, 1024]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S512x512 : Shape := ⟨2, ![512, 512]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x1024 : Shape := ⟨2, ![512, 1024]⟩
abbrev S128x1024 : Shape := ⟨2, ![128, 1024]⟩
abbrev S1x1024 : Shape := ⟨2, ![1, 1024]⟩
abbrev S1x1x1024 : Shape := ⟨3, ![1, 1, 1024]⟩

abbrev nBuf : Space → Nat
  | .hbm => 15
  | .vmem => 13
  | .smem => 2
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8x8192x256, .f32⟩
  | .hbm, ⟨7, _⟩ => ⟨S8x8192x256, .f32⟩
  | .hbm, ⟨8, _⟩ => ⟨S8x8192x256, .f32⟩
  | .hbm, ⟨9, _⟩ => ⟨S8x8192x256, .f32⟩
  | .hbm, ⟨10, _⟩ => ⟨S8x8192x256, .bf16⟩
  | .hbm, ⟨11, _⟩ => ⟨S8x8192x256, .bf16⟩
  | .hbm, ⟨12, _⟩ => ⟨S8x8192x128, .bf16⟩
  | .hbm, ⟨13, _⟩ => ⟨S8192x1024, .f32⟩
  | .hbm, ⟨14, _⟩ => ⟨S8x1x8192, .f32⟩
  | .local _ .vmem, ⟨0, _⟩ => ⟨S4x1024x256, .bf16⟩
  | .local _ .vmem, ⟨1, _⟩ => ⟨S4x1024x256, .bf16⟩
  | .local _ .vmem, ⟨2, _⟩ => ⟨S4x1024x256, .bf16⟩
  | .local _ .vmem, ⟨3, _⟩ => ⟨S4x1024x256, .bf16⟩
  | .local _ .vmem, ⟨4, _⟩ => ⟨S4x1024x128, .bf16⟩
  | .local _ .vmem, ⟨5, _⟩ => ⟨S4x1024x128, .bf16⟩
  | .local _ .vmem, ⟨6, _⟩ => ⟨S1024x512, .f32⟩
  | .local _ .vmem, ⟨7, _⟩ => ⟨S1024x512, .f32⟩
  | .local _ .vmem, ⟨8, _⟩ => ⟨S4x1x1024, .f32⟩
  | .local _ .vmem, ⟨9, _⟩ => ⟨S4x1x1024, .f32⟩
  | .local _ .vmem, ⟨10, _⟩ => ⟨S4x1024x128, .f32⟩
  | .local _ .vmem, ⟨11, _⟩ => ⟨S4x1024x128, .f32⟩
  | .local _ .vmem, ⟨12, _⟩ => ⟨S4x1024x128, .f32⟩
  | .local _ .smem, ⟨0, _⟩ => ⟨S36, .i32⟩
  | .local _ .smem, ⟨1, _⟩ => ⟨S36, .i32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond3 (v1 : BitVec 32) (v3 : BitVec 32) : BitVec 1 :=
  let v10 : BitVec 1 := Scalar.cmpi .eq v3 v1
  let v11 : BitVec 32 := Scalar.extui v10
  let c0_i32_2 : BitVec 32 := 0#32
  let v12 : BitVec 1 := Scalar.cmpi .ne v11 c0_i32_2
  v12

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  ![v1.toNat, arg0.toNat]

def cc0_transform_4 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, c0_i32.toNat, v1.toNat]

abbrev stage0_0 : Fin 2 → Memref sig .tc .vmem S4x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "mask" => some ⊥
  | "rln2" => some (((Real.log 2)⁻¹ : ℝ) : EReal)
  | _ => none
-- ==== Reference2Ideal.lean ====
abbrev S8x8192x256 : Shape := ⟨3, ![8, 8192, 256]⟩
abbrev S8x8192x128 : Shape := ⟨3, ![8, 8192, 128]⟩
abbrev S_ : Shape := ⟨0, ![]⟩
abbrev S8x8192x8192 : Shape := ⟨3, ![8, 8192, 8192]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1x8192x8192 : Shape := ⟨3, ![1, 8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8192x1024 : Shape := ⟨2, ![8192, 1024]⟩
abbrev S8x1x8192 : Shape := ⟨3, ![8, 1, 8192]⟩

abbrev nBuf : Space → Nat
  | .hbm => 67
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x8192x128, .f32⟩
  | .hbm, ⟨3, _⟩ => ⟨S_, .f32⟩
  | .hbm, ⟨4, _⟩ => ⟨S8x8192x256, .f32⟩
  | .hbm, ⟨5, _⟩ => ⟨S8x8192x256, .f32⟩
  | .hbm, ⟨6, _⟩ => ⟨S8x8192x8192, .f32⟩
  | .hbm, ⟨7, _⟩ => ⟨S8192, .i32⟩
  | .hbm, ⟨8, _⟩ => ⟨S8192x1, .i32⟩
  | .hbm, ⟨9, _⟩ => ⟨S8192, .i32⟩
  | .hbm, ⟨10, _⟩ => ⟨S1x8192, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S1x8192x8192, .i1⟩
  | .hbm, ⟨15, _⟩ => ⟨S8x8192x8192, .i1⟩
  | .hbm, ⟨16, _⟩ => ⟨S_, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192, .f32⟩
  | .hbm, ⟨21, _⟩ => ⟨S8x8192x1, .f32⟩
  | .hbm, ⟨22, _⟩ => ⟨S8x8192x8192, .f32⟩
  | .hbm, ⟨23, _⟩ => ⟨S8x8192x8192, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192, .f32⟩
  | .hbm, ⟨28, _⟩ => ⟨S8x8192, .f32⟩
  | .hbm, ⟨29, _⟩ => ⟨S_, .f32⟩
  | .hbm, ⟨30, _⟩ => ⟨S8x8192x256, .f32⟩
  | .hbm, ⟨31, _⟩ => ⟨S8x8192x256, .f32⟩
  | .hbm, ⟨32, _⟩ => ⟨S8x8192x8192, .f32⟩
  | .hbm, ⟨33, _⟩ => ⟨S8192, .i32⟩
  | .hbm, ⟨34, _⟩ => ⟨S8192x1, .i32⟩
  | .hbm, ⟨35, _⟩ => ⟨S8192, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S1x8192x8192, .i1⟩
  | .hbm, ⟨41, _⟩ => ⟨S8x8192x8192, .i1⟩
  | .hbm, ⟨42, _⟩ => ⟨S_, .f32⟩
  | .hbm, ⟨43, _⟩ => ⟨S8x8192x8192, .f32⟩
  | .hbm, ⟨44, _⟩ => ⟨S8x8192x8192, .f32⟩
  | .hbm, ⟨45, _⟩ => ⟨S_, .f32⟩
  | .hbm, ⟨46, _⟩ => ⟨S8x8192, .f32⟩
  | .hbm, ⟨47, _⟩ => ⟨S_, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x128x8192, .f32⟩
  | .hbm, ⟨60, _⟩ => ⟨S8192x8x128, .f32⟩
  | .hbm, ⟨61, _⟩ => ⟨S8192x1024, .f32⟩
  | .hbm, ⟨62, _⟩ => ⟨S_, .f32⟩
  | .hbm, ⟨63, _⟩ => ⟨S_, .f32⟩
  | .hbm, ⟨64, _⟩ => ⟨S8x8192, .f32⟩
  | .hbm, ⟨65, _⟩ => ⟨S8x8192, .f32⟩
  | .hbm, ⟨66, _⟩ => ⟨S8x1x8192, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== Proof.Tables.lean ====
/- The prefetched tables of the attention backward call: the block of rows of q and the block of rows of k that each of
   the 36 steps of a head works on, the pipeline at these tables, and what is decided about its grid. -/
module

public import proofs.«01_k».proof.Defs
public import proofs.«01_k».proof.Proof.Gen.KernelIdeal
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## The tables -/

/-- The tables and scratches the kernel is handed, whole. -/
abbrev tbM0 : Memref sig .tc .smem S36 .i32 := Memref.whole main_c
abbrev tbM1 : Memref sig .tc .smem S36 .i32 := Memref.whole main_c_0
abbrev scM0 : Memref sig .tc .vmem S1024x256 .f32 := Memref.whole cc0_scratch0
abbrev scM1 : Memref sig .tc .vmem S1024x128 .f32 := Memref.whole cc0_scratch1
abbrev scM2 : Memref sig .tc .vmem S8192x256 .f32 := Memref.whole cc0_scratch2

/-- The table of the rows of q, and the table of the rows of k. -/
def tbl0 : S36.Idx → BitVec 32 := fun i => lit0 (S36.rowMajor i)
def tbl1 : S36.Idx → BitVec 32 := fun i => lit1 (S36.rowMajor i)

set_option backward.proofsInPublic true in
/-- The contents of the two tables. -/
def pfN : pre0.Contents (Elt F) := fun | ⟨0, _⟩ => tbl0 | ⟨1, _⟩ => tbl1 | ⟨_ + 2, h⟩ => absurd h (by simp)

/-- The index a point of the grid reads its words at. -/
def tix (i : grid0.Coords) : S36.Idx :=
  (Rect.unit (s := S36) (k0_off1 i) S1.size (k0_off1_inb i)).emb (Shape.Idx.first (numel1_S1.symm ▸ Nat.one_pos))

/-- The block of q and the block of k of a point, as words. -/
def wq (i : grid0.Coords) : BitVec 32 := tbl0 (tix i)
def wk (i : grid0.Coords) : BitVec 32 := tbl1 (tix i)

theorem read_wq (i : grid0.Coords) : (View.readAt (Elt F) (tbM0).view (Rect.unit (s := S36) (k0_off1 i) S1.size (k0_off1_inb i)).toLoadRect tbl0 (Shape.Idx.first (numel1_S1.symm ▸ Nat.one_pos)) : BitVec 32) = wq i := rfl
theorem read_wk (i : grid0.Coords) : (View.readAt (Elt F) (tbM1).view (Rect.unit (s := S36) (k0_off1 i) S1.size (k0_off1_inb i)).toLoadRect tbl1 (Shape.Idx.first (numel1_S1.symm ▸ Nat.one_pos)) : BitVec 32) = wk i := rfl

theorem pf_at0 (i : grid0.Coords) : (pfN (F := F)).at 0 (Rect.unit (s := S36) ![(Scalar.indexCast (BitVec.ofNat 32 (i 1).val)).toNat] S1.size (k0_off1_inb i)) numel1_S1 = wq i := rfl
theorem pf_at1 (i : grid0.Coords) : (pfN (F := F)).at 1 (Rect.unit (s := S36) ![(Scalar.indexCast (BitVec.ofNat 32 (i 1).val)).toNat] S1.size (k0_off1_inb i)) numel1_S1 = wk i := rfl
theorem pf_atD0 (i : grid0.Coords) : (pfN (F := F)).atD 0 (k0_off1 i) = wq i := by
  have h : ∀ a : Fin 1, k0_off1 i a + 1 ≤ S36.size a := fun a => by
    have h1 : ∀ a, S1.size a = 1 := by decide
    have h := k0_off1_inb i a
    rw [h1] at h; exact h
  refine (dif_pos (c := ∀ a, k0_off1 i a + 1 ≤ (pre0.ref 0).ty.shape.size a) h).trans ?_
  show tbl0 _ = tbl0 _
  congr 1

theorem wq_le : ∀ i : grid0.Coords, (wq i).toNat ≤ 7 := by decide +kernel
theorem wk_le : ∀ i : grid0.Coords, (wk i).toNat ≤ 7 := by decide +kernel

/-! ## The blocks of a point -/

/-- The index maps: a block of rows of q, a block of rows of k, a block of rows of the output's gradient (the head's
    lanes), a block of the entries of a row of statistics. -/
def ixq3 (i : grid0.Coords) : Fin 3 → ℕ := ![(BitVec.ofNat 32 (i 0).val).toNat, (wq i).toNat, (0#32 : BitVec 32).toNat]
def ixk3 (i : grid0.Coords) : Fin 3 → ℕ := ![(BitVec.ofNat 32 (i 0).val).toNat, (wk i).toNat, (0#32 : BitVec 32).toNat]
def ixq2 (i : grid0.Coords) : Fin 2 → ℕ := ![(wq i).toNat, (BitVec.ofNat 32 (i 0).val).toNat]
def ixr3 (i : grid0.Coords) : Fin 3 → ℕ := ![(BitVec.ofNat 32 (i 0).val).toNat, (0#32 : BitVec 32).toNat, (wq i).toNat]

theorem tr0_eq (i : grid0.Coords) : cc0_transform_0 k0_off1_inb numel1_S1 (pfN (F := F)) i = ixq3 i := rfl
theorem tr1_eq (i : grid0.Coords) : cc0_transform_1 k0_off1_inb numel1_S1 (pfN (F := F)) i = ixk3 i := rfl
theorem tr2_eq (i : grid0.Coords) : cc0_transform_2 k0_off1_inb numel1_S1 (pfN (F := F)) i = ixk3 i := rfl
theorem tr3_eq (i : grid0.Coords) : cc0_transform_3 k0_off1_inb numel1_S1 (pfN (F := F)) i = ixq2 i := rfl
theorem tr4_eq (i : grid0.Coords) : cc0_transform_4 k0_off1_inb numel1_S1 (pfN (F := F)) i = ixr3 i := rfl
theorem tr5_eq (i : grid0.Coords) : cc0_transform_5 k0_off1_inb numel1_S1 (pfN (F := F)) i = ixr3 i := rfl
theorem tr7_eq (i : grid0.Coords) : cc0_transform_7 k0_off1_inb numel1_S1 (pfN (F := F)) i = ixk3 i := rfl
theorem tr8_eq (i : grid0.Coords) : cc0_transform_8 k0_off1_inb numel1_S1 (pfN (F := F)) i = ixk3 i := rfl

theorem inb0 : ∀ i : grid0.Coords, ∀ a, (ixq3 i a + 1) * S1x1024x256.size a ≤ S8x8192x256.size a := by decide +kernel
theorem inb1 : ∀ i : grid0.Coords, ∀ a, (ixk3 i a + 1) * S1x1024x256.size a ≤ S8x8192x256.size a := by decide +kernel
theorem inb2 : ∀ i : grid0.Coords, ∀ a, (ixk3 i a + 1) * S1x1024x128.size a ≤ S8x8192x128.size a := by decide +kernel
theorem inb3 : ∀ i : grid0.Coords, ∀ a, (ixq2 i a + 1) * S1024x128.size a ≤ S8192x1024.size a := by decide +kernel
theorem inb4 : ∀ i : grid0.Coords, ∀ a, (ixr3 i a + 1) * S1x1x1024.size a ≤ S8x1x8192.size a := by decide +kernel
theorem inb5 : ∀ i : grid0.Coords, ∀ a, (ixr3 i a + 1) * S1x1x1024.size a ≤ S8x1x8192.size a := by decide +kernel
theorem inb7 : ∀ i : grid0.Coords, ∀ a, (ixk3 i a + 1) * S1x1024x256.size a ≤ S8x8192x256.size a := by decide +kernel
theorem inb8 : ∀ i : grid0.Coords, ∀ a, (ixk3 i a + 1) * S1x1024x128.size a ≤ S8x8192x128.size a := by decide +kernel

/-- Every block lies inside its array, whole words. -/
theorem ok_pfN : ok0 (F := F) pfN := by
  refine ⟨fun i => ⟨inb0 i, .inr (Affine.block_words_dvd (s := S8x8192x256) (p := EltTy.packing .bf16) (by decide) (by decide))⟩, fun i => ⟨inb1 i, .inr (Affine.block_words_dvd (s := S8x8192x256) (p := EltTy.packing .bf16) (by decide) (by decide))⟩, fun i => ⟨inb2 i, .inr (Affine.block_words_dvd (s := S8x8192x128) (p := EltTy.packing .bf16) (by decide) (by decide))⟩, fun i => ⟨inb3 i, .inr (Affine.block_words_dvd (s := S8192x1024) (p := EltTy.packing .bf16) (by decide) (by decide))⟩, fun i => ⟨inb4 i, .inl rfl⟩, fun i => ⟨inb5 i, .inl rfl⟩, fun i => ⟨inb7 i, .inr (Affine.block_words_dvd (s := S8x8192x256) (p := EltTy.packing .bf16) (by decide) (by decide))⟩, fun i => ⟨inb8 i, .inr (Affine.block_words_dvd (s := S8x8192x128) (p := EltTy.packing .bf16) (by decide) (by decide))⟩⟩

/-- The tables as admissible contents, and the pipeline at them. -/
def adm : (pcfg0 (F := F)).Adm := ⟨pfN, ok_pfN⟩
abbrev cfgA : Pipeline.Cfg sig Λ₀ := cfg0 (F := F) adm
abbrev pcs : Fin 1 → Pipeline.Cfg sig Λ₀ := Pipeline.pin (pcfgs (F := F)) fun _ => adm

/-- A point's coordinates. -/
abbrev crd (t : Fin grid0.N) : grid0.Coords := grid0.coords t

/-! ## The control at a point -/

/-- The condition of the region that clears the sum for q. -/
abbrev cond1 (i : grid0.Coords) : BitVec 1 := Scalar.cmpi .ne (Scalar.extui (Scalar.cmpi .eq (BitVec.ofNat 32 (i 1).val) 0#32)) 0#32

theorem chk1 : ∀ i : grid0.Coords, k0_chk1 (wq i) (wk i) := by decide +kernel
/-- The first step of a head is on the diagonal, and stores no output; -/
theorem path_first : ∀ i : grid0.Coords, cond1 i = 1#1 → k0_cond2 (wq i) (wk i) = 1#1 ∧ ¬ k0_cond3 (wq i) (wk i) = 1#1 ∧ ¬ k0_cond4 (wq i) = 1#1 ∧ ¬ k0_cond5 i = 1#1 := by decide +kernel
/-- a step is on the diagonal or off it; -/
theorem cond3_iff : ∀ i : grid0.Coords, k0_cond3 (wq i) (wk i) = 1#1 ↔ ¬ k0_cond2 (wq i) (wk i) = 1#1 := by decide +kernel
/-- on the diagonal the last row of blocks is the last step; -/
theorem diag_last : ∀ i : grid0.Coords, k0_cond2 (wq i) (wk i) = 1#1 → (k0_cond5 i = 1#1 ↔ k0_cond4 (wq i) = 1#1) := by decide +kernel
/-- and off it the step is not the last. -/
theorem off_last : ∀ i : grid0.Coords, ¬ k0_cond2 (wq i) (wk i) = 1#1 → ¬ k0_cond5 i = 1#1 := by decide +kernel

theorem first0 : cond1 (crd ⟨0, by decide⟩) = 1#1 := by decide +kernel

/-! ## Where the outputs are written back -/

theorem fl6 : ∀ t : Fin grid0.N, (decide (t.val + 1 = grid0.N) || decide (∃ h : t.val + 1 < grid0.N, cc0_transform_6 (crd ⟨t.val + 1, h⟩) ≠ cc0_transform_6 (crd t))) = (k0_cond5 (crd t) == 1#1) := by decide +kernel
theorem flk : ∀ t : Fin grid0.N, (decide (t.val + 1 = grid0.N) || decide (∃ h : t.val + 1 < grid0.N, ixk3 (crd ⟨t.val + 1, h⟩) ≠ ixk3 (crd t))) = (k0_cond4 (wq (crd t)) == 1#1) := by decide +kernel

theorem flush6 (t : Fin grid0.N) : ((cfgA (F := F)).win (6 : Fin 9)).flush t = (k0_cond5 (crd t) == 1#1) := (Bool.true_and _).trans (fl6 t)
theorem flush7 (t : Fin grid0.N) : ((cfgA (F := F)).win (7 : Fin 9)).flush t = (k0_cond4 (wq (crd t)) == 1#1) := (Bool.true_and _).trans (flk t)
theorem flush8 (t : Fin grid0.N) : ((cfgA (F := F)).win (8 : Fin 9)).flush t = (k0_cond4 (wq (crd t)) == 1#1) := (Bool.true_and _).trans (flk t)
theorem idle6 (t : Fin grid0.N) : (cfgA (F := F)).idle (6 : Fin 9) (crd t) = !(k0_cond5 (crd t) == 1#1) := rfl
theorem idle7 (t : Fin grid0.N) : (cfgA (F := F)).idle (7 : Fin 9) (crd t) = !(k0_cond4 (wq (crd t)) == 1#1) := by
  rw [← pf_atD0 (F := F)]; rfl
theorem idle8 (t : Fin grid0.N) : (cfgA (F := F)).idle (8 : Fin 9) (crd t) = !(k0_cond4 (wq (crd t)) == 1#1) := by
  rw [← pf_atD0 (F := F)]; rfl

end Cert.KernelIdeal.Bwd

end
-- ==== Proof.Body.lean ====
/- The body of the attention backward call, path by path. -/
module

public import proofs.«01_k».proof.Defs
public import proofs.«01_k».proof.Proof.Tables
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

/-- The inputs at their blocks, and the body's halves of the tables. -/
def inps : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbM0.view.loc (c : Thread nD τ) ↦{fullShare.right} tbl0)
    ∗ (tbM1.view.loc (c : Thread nD τ) ↦{fullShare.right} tbl1))

/-- The outputs' staging buffers. -/
def outs (y6 : S1x8192x256.Idx → Elt F .bf16) (y7 : S1x1024x256.Idx → Elt F .bf16) (y8 : S1x1024x128.Idx → Elt F .bf16) : sProp 𝕄 :=
  iprop(owns (c : Thread nD τ) arg10 fullShare y6
    ∗ owns (c : Thread nD τ) arg11 fullShare y7
    ∗ owns (c : Thread nD τ) arg12 fullShare y8)

/-- The scratches. -/
def scrs (a0 : S1024x256.Idx → Elt F .f32) (a1 : S1024x128.Idx → Elt F .f32) (a2 : S8192x256.Idx → Elt F .f32) : sProp 𝕄 :=
  iprop((scM0.view.loc (c : Thread nD τ) ↦{fullShare} a0)
    ∗ (scM1.view.loc (c : Thread nD τ) ↦{fullShare} a1)
    ∗ (scM2.view.loc (c : Thread nD τ) ↦{fullShare} a2))

/-- The body on its staging memrefs. -/
abbrev body : Prog (TpuEff nD τ sig (Elt F) Λ₀ .tc) PUnit :=
  cc0_attn_bwd i tbM0 (Memref.isWhole_whole _) tbM1 (Memref.isWhole_whole _) arg4 harg4 arg5 harg5 arg6 harg6 arg7 harg7 arg8 harg8 arg9 harg9 arg10 harg10 arg11 harg11 arg12 harg12 scM0 (Memref.isWhole_whole _) scM1 (Memref.isWhole_whole _) scM2 (Memref.isWhole_whole _)

/-- What one grid point reads of its blocks: the whole blocks, and the halves the diagonal point takes apart. -/
structure Ld (F : FTy → Type) where
  q : Vec F S1x1024x256 .bf16
  k : Vec F S1x1024x256 .bf16
  v : Vec F S1x1024x128 .bf16
  dO : Vec F S1024x128 .bf16
  ls : Vec F S1x1x1024 .f32
  de : Vec F S1x1x1024 .f32
  qh : Vec F S1x512x256 .bf16
  kl : Vec F S1x512x256 .bf16
  kh : Vec F S1x512x256 .bf16
  vl : Vec F S1x512x128 .bf16
  vh : Vec F S1x512x128 .bf16
  dh : Vec F S512x128 .bf16

/-- The reads of a point whose blocks are `x0 … x5`. -/
def Ld.of : Ld F where
  q := x0
  k := x1
  v := x2
  dO := x3
  ls := x4
  de := x5
  qh := VecWindow.window x0 ![0, 512, 0] S1x512x256.size inb_S1x1024x256_S1x512x256_0_512_0
  kl := VecWindow.window x1 ![0, 0, 0] S1x512x256.size inb_S1x1024x256_S1x512x256_0_0_0
  kh := VecWindow.window x1 ![0, 512, 0] S1x512x256.size inb_S1x1024x256_S1x512x256_0_512_0
  vl := VecWindow.window x2 ![0, 0, 0] S1x512x128.size inb_S1x1024x128_S1x512x128_0_0_0
  vh := VecWindow.window x2 ![0, 512, 0] S1x512x128.size inb_S1x1024x128_S1x512x128_0_512_0
  dh := VecWindow.window x3 ![512, 0] S512x128.size inb_S1024x128_S512x128_512_0

/-- `L` is what the loads of the body read of the staging memrefs that hold the blocks. -/
structure Loads (L : Ld F) : Prop where
  q : View.readAt (Elt F) arg4.view (Rect.unit (s := S1x1024x256) ![0, 0, 0] S1x1024x256.size inb_S1x1024x256_S1x1024x256_0_0_0).toLoadRect (arg4.view.rep x0) = L.q
  k : View.readAt (Elt F) arg5.view (Rect.unit (s := S1x1024x256) ![0, 0, 0] S1x1024x256.size inb_S1x1024x256_S1x1024x256_0_0_0).toLoadRect (arg5.view.rep x1) = L.k
  v : View.readAt (Elt F) arg6.view (Rect.unit (s := S1x1024x128) ![0, 0, 0] S1x1024x128.size inb_S1x1024x128_S1x1024x128_0_0_0).toLoadRect (arg6.view.rep x2) = L.v
  dO : View.readAt (Elt F) arg7.view (Rect.unit (s := S1024x128) ![0, 0] S1024x128.size inb_S1024x128_S1024x128_0_0).toLoadRect (arg7.view.rep x3) = L.dO
  ls : View.readAt (Elt F) arg8.view (Rect.unit (s := S1x1x1024) ![0, 0, 0] S1x1x1024.size inb_S1x1x1024_S1x1x1024_0_0_0).toLoadRect (arg8.view.rep x4) = L.ls
  de : View.readAt (Elt F) arg9.view (Rect.unit (s := S1x1x1024) ![0, 0, 0] S1x1x1024.size inb_S1x1x1024_S1x1x1024_0_0_0).toLoadRect (arg9.view.rep x5) = L.de
  qh : View.readAt (Elt F) arg4.view (Rect.unit (s := S1x1024x256) ![0, 512, 0] S1x512x256.size inb_S1x1024x256_S1x512x256_0_512_0).toLoadRect (arg4.view.rep x0) = L.qh
  kl : View.readAt (Elt F) arg5.view (Rect.unit (s := S1x1024x256) ![0, 0, 0] S1x512x256.size inb_S1x1024x256_S1x512x256_0_0_0).toLoadRect (arg5.view.rep x1) = L.kl
  kh : View.readAt (Elt F) arg5.view (Rect.unit (s := S1x1024x256) ![0, 512, 0] S1x512x256.size inb_S1x1024x256_S1x512x256_0_512_0).toLoadRect (arg5.view.rep x1) = L.kh
  vl : View.readAt (Elt F) arg6.view (Rect.unit (s := S1x1024x128) ![0, 0, 0] S1x512x128.size inb_S1x1024x128_S1x512x128_0_0_0).toLoadRect (arg6.view.rep x2) = L.vl
  vh : View.readAt (Elt F) arg6.view (Rect.unit (s := S1x1024x128) ![0, 512, 0] S1x512x128.size inb_S1x1024x128_S1x512x128_0_512_0).toLoadRect (arg6.view.rep x2) = L.vh
  dh : View.readAt (Elt F) arg7.view (Rect.unit (s := S1024x128) ![512, 0] S512x128.size inb_S1024x128_S512x128_512_0).toLoadRect (arg7.view.rep x3) = L.dh

theorem loads_of : Loads arg4 arg5 arg6 arg7 arg8 arg9 x0 x1 x2 x3 x4 x5 (Ld.of x0 x1 x2 x3 x4 x5) where
  q := View.readAt_rep_full _ _ _
  k := View.readAt_rep_full _ _ _
  v := View.readAt_rep_full _ _ _
  dO := View.readAt_rep_full _ _ _
  ls := View.readAt_rep_full _ _ _
  de := View.readAt_rep_full _ _ _
  qh := View.readAt_rep_unit _ _ _ rfl _
  kl := View.readAt_rep_unit _ _ _ rfl _
  kh := View.readAt_rep_unit _ _ _ rfl _
  vl := View.readAt_rep_unit _ _ _ rfl _
  vh := View.readAt_rep_unit _ _ _ rfl _
  dh := View.readAt_rep_unit _ _ _ rfl _

/-- The rows of `dk` a diagonal point stores: both halves. -/
def dkD (L : Ld F) : S1024x256.Idx → Elt F .f32 :=
  scM0.view.writes (Elt F) scM0.view.junk
    [⟨Rect.unit (s := S1024x256) ![512, 0] S512x256.size inb_S1024x256_S512x256_512_0, k0_pay5 (k0_pay23 L.qh) (k0_pay24 L.dh) (k0_pay26 L.vh) (k0_pay27 L.qh L.kh) L.ls L.de⟩,
     ⟨Rect.unit (s := S1024x256) ![0, 0] S512x256.size inb_S1024x256_S512x256_0_0, k0_pay21 (k0_pay19 L.q L.dO L.kl L.vl L.ls L.de)⟩]

/-- The rows of `dv` a diagonal point stores: both halves. -/
def dvD (L : Ld F) : S1024x128.Idx → Elt F .f32 :=
  scM1.view.writes (Elt F) scM1.view.junk
    [⟨Rect.unit (s := S1024x128) ![512, 0] S512x128.size inb_S1024x128_S512x128_512_0, k0_pay6 (k0_pay24 L.dh) (k0_pay27 L.qh L.kh) L.ls⟩,
     ⟨Rect.unit (s := S1024x128) ![0, 0] S512x128.size inb_S1024x128_S512x128_0_0, k0_pay22 (k0_pay17 L.q L.dO L.kl L.ls)⟩]

/-- The stores to `dq` of a diagonal point, after the stores `L0`: the first of its two updates. -/
def dqD1 (h2 : k0_cond2 (wq i) (wk i) = 1#1) (L : Ld F) (a : S8192x256.Idx → Elt F .f32) (L0 : List (View.Piece (Elt F) S8192x256 .f32)) : List (View.Piece (Elt F) S8192x256 .f32) :=
  ⟨Rect.unit (s := S8192x256) (k0_off2 (wq i)) S1024x256.size (k0_off2_inb (wq i) (wk i) (chk1 i) h2),
      k0_pay20 (k0_pay15 L.kl) (k0_pay18 L.q L.dO L.kl L.vl L.ls L.de)
        (View.readAt (Elt F) scM2.view (Rect.unit (s := S8192x256) (k0_off2 (wq i)) S1024x256.size (k0_off2_inb (wq i) (wk i) (chk1 i) h2)).toLoadRect (scM2.view.writes (Elt F) a L0))⟩ :: L0

/-- The stores to `dq` of a diagonal point: both updates. -/
def dqD2 (h2 : k0_cond2 (wq i) (wk i) = 1#1) (L : Ld F) (a : S8192x256.Idx → Elt F .f32) (L0 : List (View.Piece (Elt F) S8192x256 .f32)) : List (View.Piece (Elt F) S8192x256 .f32) :=
  ⟨Rect.unit (s := S8192x256) (k0_off3 (wq i)) S512x256.size (k0_off3_inb (wq i) (wk i) (chk1 i) h2),
      k0_pay4 (k0_pay24 L.dh) (k0_pay25 L.kh) (k0_pay26 L.vh) (k0_pay27 L.qh L.kh) L.ls L.de
        (View.readAt (Elt F) scM2.view (Rect.unit (s := S8192x256) (k0_off3 (wq i)) S512x256.size (k0_off3_inb (wq i) (wk i) (chk1 i) h2)).toLoadRect (scM2.view.writes (Elt F) a (dqD1 i h2 L a L0)))⟩ :: dqD1 i h2 L a L0

/-- `dq` after a diagonal point that is not the first of its head. -/
def dqD (h2 : k0_cond2 (wq i) (wk i) = 1#1) (L : Ld F) (a : S8192x256.Idx → Elt F .f32) : S8192x256.Idx → Elt F .f32 :=
  scM2.view.writes (Elt F) a (dqD2 i h2 L a [])

/-- `dq` after the first point of a head, which sets it to zero first. -/
def dqZ (h2 : k0_cond2 (wq i) (wk i) = 1#1) (L : Ld F) : S8192x256.Idx → Elt F .f32 :=
  scM2.view.writes (Elt F) scM2.view.junk (dqD2 i h2 L scM2.view.junk
    [⟨Rect.unit (s := S8192x256) ![0, 0] S8192x256.size inb_S8192x256_S8192x256_0_0, k0_pay1 (F := F)⟩])

/-- `dk` after a point off the diagonal. -/
def dkO (L : Ld F) (a : S1024x256.Idx → Elt F .f32) : S1024x256.Idx → Elt F .f32 :=
  scM0.view.writes (Elt F) scM0.view.junk
    [⟨Rect.unit (s := S1024x256) ![0, 0] S1024x256.size inb_S1024x256_S1024x256_0_0,
      k0_pay8 (k0_pay34 L.q L.dO L.k L.v L.ls L.de) (View.readAt (Elt F) scM0.view (Rect.unit (s := S1024x256) ![0, 0] S1024x256.size inb_S1024x256_S1024x256_0_0).toLoadRect a)⟩]

/-- `dv` after a point off the diagonal. -/
def dvO (L : Ld F) (a : S1024x128.Idx → Elt F .f32) : S1024x128.Idx → Elt F .f32 :=
  scM1.view.writes (Elt F) scM1.view.junk
    [⟨Rect.unit (s := S1024x128) ![0, 0] S1024x128.size inb_S1024x128_S1024x128_0_0,
      k0_pay9 (k0_pay32 L.q L.dO L.k L.ls) (View.readAt (Elt F) scM1.view (Rect.unit (s := S1024x128) ![0, 0] S1024x128.size inb_S1024x128_S1024x128_0_0).toLoadRect a)⟩]

/-- `dq` after a point off the diagonal. -/
def dqO (h3 : k0_cond3 (wq i) (wk i) = 1#1) (L : Ld F) (a : S8192x256.Idx → Elt F .f32) : S8192x256.Idx → Elt F .f32 :=
  scM2.view.writes (Elt F) a
    [⟨Rect.unit (s := S8192x256) (k0_off4 (wq i)) S1024x256.size (k0_off4_inb (wq i) (wk i) (chk1 i) h3),
      k0_pay7 (k0_pay35 L.q L.dO L.k L.v L.ls L.de
        (View.readAt (Elt F) scM2.view (Rect.unit (s := S8192x256) (k0_off4 (wq i)) S1024x256.size (k0_off4_inb (wq i) (wk i) (chk1 i) h3)).toLoadRect a))⟩]

/-- A load of the whole of a scratch reads its contents. -/
theorem rd0 (a : S1024x256.Idx → Elt F .f32) :
    View.readAt (Elt F) scM0.view (Rect.unit (s := S1024x256) ![0, 0] S1024x256.size inb_S1024x256_S1024x256_0_0).toLoadRect a = a :=
  View.readAt_full _ _ _

theorem rd1 (a : S1024x128.Idx → Elt F .f32) :
    View.readAt (Elt F) scM1.view (Rect.unit (s := S1024x128) ![0, 0] S1024x128.size inb_S1024x128_S1024x128_0_0).toLoadRect a = a :=
  View.readAt_full _ _ _

theorem rd2 (a : S8192x256.Idx → Elt F .f32) :
    View.readAt (Elt F) scM2.view (Rect.unit (s := S8192x256) ![0, 0] S8192x256.size inb_S8192x256_S8192x256_0_0).toLoadRect a = a :=
  View.readAt_full _ _ _

/-- The same of a load after stores that cover the scratch. -/
theorem rc0 (L : List (View.Piece (Elt F) S1024x256 .f32)) :
    scM0.view.readCov L (Rect.unit (s := S1024x256) ![0, 0] S1024x256.size inb_S1024x256_S1024x256_0_0).toLoadRect = scM0.view.writes (Elt F) scM0.view.junk L :=
  rd0 _

theorem rc1 (L : List (View.Piece (Elt F) S1024x128 .f32)) :
    scM1.view.readCov L (Rect.unit (s := S1024x128) ![0, 0] S1024x128.size inb_S1024x128_S1024x128_0_0).toLoadRect = scM1.view.writes (Elt F) scM1.view.junk L :=
  rd1 _
end Cert.KernelIdeal.Bwd

end
-- ==== Proof.RunA.lean ====
/- The body of the attention backward call, path by path. -/
module

public import proofs.«01_k».proof.Defs
public import proofs.«01_k».proof.Proof.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

set_option backward.proofsInPublic true in
set_option maxHeartbeats 8000000 in
/-- The first point of a head: `dq` is set to zero and the first diagonal block is taken. -/
theorem runA (k0_h1 : cond1 i = 1#1) (k0_h2 : k0_cond2 (wq i) (wk i) = 1#1) (k0_h3 : ¬ k0_cond3 (wq i) (wk i) = 1#1) (k0_h4 : ¬ k0_cond4 (wq i) = 1#1) (k0_h5 : ¬ k0_cond5 i = 1#1) (L : Ld F) (hL : Loads arg4 arg5 arg6 arg7 arg8 arg9 x0 x1 x2 x3 x4 x5 L)
    (y6 : S1x8192x256.Idx → Elt F .bf16) (y7 : S1x1024x256.Idx → Elt F .bf16) (y8 : S1x1024x128.Idx → Elt F .bf16)
    (a0 : S1024x256.Idx → Elt F .f32) (a1 : S1024x128.Idx → Elt F .f32) (a2 : S8192x256.Idx → Elt F .f32) (K : PUnit → sProp 𝕄) :
    iprop(inps c arg4 arg5 arg6 arg7 arg8 arg9 x0 x1 x2 x3 x4 x5 ∗ outs c arg10 arg11 arg12 y6 y7 y8 ∗ scrs c a0 a1 a2
      ∗ (iprop(inps c arg4 arg5 arg6 arg7 arg8 arg9 x0 x1 x2 x3 x4 x5 ∗ outs c arg10 arg11 arg12 y6 y7 y8 ∗ scrs c (dkD L) (dvD L) (dqZ i k0_h2 L)) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12) K := by
  have k0_hw1 := chk1 i
  obtain ⟨q, k, v, dO, ls, de, qh, kl, kh, vl, vh, dh⟩ := L
  obtain ⟨rfl, rfl, rfl, rfl, rfl, rfl, rfl, rfl, rfl, rfl, rfl, rfl⟩ := hL
  unfold inps outs scrs owns body
  rw [cc0_attn_bwd_eq_skeleton]; unfold cc0_attn_bwd_skel
  iintro ⟨⟨H0, H1, H2, H3, H4, H5, HT0, HT1⟩, ⟨⟨%f6, %hf6, HO6⟩, ⟨%f7, %hf7, HO7⟩, ⟨%f8, %hf8, HO8⟩⟩, ⟨HS0, HS1, HS2⟩, Hk⟩
  obtain rfl := harg10.eq_unread hf6; obtain rfl := harg11.eq_unread hf7; obtain rfl := harg12.eq_unread hf8
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = k0_chk1 _ _; exact k0_hw1) | (guard_target = Scalar.cmpi .ne _ _ = _; exact k0_h1) | (guard_target = k0_cond2 _ _ = _; exact k0_h2) | (guard_target = ¬(k0_cond3 _ _ = _); exact k0_h3) | (guard_target = ¬(k0_cond4 _ = _); exact k0_h4) | (guard_target = ¬(k0_cond5 _ = _); exact k0_h5))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6 HO7 HO8]
  · isplitl [HO6]
    · iexists _; isplitr; rotate_left
      · iexact HO6
      · ipureintro; exact harg10.read_unread _
    isplitl [HO7]
    · iexists _; isplitr; rotate_left
      · iexact HO7
      · ipureintro; exact harg11.read_unread _
    · iexists _; isplitr; rotate_left
      · iexact HO8
      · ipureintro; exact harg12.read_unread _
  isplitl [HS0]; · iexact HS0
  isplitl [HS1]; · iexact HS1
  iexact HS2

end Cert.KernelIdeal.Bwd

end
-- ==== Proof.RunB.lean ====
/- The body of the attention backward call, path by path. -/
module

public import proofs.«01_k».proof.Defs
public import proofs.«01_k».proof.Proof.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

set_option backward.proofsInPublic true in
set_option maxHeartbeats 8000000 in
/-- A point off the diagonal that is not the last of its column. -/
theorem runB (k0_h1 : ¬ cond1 i = 1#1) (k0_h2 : ¬ k0_cond2 (wq i) (wk i) = 1#1) (k0_h3 : k0_cond3 (wq i) (wk i) = 1#1) (k0_h4 : ¬ k0_cond4 (wq i) = 1#1) (k0_h5 : ¬ k0_cond5 i = 1#1) (L : Ld F) (hL : Loads arg4 arg5 arg6 arg7 arg8 arg9 x0 x1 x2 x3 x4 x5 L)
    (y6 : S1x8192x256.Idx → Elt F .bf16) (y7 : S1x1024x256.Idx → Elt F .bf16) (y8 : S1x1024x128.Idx → Elt F .bf16)
    (a0 : S1024x256.Idx → Elt F .f32) (a1 : S1024x128.Idx → Elt F .f32) (a2 : S8192x256.Idx → Elt F .f32) (K : PUnit → sProp 𝕄) :
    iprop(inps c arg4 arg5 arg6 arg7 arg8 arg9 x0 x1 x2 x3 x4 x5 ∗ outs c arg10 arg11 arg12 y6 y7 y8 ∗ scrs c a0 a1 a2
      ∗ (iprop(inps c arg4 arg5 arg6 arg7 arg8 arg9 x0 x1 x2 x3 x4 x5 ∗ outs c arg10 arg11 arg12 y6 y7 y8 ∗ scrs c (dkO L a0) (dvO L a1) (dqO i k0_h3 L a2)) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12) K := by
  have k0_hw1 := chk1 i
  obtain ⟨q, k, v, dO, ls, de, qh, kl, kh, vl, vh, dh⟩ := L
  obtain ⟨rfl, rfl, rfl, rfl, rfl, rfl, rfl, rfl, rfl, rfl, rfl, rfl⟩ := hL
  unfold inps outs scrs owns body
  rw [cc0_attn_bwd_eq_skeleton]; unfold cc0_attn_bwd_skel
  iintro ⟨⟨H0, H1, H2, H3, H4, H5, HT0, HT1⟩, ⟨⟨%f6, %hf6, HO6⟩, ⟨%f7, %hf7, HO7⟩, ⟨%f8, %hf8, HO8⟩⟩, ⟨HS0, HS1, HS2⟩, Hk⟩
  obtain rfl := harg10.eq_unread hf6; obtain rfl := harg11.eq_unread hf7; obtain rfl := harg12.eq_unread hf8
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = k0_chk1 _ _; exact k0_hw1) | (guard_target = ¬(Scalar.cmpi .ne _ _ = _); exact k0_h1) | (guard_target = ¬(k0_cond2 _ _ = _); exact k0_h2) | (guard_target = k0_cond3 _ _ = _; exact k0_h3) | (guard_target = ¬(k0_cond4 _ = _); exact k0_h4) | (guard_target = ¬(k0_cond5 _ = _); exact k0_h5))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6 HO7 HO8]
  · isplitl [HO6]
    · iexists _; isplitr; rotate_left
      · iexact HO6
      · ipureintro; exact harg10.read_unread _
    isplitl [HO7]
    · iexists _; isplitr; rotate_left
      · iexact HO7
      · ipureintro; exact harg11.read_unread _
    · iexists _; isplitr; rotate_left
      · iexact HO8
      · ipureintro; exact harg12.read_unread _
  isplitl [HS0]; · iexact HS0
  isplitl [HS1]; · iexact HS1
  iexact HS2

end Cert.KernelIdeal.Bwd

end
-- ==== Proof.RunC.lean ====
/- The body of the attention backward call, path by path. -/
module

public import proofs.«01_k».proof.Defs
public import proofs.«01_k».proof.Proof.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

set_option backward.proofsInPublic true in
set_option maxHeartbeats 8000000 in
/-- The last point of a column off the diagonal: `dk` and `dv` are stored. -/
theorem runC (k0_h1 : ¬ cond1 i = 1#1) (k0_h2 : ¬ k0_cond2 (wq i) (wk i) = 1#1) (k0_h3 : k0_cond3 (wq i) (wk i) = 1#1) (k0_h4 : k0_cond4 (wq i) = 1#1) (k0_h5 : ¬ k0_cond5 i = 1#1) (L : Ld F) (hL : Loads arg4 arg5 arg6 arg7 arg8 arg9 x0 x1 x2 x3 x4 x5 L)
    (y6 : S1x8192x256.Idx → Elt F .bf16) (y7 : S1x1024x256.Idx → Elt F .bf16) (y8 : S1x1024x128.Idx → Elt F .bf16)
    (a0 : S1024x256.Idx → Elt F .f32) (a1 : S1024x128.Idx → Elt F .f32) (a2 : S8192x256.Idx → Elt F .f32) (K : PUnit → sProp 𝕄) :
    iprop(inps c arg4 arg5 arg6 arg7 arg8 arg9 x0 x1 x2 x3 x4 x5 ∗ outs c arg10 arg11 arg12 y6 y7 y8 ∗ scrs c a0 a1 a2
      ∗ (iprop(inps c arg4 arg5 arg6 arg7 arg8 arg9 x0 x1 x2 x3 x4 x5 ∗ outs c arg10 arg11 arg12 y6 (k0_pay10 (dkO L a0)) (k0_pay11 (dvO L a1)) ∗ scrs c (dkO L a0) (dvO L a1) (dqO i k0_h3 L a2)) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12) K := by
  have k0_hw1 := chk1 i
  obtain ⟨q, k, v, dO, ls, de, qh, kl, kh, vl, vh, dh⟩ := L
  obtain ⟨rfl, rfl, rfl, rfl, rfl, rfl, rfl, rfl, rfl, rfl, rfl, rfl⟩ := hL
  unfold inps outs scrs owns body
  rw [cc0_attn_bwd_eq_skeleton]; unfold cc0_attn_bwd_skel
  iintro ⟨⟨H0, H1, H2, H3, H4, H5, HT0, HT1⟩, ⟨⟨%f6, %hf6, HO6⟩, ⟨%f7, %hf7, HO7⟩, ⟨%f8, %hf8, HO8⟩⟩, ⟨HS0, HS1, HS2⟩, Hk⟩
  obtain rfl := harg10.eq_unread hf6; obtain rfl := harg11.eq_unread hf7; obtain rfl := harg12.eq_unread hf8
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = k0_chk1 _ _; exact k0_hw1) | (guard_target = ¬(Scalar.cmpi .ne _ _ = _); exact k0_h1) | (guard_target = ¬(k0_cond2 _ _ = _); exact k0_h2) | (guard_target = k0_cond3 _ _ = _; exact k0_h3) | (guard_target = k0_cond4 _ = _; exact k0_h4) | (guard_target = ¬(k0_cond5 _ = _); exact k0_h5))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6 HO7 HO8]
  · isplitl [HO6]
    · iexists _; isplitr; rotate_left
      · iexact HO6
      · ipureintro; exact harg10.read_unread _
    isplitl [HO7]
    · iexists _; isplitr; rotate_left
      · iexact HO7
      · ipureintro; exact ((View.read_writes_full _ _ _ _ _).trans (congrArg k0_pay10 ((rc0 _).trans rfl)))
    · iexists _; isplitr; rotate_left
      · iexact HO8
      · ipureintro; exact ((View.read_writes_full _ _ _ _ _).trans (congrArg k0_pay11 ((rc1 _).trans rfl)))
  isplitl [HS0]; · iexact HS0
  isplitl [HS1]; · iexact HS1
  iexact HS2

end Cert.KernelIdeal.Bwd

end
-- ==== Proof.RunD.lean ====
/- The body of the attention backward call, path by path. -/
module

public import proofs.«01_k».proof.Defs
public import proofs.«01_k».proof.Proof.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

set_option backward.proofsInPublic true in
set_option maxHeartbeats 8000000 in
/-- A diagonal point that is neither the first nor the last of its head. -/
theorem runD (k0_h1 : ¬ cond1 i = 1#1) (k0_h2 : k0_cond2 (wq i) (wk i) = 1#1) (k0_h3 : ¬ k0_cond3 (wq i) (wk i) = 1#1) (k0_h4 : ¬ k0_cond4 (wq i) = 1#1) (k0_h5 : ¬ k0_cond5 i = 1#1) (L : Ld F) (hL : Loads arg4 arg5 arg6 arg7 arg8 arg9 x0 x1 x2 x3 x4 x5 L)
    (y6 : S1x8192x256.Idx → Elt F .bf16) (y7 : S1x1024x256.Idx → Elt F .bf16) (y8 : S1x1024x128.Idx → Elt F .bf16)
    (a0 : S1024x256.Idx → Elt F .f32) (a1 : S1024x128.Idx → Elt F .f32) (a2 : S8192x256.Idx → Elt F .f32) (K : PUnit → sProp 𝕄) :
    iprop(inps c arg4 arg5 arg6 arg7 arg8 arg9 x0 x1 x2 x3 x4 x5 ∗ outs c arg10 arg11 arg12 y6 y7 y8 ∗ scrs c a0 a1 a2
      ∗ (iprop(inps c arg4 arg5 arg6 arg7 arg8 arg9 x0 x1 x2 x3 x4 x5 ∗ outs c arg10 arg11 arg12 y6 y7 y8 ∗ scrs c (dkD L) (dvD L) (dqD i k0_h2 L a2)) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12) K := by
  have k0_hw1 := chk1 i
  obtain ⟨q, k, v, dO, ls, de, qh, kl, kh, vl, vh, dh⟩ := L
  obtain ⟨rfl, rfl, rfl, rfl, rfl, rfl, rfl, rfl, rfl, rfl, rfl, rfl⟩ := hL
  unfold inps outs scrs owns body
  rw [cc0_attn_bwd_eq_skeleton]; unfold cc0_attn_bwd_skel
  iintro ⟨⟨H0, H1, H2, H3, H4, H5, HT0, HT1⟩, ⟨⟨%f6, %hf6, HO6⟩, ⟨%f7, %hf7, HO7⟩, ⟨%f8, %hf8, HO8⟩⟩, ⟨HS0, HS1, HS2⟩, Hk⟩
  obtain rfl := harg10.eq_unread hf6; obtain rfl := harg11.eq_unread hf7; obtain rfl := harg12.eq_unread hf8
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = k0_chk1 _ _; exact k0_hw1) | (guard_target = ¬(Scalar.cmpi .ne _ _ = _); exact k0_h1) | (guard_target = k0_cond2 _ _ = _; exact k0_h2) | (guard_target = ¬(k0_cond3 _ _ = _); exact k0_h3) | (guard_target = ¬(k0_cond4 _ = _); exact k0_h4) | (guard_target = ¬(k0_cond5 _ = _); exact k0_h5))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6 HO7 HO8]
  · isplitl [HO6]
    · iexists _; isplitr; rotate_left
      · iexact HO6
      · ipureintro; exact harg10.read_unread _
    isplitl [HO7]
    · iexists _; isplitr; rotate_left
      · iexact HO7
      · ipureintro; exact harg11.read_unread _
    · iexists _; isplitr; rotate_left
      · iexact HO8
      · ipureintro; exact harg12.read_unread _
  isplitl [HS0]; · iexact HS0
  isplitl [HS1]; · iexact HS1
  iexact HS2

end Cert.KernelIdeal.Bwd

end
-- ==== Proof.RunE.lean ====
/- The body of the attention backward call, path by path. -/
module

public import proofs.«01_k».proof.Defs
public import proofs.«01_k».proof.Proof.Body
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S1x1024x256 .bf16) (harg4 : arg4.IsWhole) (arg5 : Memref sig .tc .vmem S1x1024x256 .bf16) (harg5 : arg5.IsWhole) (arg6 : Memref sig .tc .vmem S1x1024x128 .bf16) (harg6 : arg6.IsWhole) (arg7 : Memref sig .tc .vmem S1024x128 .bf16) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x8192x256 .bf16) (harg10 : arg10.IsWhole) (arg11 : Memref sig .tc .vmem S1x1024x256 .bf16) (harg11 : arg11.IsWhole) (arg12 : Memref sig .tc .vmem S1x1024x128 .bf16) (harg12 : arg12.IsWhole)
  (x0 x1 : S1x1024x256.Idx → Elt F .bf16) (x2 : S1x1024x128.Idx → Elt F .bf16) (x3 : S1024x128.Idx → Elt F .bf16) (x4 x5 : S1x1x1024.Idx → Elt F .f32)

set_option backward.proofsInPublic true in
set_option maxHeartbeats 8000000 in
/-- The last point of a head: the three results are stored. -/
theorem runE (k0_h1 : ¬ cond1 i = 1#1) (k0_h2 : k0_cond2 (wq i) (wk i) = 1#1) (k0_h3 : ¬ k0_cond3 (wq i) (wk i) = 1#1) (k0_h4 : k0_cond4 (wq i) = 1#1) (k0_h5 : k0_cond5 i = 1#1) (L : Ld F) (hL : Loads arg4 arg5 arg6 arg7 arg8 arg9 x0 x1 x2 x3 x4 x5 L)
    (y6 : S1x8192x256.Idx → Elt F .bf16) (y7 : S1x1024x256.Idx → Elt F .bf16) (y8 : S1x1024x128.Idx → Elt F .bf16)
    (a0 : S1024x256.Idx → Elt F .f32) (a1 : S1024x128.Idx → Elt F .f32) (a2 : S8192x256.Idx → Elt F .f32) (K : PUnit → sProp 𝕄) :
    iprop(inps c arg4 arg5 arg6 arg7 arg8 arg9 x0 x1 x2 x3 x4 x5 ∗ outs c arg10 arg11 arg12 y6 y7 y8 ∗ scrs c a0 a1 a2
      ∗ (iprop(inps c arg4 arg5 arg6 arg7 arg8 arg9 x0 x1 x2 x3 x4 x5 ∗ outs c arg10 arg11 arg12 (k0_pay12 (dqD i k0_h2 L a2)) (k0_pay10 (dkD L)) (k0_pay11 (dvD L)) ∗ scrs c (dkD L) (dvD L) (dqD i k0_h2 L a2)) -∗ K ⟨⟩))
      ⊢ wp frame (wpE (defs₀ (F := F)) Variants.none c none) Set.univ (body i arg4 harg4 arg5 harg5 arg6 harg6 arg7 harg7 arg8 harg8 arg9 harg9 arg10 harg10 arg11 harg11 arg12 harg12) K := by
  have k0_hw1 := chk1 i
  obtain ⟨q, k, v, dO, ls, de, qh, kl, kh, vl, vh, dh⟩ := L
  obtain ⟨rfl, rfl, rfl, rfl, rfl, rfl, rfl, rfl, rfl, rfl, rfl, rfl⟩ := hL
  unfold inps outs scrs owns body
  rw [cc0_attn_bwd_eq_skeleton]; unfold cc0_attn_bwd_skel
  iintro ⟨⟨H0, H1, H2, H3, H4, H5, HT0, HT1⟩, ⟨⟨%f6, %hf6, HO6⟩, ⟨%f7, %hf7, HO7⟩, ⟨%f8, %hf8, HO8⟩⟩, ⟨HS0, HS1, HS2⟩, Hk⟩
  obtain rfl := harg10.eq_unread hf6; obtain rfl := harg11.eq_unread hf7; obtain rfl := harg12.eq_unread hf8
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  sl_exec! (disch := first | (guard_target = k0_chk1 _ _; exact k0_hw1) | (guard_target = ¬(Scalar.cmpi .ne _ _ = _); exact k0_h1) | (guard_target = k0_cond2 _ _ = _; exact k0_h2) | (guard_target = ¬(k0_cond3 _ _ = _); exact k0_h3) | (guard_target = k0_cond4 _ = _; exact k0_h4) | (guard_target = k0_cond5 _ = _; exact k0_h5))
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HO6 HO7 HO8]
  · isplitl [HO6]
    · iexists _; isplitr; rotate_left
      · iexact HO6
      · ipureintro; exact (View.read_writes_full _ _ _ _ _).trans (congrArg k0_pay12 ((rd2 _).trans rfl))
    isplitl [HO7]
    · iexists _; isplitr; rotate_left
      · iexact HO7
      · ipureintro; exact ((View.read_writes_full _ _ _ _ _).trans (congrArg k0_pay10 ((rc0 _).trans rfl)))
    · iexists _; isplitr; rotate_left
      · iexact HO8
      · ipureintro; exact ((View.read_writes_full _ _ _ _ _).trans (congrArg k0_pay11 ((rc1 _).trans rfl)))
  isplitl [HS0]; · iexact HS0
  isplitl [HS1]; · iexact HS1
  iexact HS2

end Cert.KernelIdeal.Bwd

end
-- ==== Proof.State.lean ====
/- The body of the attention backward call, path by path. -/
module

public import proofs.«01_k».proof.Defs
public import proofs.«01_k».proof.Proof.Body
public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-! ## A point's staging memrefs and blocks -/

abbrev ms0 (t : Fin grid0.N) : Memref sig .tc .vmem S1x1024x256 .bf16 := spec0_0.stage ((cfgA (F := F)).slots t (0 : Fin 9))
abbrev hs0 (t : Fin grid0.N) : (ms0 (F := F) t).IsWhole := hstage0_0 (((cfgA (F := F)).slots t (0 : Fin 9)).cast nbuf0_0)
abbrev ms1 (t : Fin grid0.N) : Memref sig .tc .vmem S1x1024x256 .bf16 := spec0_1.stage ((cfgA (F := F)).slots t (1 : Fin 9))
abbrev hs1 (t : Fin grid0.N) : (ms1 (F := F) t).IsWhole := hstage0_1 (((cfgA (F := F)).slots t (1 : Fin 9)).cast nbuf0_1)
abbrev ms2 (t : Fin grid0.N) : Memref sig .tc .vmem S1x1024x128 .bf16 := spec0_2.stage ((cfgA (F := F)).slots t (2 : Fin 9))
abbrev hs2 (t : Fin grid0.N) : (ms2 (F := F) t).IsWhole := hstage0_2 (((cfgA (F := F)).slots t (2 : Fin 9)).cast nbuf0_2)
abbrev ms3 (t : Fin grid0.N) : Memref sig .tc .vmem S1024x128 .bf16 := spec0_3.stage ((cfgA (F := F)).slots t (3 : Fin 9))
abbrev hs3 (t : Fin grid0.N) : (ms3 (F := F) t).IsWhole := hstage0_3 (((cfgA (F := F)).slots t (3 : Fin 9)).cast nbuf0_3)
abbrev ms4 (t : Fin grid0.N) : Memref sig .tc .vmem S1x1x1024 .f32 := spec0_4.stage ((cfgA (F := F)).slots t (4 : Fin 9))
abbrev hs4 (t : Fin grid0.N) : (ms4 (F := F) t).IsWhole := hstage0_4 (((cfgA (F := F)).slots t (4 : Fin 9)).cast nbuf0_4)
abbrev ms5 (t : Fin grid0.N) : Memref sig .tc .vmem S1x1x1024 .f32 := spec0_5.stage ((cfgA (F := F)).slots t (5 : Fin 9))
abbrev hs5 (t : Fin grid0.N) : (ms5 (F := F) t).IsWhole := hstage0_5 (((cfgA (F := F)).slots t (5 : Fin 9)).cast nbuf0_5)
abbrev ms6 (t : Fin grid0.N) : Memref sig .tc .vmem S1x8192x256 .bf16 := spec0_6.stage ((cfgA (F := F)).slots t (6 : Fin 9))
abbrev hs6 (t : Fin grid0.N) : (ms6 (F := F) t).IsWhole := hstage0_6 (((cfgA (F := F)).slots t (6 : Fin 9)).cast nbuf0_6)
abbrev ms7 (t : Fin grid0.N) : Memref sig .tc .vmem S1x1024x256 .bf16 := spec0_7.stage ((cfgA (F := F)).slots t (7 : Fin 9))
abbrev hs7 (t : Fin grid0.N) : (ms7 (F := F) t).IsWhole := hstage0_7 (((cfgA (F := F)).slots t (7 : Fin 9)).cast nbuf0_7)
abbrev ms8 (t : Fin grid0.N) : Memref sig .tc .vmem S1x1024x128 .bf16 := spec0_8.stage ((cfgA (F := F)).slots t (8 : Fin 9))
abbrev hs8 (t : Fin grid0.N) : (ms8 (F := F) t).IsWhole := hstage0_8 (((cfgA (F := F)).slots t (8 : Fin 9)).cast nbuf0_8)

/-- What a buffer holds when the region is entered. -/
def V (c : Dev nD) (b : Ref sig .tc) : Buf (Elt F) ((c.tc : Thread nD τ).loc b) := StableHlo.after hostOps0 (fun b => m (c, b)) b

/-- Window `w`'s block at point `t`. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V m c (Pipeline.arrRef spec0 w))

/-- What the body reads of the blocks of a point. -/
def blkL (c : Dev nD) (t : Fin grid0.N) : Ld F :=
  Ld.of (iblk m c (0 : Fin 9) t) (iblk m c (1 : Fin 9) t) (iblk m c (2 : Fin 9) t) (iblk m c (3 : Fin 9) t) (iblk m c (4 : Fin 9) t) (iblk m c (5 : Fin 9) t)

/-! ## What the scratches hold -/

/-- The contents of the three scratches: the sums of `dk`, of `dv` and of `dq`. -/
abbrev St (F : FTy → Type) := (S1024x256.Idx → Elt F .f32) × (S1024x128.Idx → Elt F .f32) × (S8192x256.Idx → Elt F .f32)

/-- One point's change of the scratches. -/
def step (i : grid0.Coords) (L : Ld F) (s : St F) : St F :=
  if h2 : k0_cond2 (wq i) (wk i) = 1#1 then (dkD L, dvD L, if cond1 i = 1#1 then dqZ i h2 L else dqD i h2 L s.2.2)
  else (dkO L s.1, dvO L s.2.1, dqO i ((cond3_iff i).2 h2) L s.2.2)

/-- The scratches before point `n`: what the points before it leave. -/
def traj (c : Dev nD) : ℕ → St F
  | 0 => (scM0.view.junk, scM1.view.junk, scM2.view.junk)
  | n + 1 => if h : n < grid0.N then step (crd ⟨n, h⟩) (blkL m c ⟨n, h⟩) (traj c n) else traj c n

theorem traj_succ (c : Dev nD) (t : Fin grid0.N) : traj m c (t.val + 1) = step (crd t) (blkL m c t) (traj m c t.val) := by
  rw [traj, dif_pos t.isLt]

/-- The invariant before point `t`: the scratches at what the points before it leave (anything before the first), the
    tables' halves, the generator's register. -/
def Phi (c : Dev nD) (t : Fin (grid0.N + 1)) : sProp 𝕄 :=
  iprop((∃ a0 a1 a2, ⌜t.val ≠ 0 → (a0, a1, a2) = traj m c t.val⌝ ∗ scrs c a0 a1 a2)
    ∗ (tbM0.view.loc (c : Thread nD τ) ↦{fullShare.right} tbl0)
    ∗ (tbM1.view.loc (c : Thread nD τ) ↦{fullShare.right} tbl1)
    ∗ (∃ r, prngReg c r))

/-- The proof data of the pipeline on core `c`. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c (0 : Fin 9) t
    | ⟨1, _⟩ => iblk m c (1 : Fin 9) t
    | ⟨2, _⟩ => iblk m c (2 : Fin 9) t
    | ⟨3, _⟩ => iblk m c (3 : Fin 9) t
    | ⟨4, _⟩ => iblk m c (4 : Fin 9) t
    | ⟨5, _⟩ => iblk m c (5 : Fin 9) t
    | ⟨6, _⟩ => k0_pay12 (traj m c (t.val + 1)).2.2
    | ⟨7, _⟩ => k0_pay10 (traj m c (t.val + 1)).1
    | ⟨8, _⟩ => k0_pay11 (traj m c (t.val + 1)).2.1
  Φ t := Phi m c t
  q _ := fullShare
  owed _ := 0

theorem after0 (c : Dev nD) (t : Fin grid0.N) : (dats m 0 c).after (0 : Fin 9) t = iblk m c (0 : Fin 9) t := rfl
theorem after1 (c : Dev nD) (t : Fin grid0.N) : (dats m 0 c).after (1 : Fin 9) t = iblk m c (1 : Fin 9) t := rfl
theorem after2 (c : Dev nD) (t : Fin grid0.N) : (dats m 0 c).after (2 : Fin 9) t = iblk m c (2 : Fin 9) t := rfl
theorem after3 (c : Dev nD) (t : Fin grid0.N) : (dats m 0 c).after (3 : Fin 9) t = iblk m c (3 : Fin 9) t := rfl
theorem after4 (c : Dev nD) (t : Fin grid0.N) : (dats m 0 c).after (4 : Fin 9) t = iblk m c (4 : Fin 9) t := rfl
theorem after5 (c : Dev nD) (t : Fin grid0.N) : (dats m 0 c).after (5 : Fin 9) t = iblk m c (5 : Fin 9) t := rfl
theorem after6 (c : Dev nD) (t : Fin grid0.N) : (dats m 0 c).after (6 : Fin 9) t = k0_pay12 (traj m c (t.val + 1)).2.2 := rfl
theorem after7 (c : Dev nD) (t : Fin grid0.N) : (dats m 0 c).after (7 : Fin 9) t = k0_pay10 (traj m c (t.val + 1)).1 := rfl
theorem after8 (c : Dev nD) (t : Fin grid0.N) : (dats m 0 c).after (8 : Fin 9) t = k0_pay11 (traj m c (t.val + 1)).2.1 := rfl
theorem before0 (c : Dev nD) (t : Fin grid0.N) (d) : (dats m 0 c).before (0 : Fin 9) t d = iblk m c (0 : Fin 9) t :=
  ((dats m 0 c).before_in_eq_fetched (0 : Fin 9) rfl (fun _ => rfl) (fun _ _ _ => rfl) (fun t => by rw [after0]; unfold Dat.blockOf iblk; rfl) t d).trans
    (by unfold Dat.fetched Dat.blockOf iblk; rfl)
theorem before1 (c : Dev nD) (t : Fin grid0.N) (d) : (dats m 0 c).before (1 : Fin 9) t d = iblk m c (1 : Fin 9) t :=
  ((dats m 0 c).before_in_eq_fetched (1 : Fin 9) rfl (fun _ => rfl) (fun _ _ _ => rfl) (fun t => by rw [after1]; unfold Dat.blockOf iblk; rfl) t d).trans
    (by unfold Dat.fetched Dat.blockOf iblk; rfl)
theorem before2 (c : Dev nD) (t : Fin grid0.N) (d) : (dats m 0 c).before (2 : Fin 9) t d = iblk m c (2 : Fin 9) t :=
  ((dats m 0 c).before_in_eq_fetched (2 : Fin 9) rfl (fun _ => rfl) (fun _ _ _ => rfl) (fun t => by rw [after2]; unfold Dat.blockOf iblk; rfl) t d).trans
    (by unfold Dat.fetched Dat.blockOf iblk; rfl)
theorem before3 (c : Dev nD) (t : Fin grid0.N) (d) : (dats m 0 c).before (3 : Fin 9) t d = iblk m c (3 : Fin 9) t :=
  ((dats m 0 c).before_in_eq_fetched (3 : Fin 9) rfl (fun _ => rfl) (fun _ _ _ => rfl) (fun t => by rw [after3]; unfold Dat.blockOf iblk; rfl) t d).trans
    (by unfold Dat.fetched Dat.blockOf iblk; rfl)
theorem before4 (c : Dev nD) (t : Fin grid0.N) (d) : (dats m 0 c).before (4 : Fin 9) t d = iblk m c (4 : Fin 9) t :=
  ((dats m 0 c).before_in_eq_fetched (4 : Fin 9) rfl (fun _ => rfl) (fun _ _ _ => rfl) (fun t => by rw [after4]; unfold Dat.blockOf iblk; rfl) t d).trans
    (by unfold Dat.fetched Dat.blockOf iblk; rfl)
theorem before5 (c : Dev nD) (t : Fin grid0.N) (d) : (dats m 0 c).before (5 : Fin 9) t d = iblk m c (5 : Fin 9) t :=
  ((dats m 0 c).before_in_eq_fetched (5 : Fin 9) rfl (fun _ => rfl) (fun _ _ _ => rfl) (fun t => by rw [after5]; unfold Dat.blockOf iblk; rfl) t d).trans
    (by unfold Dat.fetched Dat.blockOf iblk; rfl)

theorem step_A (i : grid0.Coords) (L : Ld F) (s : St F) (h1 : cond1 i = 1#1) (h2 : k0_cond2 (wq i) (wk i) = 1#1) : step i L s = (dkD L, dvD L, dqZ i h2 L) := by
  unfold step; rw [dif_pos h2, if_pos h1]
theorem step_D (i : grid0.Coords) (L : Ld F) (s : St F) (h1 : ¬ cond1 i = 1#1) (h2 : k0_cond2 (wq i) (wk i) = 1#1) : step i L s = (dkD L, dvD L, dqD i h2 L s.2.2) := by
  unfold step; rw [dif_pos h2, if_neg h1]
theorem step_O (i : grid0.Coords) (L : Ld F) (s : St F) (h2 : ¬ k0_cond2 (wq i) (wk i) = 1#1) (h3 : k0_cond3 (wq i) (wk i) = 1#1) : step i L s = (dkO L s.1, dvO L s.2.1, dqO i h3 L s.2.2) := by
  unfold step; rw [dif_neg h2]

set_option maxHeartbeats 8000000 in
/-- The body at point `t`, from the invariant and the staging buffers, gives them back as the proof data say. -/
theorem sound_body (c : Dev nD) (t : Fin grid0.N) :
    iprop((dats m 0 c).Φ t.castSucc ∗ (dats m 0 c).owesAt () t.castSucc
        ∗ (∃ d, owns (c : Thread nD τ) (ms0 (F := F) t) fullShare ((dats m 0 c).before (0 : Fin 9) t d))
        ∗ (∃ d, owns (c : Thread nD τ) (ms1 (F := F) t) fullShare ((dats m 0 c).before (1 : Fin 9) t d))
        ∗ (∃ d, owns (c : Thread nD τ) (ms2 (F := F) t) fullShare ((dats m 0 c).before (2 : Fin 9) t d))
        ∗ (∃ d, owns (c : Thread nD τ) (ms3 (F := F) t) fullShare ((dats m 0 c).before (3 : Fin 9) t d))
        ∗ (∃ d, owns (c : Thread nD τ) (ms4 (F := F) t) fullShare ((dats m 0 c).before (4 : Fin 9) t d))
        ∗ (∃ d, owns (c : Thread nD τ) (ms5 (F := F) t) fullShare ((dats m 0 c).before (5 : Fin 9) t d))
        ∗ (∃ d, owns (c : Thread nD τ) (ms6 (F := F) t) fullShare ((dats m 0 c).before (6 : Fin 9) t d))
        ∗ (∃ d, owns (c : Thread nD τ) (ms7 (F := F) t) fullShare ((dats m 0 c).before (7 : Fin 9) t d))
        ∗ (∃ d, owns (c : Thread nD τ) (ms8 (F := F) t) fullShare ((dats m 0 c).before (8 : Fin 9) t d)))
      ⊢ wp frame (wpE (defs₀ (F := F)) Variants.none c none) Set.univ (body (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t)) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  have i6 : (cfgA (F := F)).idle (6 : Fin 9) ((cfgA (F := F)).grid.coords t) = _ := idle6 (F := F) t
  have i7 : (cfgA (F := F)).idle (7 : Fin 9) ((cfgA (F := F)).grid.coords t) = _ := idle7 (F := F) t
  have i8 : (cfgA (F := F)).idle (8 : Fin 9) ((cfgA (F := F)).grid.coords t) = _ := idle8 (F := F) t
  have f6 := flush6 (F := F) t
  have f7 := flush7 (F := F) t
  have f8 := flush8 (F := F) t
  have e2 : (dats m 0 c).Φ t.succ = Phi m c t.succ := rfl
  have e1 : (dats m 0 c).Φ t.castSucc = Phi m c t.castSucc := rfl
  have e0 : (dats m 0 c).owesAt () t.succ = (dats m 0 c).owesAt () t.castSucc := rfl
  by_cases h1 : cond1 (crd t) = 1#1
  · obtain ⟨h2, h3, h4, h5⟩ := path_first _ h1
    have b4 : (k0_cond4 (wq (crd t)) == 1#1) = false := beq_eq_false_iff_ne.2 h4
    have b5 : (k0_cond5 (crd t) == 1#1) = false := beq_eq_false_iff_ne.2 h5
    rw [b4] at i7 i8 f7 f8; rw [b5] at i6 f6
    have est : traj m c t.succ.val = _ := (traj_succ m c t).trans (step_A _ _ _ h1 h2)
    rewrite [i6, i7]
    try rewrite [i8]
    simp only [Bool.not_true, Bool.not_false, before0, before1, before2, before3, before4, before5, after0, after1, after2, after3, after4, after5, after6, after7, after8, f6, f7, f8]
    rewrite [e2, e1, e0]
    unfold Phi
    iintro ⟨⟨⟨%a0, %a1, %a2, %ha, HS⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have est' : traj m c (t.val + 1) = _ := est
    iapply (runA c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (iblk m c (0 : Fin 9) t) (iblk m c (1 : Fin 9) t) (iblk m c (2 : Fin 9) t) (iblk m c (3 : Fin 9) t) (iblk m c (4 : Fin 9) t) (iblk m c (5 : Fin 9) t) h1 h2 h3 h4 h5 (blkL m c t) (loads_of (ms0 (F := F) t) (ms1 (F := F) t) (ms2 (F := F) t) (ms3 (F := F) t) (ms4 (F := F) t) (ms5 (F := F) t) (iblk m c (0 : Fin 9) t) (iblk m c (1 : Fin 9) t) (iblk m c (2 : Fin 9) t) (iblk m c (3 : Fin 9) t) (iblk m c (4 : Fin 9) t) (iblk m c (5 : Fin 9) t)) _ _ _ a0 a1 a2 _)
    isplitl [H0 H1 H2 H3 H4 H5 HT0 HT1]
    · unfold inps
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      iexact HT1
    isplitl [H6 H7 H8]
    · unfold outs
      isplitl [H6]; · iexact H6
      isplitl [H7]; · iexact H7
      iexact H8
    isplitl [HS]; · iexact HS
    unfold inps outs
    iintro ⟨⟨H0, H1, H2, H3, H4, H5, HT0, HT1⟩, ⟨H6, H7, H8⟩, HS⟩
    isplitl [HS HT0 HT1 HR]
    · isplitl [HS]
      · iexists _; iexists _; iexists _; isplitr; rotate_left
        · iexact HS
        · ipureintro; intro _; exact est.symm
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]
    · iexists d6; iexact H6
    isplitl [H7]
    · iexists d7; iexact H7
    iexists d8; iexact H8
  · have ht : t.val ≠ 0 := fun h => h1 (by rw [show t = ⟨0, by decide⟩ from Fin.ext h]; exact first0)
    by_cases h2 : k0_cond2 (wq (crd t)) (wk (crd t)) = 1#1
    · have h3 : ¬ k0_cond3 (wq (crd t)) (wk (crd t)) = 1#1 := fun h => (cond3_iff _).1 h h2
      have est : traj m c t.succ.val = _ := (traj_succ m c t).trans (step_D _ _ _ h1 h2)
      by_cases h4 : k0_cond4 (wq (crd t)) = 1#1
      · have h5 := (diag_last _ h2).2 h4
        have b4 : (k0_cond4 (wq (crd t)) == 1#1) = true := beq_iff_eq.2 h4
        have b5 : (k0_cond5 (crd t) == 1#1) = true := beq_iff_eq.2 h5
        rw [b4] at i7 i8 f7 f8; rw [b5] at i6 f6
        rewrite [i6, i7]
        try rewrite [i8]
        simp only [Bool.not_true, Bool.not_false, before0, before1, before2, before3, before4, before5, after0, after1, after2, after3, after4, after5, after6, after7, after8, f6, f7, f8]
        rewrite [e2, e1, e0]
        unfold Phi
        iintro ⟨⟨⟨%a0, %a1, %a2, %ha, HS⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have ha := ha ht
        rw [Fin.val_castSucc] at ha
        rw [← ha] at est
        have est' : traj m c (t.val + 1) = _ := est
        iapply (runE c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (iblk m c (0 : Fin 9) t) (iblk m c (1 : Fin 9) t) (iblk m c (2 : Fin 9) t) (iblk m c (3 : Fin 9) t) (iblk m c (4 : Fin 9) t) (iblk m c (5 : Fin 9) t) h1 h2 h3 h4 h5 (blkL m c t) (loads_of (ms0 (F := F) t) (ms1 (F := F) t) (ms2 (F := F) t) (ms3 (F := F) t) (ms4 (F := F) t) (ms5 (F := F) t) (iblk m c (0 : Fin 9) t) (iblk m c (1 : Fin 9) t) (iblk m c (2 : Fin 9) t) (iblk m c (3 : Fin 9) t) (iblk m c (4 : Fin 9) t) (iblk m c (5 : Fin 9) t)) _ _ _ a0 a1 a2 _)
        isplitl [H0 H1 H2 H3 H4 H5 HT0 HT1]
        · unfold inps
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          iexact HT1
        isplitl [H6 H7 H8]
        · unfold outs
          isplitl [H6]; · iexact H6
          isplitl [H7]; · iexact H7
          iexact H8
        isplitl [HS]; · iexact HS
        unfold inps outs
        iintro ⟨⟨H0, H1, H2, H3, H4, H5, HT0, HT1⟩, ⟨H6, H7, H8⟩, HS⟩
        isplitl [HS HT0 HT1 HR]
        · isplitl [HS]
          · iexists _; iexists _; iexists _; isplitr; rotate_left
            · iexact HS
            · ipureintro; intro _; exact est.symm
          isplitl [HT0]; · iexact HT0
          isplitl [HT1]; · iexact HT1
          iexact HR
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]
        · rw [est']; iexact H6
        isplitl [H7]
        · rw [est']; iexact H7
        rw [est']; iexact H8
      · have h5 : ¬ k0_cond5 (crd t) = 1#1 := fun h => h4 ((diag_last _ h2).1 h)
        have b4 : (k0_cond4 (wq (crd t)) == 1#1) = false := beq_eq_false_iff_ne.2 h4
        have b5 : (k0_cond5 (crd t) == 1#1) = false := beq_eq_false_iff_ne.2 h5
        rw [b4] at i7 i8 f7 f8; rw [b5] at i6 f6
        rewrite [i6, i7]
        try rewrite [i8]
        simp only [Bool.not_true, Bool.not_false, before0, before1, before2, before3, before4, before5, after0, after1, after2, after3, after4, after5, after6, after7, after8, f6, f7, f8]
        rewrite [e2, e1, e0]
        unfold Phi
        iintro ⟨⟨⟨%a0, %a1, %a2, %ha, HS⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have ha := ha ht
        rw [Fin.val_castSucc] at ha
        rw [← ha] at est
        have est' : traj m c (t.val + 1) = _ := est
        iapply (runD c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (iblk m c (0 : Fin 9) t) (iblk m c (1 : Fin 9) t) (iblk m c (2 : Fin 9) t) (iblk m c (3 : Fin 9) t) (iblk m c (4 : Fin 9) t) (iblk m c (5 : Fin 9) t) h1 h2 h3 h4 h5 (blkL m c t) (loads_of (ms0 (F := F) t) (ms1 (F := F) t) (ms2 (F := F) t) (ms3 (F := F) t) (ms4 (F := F) t) (ms5 (F := F) t) (iblk m c (0 : Fin 9) t) (iblk m c (1 : Fin 9) t) (iblk m c (2 : Fin 9) t) (iblk m c (3 : Fin 9) t) (iblk m c (4 : Fin 9) t) (iblk m c (5 : Fin 9) t)) _ _ _ a0 a1 a2 _)
        isplitl [H0 H1 H2 H3 H4 H5 HT0 HT1]
        · unfold inps
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          iexact HT1
        isplitl [H6 H7 H8]
        · unfold outs
          isplitl [H6]; · iexact H6
          isplitl [H7]; · iexact H7
          iexact H8
        isplitl [HS]; · iexact HS
        unfold inps outs
        iintro ⟨⟨H0, H1, H2, H3, H4, H5, HT0, HT1⟩, ⟨H6, H7, H8⟩, HS⟩
        isplitl [HS HT0 HT1 HR]
        · isplitl [HS]
          · iexists _; iexists _; iexists _; isplitr; rotate_left
            · iexact HS
            · ipureintro; intro _; exact est.symm
          isplitl [HT0]; · iexact HT0
          isplitl [HT1]; · iexact HT1
          iexact HR
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]
        · iexists d6; iexact H6
        isplitl [H7]
        · iexists d7; iexact H7
        iexists d8; iexact H8
    · have h3 := (cond3_iff _).2 h2
      have h5 := off_last _ h2
      have b5 : (k0_cond5 (crd t) == 1#1) = false := beq_eq_false_iff_ne.2 h5
      rw [b5] at i6 f6
      have est : traj m c t.succ.val = _ := (traj_succ m c t).trans (step_O _ _ _ h2 h3)
      by_cases h4 : k0_cond4 (wq (crd t)) = 1#1
      · have b4 : (k0_cond4 (wq (crd t)) == 1#1) = true := beq_iff_eq.2 h4
        rw [b4] at i7 i8 f7 f8
        rewrite [i6, i7]
        try rewrite [i8]
        simp only [Bool.not_true, Bool.not_false, before0, before1, before2, before3, before4, before5, after0, after1, after2, after3, after4, after5, after6, after7, after8, f6, f7, f8]
        rewrite [e2, e1, e0]
        unfold Phi
        iintro ⟨⟨⟨%a0, %a1, %a2, %ha, HS⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have ha := ha ht
        rw [Fin.val_castSucc] at ha
        rw [← ha] at est
        have est' : traj m c (t.val + 1) = _ := est
        iapply (runC c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (iblk m c (0 : Fin 9) t) (iblk m c (1 : Fin 9) t) (iblk m c (2 : Fin 9) t) (iblk m c (3 : Fin 9) t) (iblk m c (4 : Fin 9) t) (iblk m c (5 : Fin 9) t) h1 h2 h3 h4 h5 (blkL m c t) (loads_of (ms0 (F := F) t) (ms1 (F := F) t) (ms2 (F := F) t) (ms3 (F := F) t) (ms4 (F := F) t) (ms5 (F := F) t) (iblk m c (0 : Fin 9) t) (iblk m c (1 : Fin 9) t) (iblk m c (2 : Fin 9) t) (iblk m c (3 : Fin 9) t) (iblk m c (4 : Fin 9) t) (iblk m c (5 : Fin 9) t)) _ _ _ a0 a1 a2 _)
        isplitl [H0 H1 H2 H3 H4 H5 HT0 HT1]
        · unfold inps
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          iexact HT1
        isplitl [H6 H7 H8]
        · unfold outs
          isplitl [H6]; · iexact H6
          isplitl [H7]; · iexact H7
          iexact H8
        isplitl [HS]; · iexact HS
        unfold inps outs
        iintro ⟨⟨H0, H1, H2, H3, H4, H5, HT0, HT1⟩, ⟨H6, H7, H8⟩, HS⟩
        isplitl [HS HT0 HT1 HR]
        · isplitl [HS]
          · iexists _; iexists _; iexists _; isplitr; rotate_left
            · iexact HS
            · ipureintro; intro _; exact est.symm
          isplitl [HT0]; · iexact HT0
          isplitl [HT1]; · iexact HT1
          iexact HR
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]
        · iexists d6; iexact H6
        isplitl [H7]
        · rw [est']; iexact H7
        rw [est']; iexact H8
      · have b4 : (k0_cond4 (wq (crd t)) == 1#1) = false := beq_eq_false_iff_ne.2 h4
        rw [b4] at i7 i8 f7 f8
        rewrite [i6, i7]
        try rewrite [i8]
        simp only [Bool.not_true, Bool.not_false, before0, before1, before2, before3, before4, before5, after0, after1, after2, after3, after4, after5, after6, after7, after8, f6, f7, f8]
        rewrite [e2, e1, e0]
        unfold Phi
        iintro ⟨⟨⟨%a0, %a1, %a2, %ha, HS⟩, HT0, HT1, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        have ha := ha ht
        rw [Fin.val_castSucc] at ha
        rw [← ha] at est
        have est' : traj m c (t.val + 1) = _ := est
        iapply (runB c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (ms5 (F := F) t) (hs5 (F := F) t) (ms6 (F := F) t) (hs6 (F := F) t) (ms7 (F := F) t) (hs7 (F := F) t) (ms8 (F := F) t) (hs8 (F := F) t) (iblk m c (0 : Fin 9) t) (iblk m c (1 : Fin 9) t) (iblk m c (2 : Fin 9) t) (iblk m c (3 : Fin 9) t) (iblk m c (4 : Fin 9) t) (iblk m c (5 : Fin 9) t) h1 h2 h3 h4 h5 (blkL m c t) (loads_of (ms0 (F := F) t) (ms1 (F := F) t) (ms2 (F := F) t) (ms3 (F := F) t) (ms4 (F := F) t) (ms5 (F := F) t) (iblk m c (0 : Fin 9) t) (iblk m c (1 : Fin 9) t) (iblk m c (2 : Fin 9) t) (iblk m c (3 : Fin 9) t) (iblk m c (4 : Fin 9) t) (iblk m c (5 : Fin 9) t)) _ _ _ a0 a1 a2 _)
        isplitl [H0 H1 H2 H3 H4 H5 HT0 HT1]
        · unfold inps
          isplitl [H0]; · iapply rep_of_owns; iexact H0
          isplitl [H1]; · iapply rep_of_owns; iexact H1
          isplitl [H2]; · iapply rep_of_owns; iexact H2
          isplitl [H3]; · iapply rep_of_owns; iexact H3
          isplitl [H4]; · iapply rep_of_owns; iexact H4
          isplitl [H5]; · iapply rep_of_owns; iexact H5
          isplitl [HT0]; · iexact HT0
          iexact HT1
        isplitl [H6 H7 H8]
        · unfold outs
          isplitl [H6]; · iexact H6
          isplitl [H7]; · iexact H7
          iexact H8
        isplitl [HS]; · iexact HS
        unfold inps outs
        iintro ⟨⟨H0, H1, H2, H3, H4, H5, HT0, HT1⟩, ⟨H6, H7, H8⟩, HS⟩
        isplitl [HS HT0 HT1 HR]
        · isplitl [HS]
          · iexists _; iexists _; iexists _; isplitr; rotate_left
            · iexact HS
            · ipureintro; intro _; exact est.symm
          isplitl [HT0]; · iexact HT0
          isplitl [HT1]; · iexact HT1
          iexact HR
        isplitl [Ho]; · iexact Ho
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]
        · iexists d6; iexact H6
        isplitl [H7]
        · iexists d7; iexact H7
        iexists d8; iexact H8

end Cert.KernelIdeal.Bwd

end
-- ==== Proof.Frame.lean ====
/- The body of the attention backward call, path by path. -/
module

public import proofs.«01_k».proof.Defs
public import proofs.«01_k».proof.Proof.Body
public import proofs.«01_k».proof.Proof.State
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.KernelIdeal.Bwd

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats m 0 c) (defs₀ (F := F)) Variants.none () Set.univ := fun t => by
  rw [bigSep_W0]
  exact sound_body m c t

theorem share_eq (c : Dev nD) (w : Fin (cfgA (F := F)).W) : (dats m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (Val := Elt F) (U := UR sig nD τ) spec0 c ∗ Pipeline.ΦT pre0 (adm (F := F)).1 c) ⊢ (dats m 0 c).Φ 0 := by
  unfold Pipeline.ΦA Pipeline.ΦT
  rw [show (dats m 0 c).Φ 0 = Phi m c 0 from rfl]
  unfold Phi
  rw [prefHeld_eq, scopedRest0_eq]
  unfold scrs
  iintro ⟨⟨⟨⟨%a0, HS0⟩, ⟨%a1, HS1⟩, ⟨%a2, HS2⟩⟩, HR⟩, ⟨HT0, HT1⟩⟩
  isplitl [HS0 HS1 HS2]
  · iexists a0; iexists a1; iexists a2
    isplitr
    · ipureintro; intro h; exact absurd rfl h
    isplitl [HS0]; · iexact HS0
    isplitl [HS1]; · iexact HS1
    iexact HS2
  isplitl [HT0]; · iexact HT0
  isplitl [HT1]; · iexact HT1
  iexact HR

theorem phi_out (c : Dev nD) : (dats m 0 c).Φ (Fin.last (cfgA (F := F)).N) ⊢ Pipeline.ΦA (Val := Elt F) (U := UR sig nD τ) spec0 c := by
  unfold Pipeline.ΦA
  rw [show (dats m 0 c).Φ (Fin.last (cfgA (F := F)).N) = Phi m c (Fin.last _) from rfl]
  unfold Phi
  rw [scopedRest0_eq]
  unfold scrs
  iintro ⟨⟨%a0, %a1, %a2, -, HS0, HS1, HS2⟩, -, -, HR⟩
  isplitr [HR]
  · isplitl [HS0]
    · iexists a0; iexact HS0
    isplitl [HS1]
    · iexists a1; iexact HS1
    iexists a2; iexact HS2
  iexact HR

set_option maxHeartbeats 4000000 in
theorem V_pre (c : Dev nD) (k : Fin 2) : V m c (pre0.ref k) = (adm (F := F)).1 k := by
  fin_cases k
  · show StableHlo.after hostOps0 (fun b => m (c, b)) main_c = tbl0
    after_results_simp <;> rfl
  · show StableHlo.after hostOps0 (fun b => m (c, b)) main_c_0 = tbl1
    after_results_simp <;> rfl

set_option backward.isDefEq.respectTransparency.types false in
set_option maxHeartbeats 4000000 in
/-- From any memory with zero counters every weakly fair execution of @main terminates, with each array at the computed
    contents, every other buffer as when the region was entered, and every counter at zero. -/
theorem run_main : θ_run (defs (F := F)) (onTc (τ := τ) (main (F := F))) ⟨m, fun _ => 0, ρ⟩
    (fun r => Pipeline.FramePost (Pipeline.pin (pcfgs (F := F)) fun _ => adm) (dats m) 0 (V m) r ∧ r.2.sem = fun _ => 0) :=
  Pipeline.θ_run_frameP_track (Q' := _) (pcfgs (F := F)) (fun _ => adm) (dats m) (0 : Fin 1) launch0 defs₀ Variants.none m ρ main
    (fun c => (body_obligation m c).loose) (share_eq m) (fun _ _ => rfl) (V m)
    (Pipeline.hmainP_prefix (pcfgs (F := F)) (0 : Fin 1) defs₀ Variants.none m main hostOps0 hostOps0_sub (by repeat' constructor) main_chain)
    (fun _ _ => rfl) (V_pre m) (phi_in m) (phi_out m) (hQ' := fun _ h => h)

set_option maxHeartbeats 4000000 in
/-- What the arguments hold when the region is entered: what they held at the start. -/
theorem V_arg (c : Dev nD) : V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3) := by
  unfold V
  refine ⟨?_, ?_, ?_, ?_⟩ <;> (after_results_simp <;> rfl)

/-- The run ends with the arguments unchanged and every counter at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of _ rfl (show ∀ w : Fin 9, Pipeline.arrRef spec0 w ≠ main_arg0 by decide))).trans (V_arg m c).1,
     ((h.1 c).2 main_arg1 (Pipeline.mem_restRefs_of _ rfl (show ∀ w : Fin 9, Pipeline.arrRef spec0 w ≠ main_arg1 by decide))).trans (V_arg m c).2.1,
     ((h.1 c).2 main_arg2 (Pipeline.mem_restRefs_of _ rfl (show ∀ w : Fin 9, Pipeline.arrRef spec0 w ≠ main_arg2 by decide))).trans (V_arg m c).2.2.1,
     ((h.1 c).2 main_arg3 (Pipeline.mem_restRefs_of _ rfl (show ∀ w : Fin 9, Pipeline.arrRef spec0 w ≠ main_arg3 by decide))).trans (V_arg m c).2.2.2⟩, h.2⟩) (run_main m ρ)

end Cert.KernelIdeal.Bwd

end
-- ==== Proof.Pre.lean ====
/- The side conditions of the precondition, and the runs of the reference with its counters. -/
module

public import proofs.«01_k».proof.Defs
public import proofs.«01_k».proof.Proof.Gen.ReferenceIdeal
public import proofs.«01_k».proof.Proof.Gen.ReferenceIdeal.Run
public import Idealize.ShloMosaic.Lib.Decide
public import Idealize.ShloMosaic.Lib.Quiescent
public import Idealize.ShloMosaic.Adequacy
public import Idealize.ShloMosaic.Init

@[expose] public section

noncomputable section

open Idealize.ShloMosaic Idealize.ShloMosaic.TcCoe Idealize.SL.Sem

namespace Cert.Pre_finite

/-- The shape relations the precondition's operations take. -/
theorem facts : Cert.Pre_finite.Facts where
  bcast_S_S8x8192x256 := by decide
  reducesTo_S8x8192x256_S_d0_1_2 := by decide
  h_S_ := by decide
  bcast_S_S8x8192x128 := by decide
  reducesTo_S8x8192x128_S_d0_1_2 := by decide
  bcast_S_S8192x1024 := by decide
  reducesTo_S8192x1024_S_d0_1 := by decide

end Cert.Pre_finite

namespace Cert.ReferenceIdeal.Value

open Cert.ReferenceIdeal Cert.ReferenceIdeal.Gen

/-- The reference ends with its arguments unchanged and every counter at zero: it has none. -/
theorem frame_main {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2.2.2, sem_eq_zero_of_no_sems (by decide) r.2⟩) (run m ρ)

end Cert.ReferenceIdeal.Value

end
-- ==== Proof.Pay.lean ====
/- The values of the backward call's body read at an index, over the extended reals. -/
module

public import proofs.«01_k».proof.Proof.Body
public import Idealize.ShloMosaic.Lib.Pointwise

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic

/-- Comparing two small row numbers as words. -/
theorem sle_word (a b : ℕ) (ha : a < 4096) (hb : b < 4096) :
    IntOp.cmpi CmpIPredicate.sle (BitVec.ofNat 32 a) (BitVec.ofNat 32 b) = BitVec.ofBool (decide (a ≤ b)) := by
  show BitVec.ofBool ((BitVec.ofNat 32 a).sle (BitVec.ofNat 32 b)) = _
  rw [show (BitVec.ofNat 32 a).sle (BitVec.ofNat 32 b) = decide ((BitVec.ofNat 32 a).toInt ≤ (BitVec.ofNat 32 b).toInt) from rfl]
  have h1 : (BitVec.ofNat 32 a).toInt = a := by
    rw [BitVec.toInt_eq_toNat_of_lt] <;> rw [BitVec.toNat_ofNat] <;> omega
  have h2 : (BitVec.ofNat 32 b).toInt = b := by
    rw [BitVec.toInt_eq_toNat_of_lt] <;> rw [BitVec.toNat_ofNat] <;> omega
  rw [h1, h2]
  exact congrArg BitVec.ofBool (decide_eq_decide.2 Int.ofNat_le)

theorem select_ofBool {α : Type} (p : Prop) [Decidable p] (x y : α) : Scalar.select (BitVec.ofBool (decide p)) x y = if p then x else y := by
  by_cases h : p
  · simp only [h, decide_true, if_true]; rfl
  · simp only [h, decide_false, if_false]; rfl

theorem mask_eq : (Named.named κ "mask" 0xF149F2CA#32 : Ideal .f32) = (⊥ : EReal) :=
  IdealRules.named_const.ideal_named_scalar _ _ _ _ rfl

theorem ln2_eq : (Named.named κ "ln2" 0x3F317218#32 : Ideal .f32) = ((Real.log 2 : ℝ) : EReal) :=
  IdealRules.named_const.ideal_named_scalar _ _ _ _ rfl

variable (q k : Vec Ideal S1x1024x256 .bf16) (v : Vec Ideal S1x1024x128 .bf16) (dO : Vec Ideal S1024x128 .bf16) (ls de : Vec Ideal S1x1x1024 .f32)
  (kl qh : Vec Ideal S1x512x256 .bf16) (vl : Vec Ideal S1x512x128 .bf16) (dh : Vec Ideal S512x128 .bf16)

/-! ## The low half of the keys on the diagonal -/

theorem pay16_apply (c : Fin 512) (r : Fin 1024) :
    (k0_pay16 q kl ls (ix2 c r) : EReal) = Ideal.exp2 ((if c.val ≤ r.val then ∑ x : Fin 256, kl (ix3 0 c x) * q (ix3 0 r x) else ⊥) - ls (ix3 0 0 r)) := by
  pointwise [k0_pay16, k0_pay13, k0_pay15]
  rw [mask_eq]
  simp only [IntOp.addi, BitVec.add_zero]
  rw [sle_word _ _ (by omega) (by omega), select_ofBool]
  rfl

theorem pay18_apply (c : Fin 512) (r : Fin 1024) :
    (k0_pay18 q dO kl vl ls de (ix2 c r) : EReal) = (k0_pay16 q kl ls (ix2 c r) : EReal) * ((∑ x : Fin 128, vl (ix3 0 c x) * dO (ix2 r x) : EReal) - de (ix3 0 0 r)) := by
  pointwise [k0_pay18, k0_pay14]

theorem pay17_apply (c : Fin 512) (d : Fin 128) :
    (k0_pay17 q dO kl ls (ix2 c d) : EReal) = ∑ r : Fin 1024, (k0_pay16 q kl ls (ix2 c r) : EReal) * dO (ix2 r d) := by
  pointwise [k0_pay17, k0_pay14]

theorem pay19_apply (c : Fin 512) (d : Fin 256) :
    (k0_pay19 q dO kl vl ls de (ix2 c d) : EReal) = ∑ r : Fin 1024, (k0_pay18 q dO kl vl ls de (ix2 c r) : EReal) * q (ix3 0 r d) := by
  pointwise [k0_pay19, k0_pay13]

theorem pay20_apply (w : FVec Ideal S512x1024 .bf16) (a : Vec Ideal S1024x256 .f32) (r : Fin 1024) (d : Fin 256) :
    (k0_pay20 (k0_pay15 kl) w a (ix2 r d) : EReal) = (a (ix2 r d) : EReal) + ∑ c : Fin 512, (w (ix2 c r) : EReal) * kl (ix3 0 c d) := by
  pointwise [k0_pay20, k0_pay15]

/-! ## The high half of the keys on the diagonal, against the high half of the queries -/

theorem pay2_apply (c r : Fin 512) :
    (k0_pay2 (k0_pay27 qh kl) ls (ix2 c r) : EReal)
      = Ideal.exp2 ((if c.val ≤ r.val then ∑ x : Fin 256, kl (ix3 0 c x) * qh (ix3 0 r x) else ⊥) - ls (ix3 0 0 ⟨512 + r.val, by omega⟩)) := by
  pointwise [k0_pay2, k0_pay27, k0_pay25, k0_pay23]
  rw [mask_eq]
  have e : ∀ n : ℕ, IntOp.addi (BitVec.ofNat 32 n) 512#32 = BitVec.ofNat 32 (n + 512) := fun n => by
    unfold IntOp.addi; exact (BitVec.ofNat_add n 512).symm
  rw [e, e, sle_word _ _ (by omega) (by omega), select_ofBool]
  simp only [Nat.add_le_add_iff_right]
  rfl

theorem pay3_apply (c r : Fin 512) :
    (k0_pay3 (k0_pay24 dh) (k0_pay26 vl) (k0_pay27 qh kl) ls de (ix2 c r) : EReal)
      = (k0_pay2 (k0_pay27 qh kl) ls (ix2 c r) : EReal) * ((∑ x : Fin 128, vl (ix3 0 c x) * dh (ix2 r x) : EReal) - de (ix3 0 0 ⟨512 + r.val, by omega⟩)) := by
  pointwise [k0_pay3, k0_pay24, k0_pay26]

theorem pay4_apply (a : Vec Ideal S512x256 .f32) (r : Fin 512) (d : Fin 256) :
    (k0_pay4 (k0_pay24 dh) (k0_pay25 kl) (k0_pay26 vl) (k0_pay27 qh kl) ls de a (ix2 r d) : EReal)
      = (a (ix2 r d) : EReal) + ∑ c : Fin 512, (k0_pay3 (k0_pay24 dh) (k0_pay26 vl) (k0_pay27 qh kl) ls de (ix2 c r) : EReal) * kl (ix3 0 c d) := by
  pointwise [k0_pay4, k0_pay25]

theorem pay5_apply (c : Fin 512) (d : Fin 256) :
    (k0_pay5 (k0_pay23 qh) (k0_pay24 dh) (k0_pay26 vl) (k0_pay27 qh kl) ls de (ix2 c d) : EReal)
      = ∑ r : Fin 512, (k0_pay3 (k0_pay24 dh) (k0_pay26 vl) (k0_pay27 qh kl) ls de (ix2 c r) : EReal) * qh (ix3 0 r d) := by
  pointwise [k0_pay5, k0_pay23]

theorem pay6_apply (c : Fin 512) (d : Fin 128) :
    (k0_pay6 (k0_pay24 dh) (k0_pay27 qh kl) ls (ix2 c d) : EReal)
      = ∑ r : Fin 512, (k0_pay2 (k0_pay27 qh kl) ls (ix2 c r) : EReal) * dh (ix2 r d) := by
  pointwise [k0_pay6, k0_pay24]

theorem pay21_eq (x : FVec Ideal S512x256 .f32) (c : Fin 512) (d : Fin 256) : k0_pay21 x (ix2 c d) = x (ix2 c d) := by
  pointwise [k0_pay21]

theorem pay22_eq (x : FVec Ideal S512x128 .f32) (c : Fin 512) (d : Fin 128) : k0_pay22 x (ix2 c d) = x (ix2 c d) := by
  pointwise [k0_pay22]

/-! ## Off the diagonal -/

theorem pay31_apply (c r : Fin 1024) :
    (k0_pay31 q k ls (ix2 c r) : EReal) = Ideal.exp2 ((∑ x : Fin 256, k (ix3 0 c x) * q (ix3 0 r x) : EReal) - ls (ix3 0 0 r)) := by
  pointwise [k0_pay31, k0_pay28, k0_pay30]
  rfl

theorem pay33_apply (c r : Fin 1024) :
    (k0_pay33 q dO k v ls de (ix2 c r) : EReal) = (k0_pay31 q k ls (ix2 c r) : EReal) * ((∑ x : Fin 128, v (ix3 0 c x) * dO (ix2 r x) : EReal) - de (ix3 0 0 r)) := by
  pointwise [k0_pay33, k0_pay29]

theorem pay32_apply (c : Fin 1024) (d : Fin 128) :
    (k0_pay32 q dO k ls (ix2 c d) : EReal) = ∑ r : Fin 1024, (k0_pay31 q k ls (ix2 c r) : EReal) * dO (ix2 r d) := by
  pointwise [k0_pay32, k0_pay29]

theorem pay34_apply (c : Fin 1024) (d : Fin 256) :
    (k0_pay34 q dO k v ls de (ix2 c d) : EReal) = ∑ r : Fin 1024, (k0_pay33 q dO k v ls de (ix2 c r) : EReal) * q (ix3 0 r d) := by
  pointwise [k0_pay34, k0_pay28]

theorem pay35_apply (a : Vec Ideal S1024x256 .f32) (r : Fin 1024) (d : Fin 256) :
    (k0_pay7 (k0_pay35 q dO k v ls de a) (ix2 r d) : EReal) = (a (ix2 r d) : EReal) + ∑ c : Fin 1024, (k0_pay33 q dO k v ls de (ix2 c r) : EReal) * k (ix3 0 c d) := by
  pointwise [k0_pay7, k0_pay35, k0_pay30]

theorem pay8_apply (x a : Vec Ideal S1024x256 .f32) (c : Fin 1024) (d : Fin 256) :
    (k0_pay8 x a (ix2 c d) : EReal) = (a (ix2 c d) : EReal) + x (ix2 c d) := by
  pointwise [k0_pay8]

theorem pay9_apply (x a : Vec Ideal S1024x128 .f32) (c : Fin 1024) (d : Fin 128) :
    (k0_pay9 x a (ix2 c d) : EReal) = (a (ix2 c d) : EReal) + x (ix2 c d) := by
  pointwise [k0_pay9]

/-! ## The stores of the outputs, and the zero -/

theorem pay10_apply (x : Vec Ideal S1024x256 .f32) (c : Fin 1024) (d : Fin 256) :
    (k0_pay10 x (ix3 0 c d) : EReal) = (x (ix2 c d) : EReal) * ((Real.log 2 : ℝ) : EReal) := by
  pointwise [k0_pay10]
  rw [ln2_eq]

theorem pay11_apply (x : Vec Ideal S1024x128 .f32) (c : Fin 1024) (d : Fin 128) :
    (k0_pay11 x (ix3 0 c d) : EReal) = (x (ix2 c d) : EReal) := by
  pointwise [k0_pay11]

theorem pay12_apply (x : Vec Ideal S8192x256 .f32) (c : Fin 8192) (d : Fin 256) :
    (k0_pay12 x (ix3 0 c d) : EReal) = (x (ix2 c d) : EReal) := by
  pointwise [k0_pay12]

theorem pay1_apply (c : Fin 8192) (d : Fin 256) : (k0_pay1 (F := Ideal) (ix2 c d) : EReal) = 0 := by
  pointwise [k0_pay1]

end Cert.KernelIdeal.Bwd

end
-- ==== Proof.Step.lean ====
/- One point's change of the three sums, over the extended reals: the sums run over one block more. -/
module

public import proofs.«01_k».proof.Proof.Pay
public import Mathlib.Algebra.BigOperators.Intervals

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic

/-- The operands of one head, row by row: queries, keys, values, the output's gradient, and the two statistics. -/
structure Hd where
  Q : ℕ → Fin 256 → EReal
  K : ℕ → Fin 256 → EReal
  V : ℕ → Fin 128 → EReal
  O : ℕ → Fin 128 → EReal
  S : ℕ → EReal
  T : ℕ → EReal

section hd
variable (H : Hd)

/-- The weight of key `c` for query `r`. -/
def Hd.E (c r : ℕ) : EReal := Ideal.exp2 ((if c ≤ r then ∑ x, H.K c x * H.Q r x else ⊥) - H.S r)

/-- The score's gradient. -/
def Hd.D (c r : ℕ) : EReal := H.E c r * ((∑ x, H.V c x * H.O r x) - H.T r)

theorem Hd.E_zero {c r : ℕ} (h : r < c) : H.E c r = 0 := by
  unfold Hd.E
  rw [if_neg (by omega), EReal.bot_sub]
  rfl

theorem Hd.D_zero {c r : ℕ} (h : r < c) : H.D c r = 0 := by
  unfold Hd.D
  rw [H.E_zero h, zero_mul]

end hd

/-- The blocks read are row block `i` of the queries and row block `j` of the keys. -/
structure Blk (H : Hd) (i j : ℕ) (L : Ld Ideal) : Prop where
  q : ∀ (r : Fin 1024) (x : Fin 256), (L.q (ix3 0 r x) : EReal) = H.Q (i * 1024 + r.val) x
  k : ∀ (c : Fin 1024) (x : Fin 256), (L.k (ix3 0 c x) : EReal) = H.K (j * 1024 + c.val) x
  v : ∀ (c : Fin 1024) (x : Fin 128), (L.v (ix3 0 c x) : EReal) = H.V (j * 1024 + c.val) x
  dO : ∀ (r : Fin 1024) (x : Fin 128), (L.dO (ix2 r x) : EReal) = H.O (i * 1024 + r.val) x
  ls : ∀ r : Fin 1024, (L.ls (ix3 0 0 r) : EReal) = H.S (i * 1024 + r.val)
  de : ∀ r : Fin 1024, (L.de (ix3 0 0 r) : EReal) = H.T (i * 1024 + r.val)
  qh : ∀ (r : Fin 512) (x : Fin 256), (L.qh (ix3 0 r x) : EReal) = H.Q (i * 1024 + (512 + r.val)) x
  kl : ∀ (c : Fin 512) (x : Fin 256), (L.kl (ix3 0 c x) : EReal) = H.K (j * 1024 + c.val) x
  kh : ∀ (c : Fin 512) (x : Fin 256), (L.kh (ix3 0 c x) : EReal) = H.K (j * 1024 + (512 + c.val)) x
  vl : ∀ (c : Fin 512) (x : Fin 128), (L.vl (ix3 0 c x) : EReal) = H.V (j * 1024 + c.val) x
  vh : ∀ (c : Fin 512) (x : Fin 128), (L.vh (ix3 0 c x) : EReal) = H.V (j * 1024 + (512 + c.val)) x
  dh : ∀ (r : Fin 512) (x : Fin 128), (L.dh (ix2 r x) : EReal) = H.O (i * 1024 + (512 + r.val)) x

section pt
variable {H : Hd} {i j : ℕ} {L : Ld Ideal} (B : Blk H i j L)

/-! ## The weights and the scores' gradients of a point -/

include B in
theorem Blk.e31 (hij : j < i) (c r : Fin 1024) : (k0_pay31 L.q L.k L.ls (ix2 c r) : EReal) = H.E (j * 1024 + c.val) (i * 1024 + r.val) := by
  rw [pay31_apply]
  unfold Hd.E
  rw [if_pos (by omega)]
  simp only [B.q, B.k, B.ls]

include B in
theorem Blk.e33 (hij : j < i) (c r : Fin 1024) :
    (k0_pay33 L.q L.dO L.k L.v L.ls L.de (ix2 c r) : EReal) = H.D (j * 1024 + c.val) (i * 1024 + r.val) := by
  rw [pay33_apply, B.e31 hij]
  unfold Hd.D
  simp only [B.v, B.dO, B.de]

include B in
theorem Blk.e16 (hij : i = j) (c : Fin 512) (r : Fin 1024) : (k0_pay16 L.q L.kl L.ls (ix2 c r) : EReal) = H.E (j * 1024 + c.val) (i * 1024 + r.val) := by
  rw [pay16_apply]
  unfold Hd.E
  have e : (j * 1024 + c.val ≤ i * 1024 + r.val) = (c.val ≤ r.val) := by rw [hij]; exact propext (by omega)
  simp only [B.q, B.kl, B.ls, e]

include B in
theorem Blk.e18 (hij : i = j) (c : Fin 512) (r : Fin 1024) :
    (k0_pay18 L.q L.dO L.kl L.vl L.ls L.de (ix2 c r) : EReal) = H.D (j * 1024 + c.val) (i * 1024 + r.val) := by
  rw [pay18_apply, B.e16 hij]
  unfold Hd.D
  simp only [B.vl, B.dO, B.de]

include B in
theorem Blk.e2 (hij : i = j) (c r : Fin 512) :
    (k0_pay2 (k0_pay27 L.qh L.kh) L.ls (ix2 c r) : EReal) = H.E (j * 1024 + (512 + c.val)) (i * 1024 + (512 + r.val)) := by
  rw [pay2_apply]
  unfold Hd.E
  have e : (j * 1024 + (512 + c.val) ≤ i * 1024 + (512 + r.val)) = (c.val ≤ r.val) := by rw [hij]; exact propext (by omega)
  simp only [B.qh, B.kh, B.ls, e]

include B in
theorem Blk.e3 (hij : i = j) (c r : Fin 512) :
    (k0_pay3 (k0_pay24 L.dh) (k0_pay26 L.vh) (k0_pay27 L.qh L.kh) L.ls L.de (ix2 c r) : EReal)
      = H.D (j * 1024 + (512 + c.val)) (i * 1024 + (512 + r.val)) := by
  rw [pay3_apply, B.e2 hij]
  unfold Hd.D
  simp only [B.vh, B.dh, B.de]

end pt

/-! ## The sums so far -/

/-- The sum of `dk` over the queries below row block `i + 1`, -/
def DkI (H : Hd) (i j : ℕ) (a : S1024x256.Idx → EReal) : Prop :=
  ∀ (c : Fin 1024) (d : Fin 256), a (ix2 c d) = ∑ r ∈ Finset.range ((i + 1) * 1024), H.D (j * 1024 + c.val) r * H.Q r d
/-- that of `dv`, -/
def DvI (H : Hd) (i j : ℕ) (a : S1024x128.Idx → EReal) : Prop :=
  ∀ (c : Fin 1024) (d : Fin 128), a (ix2 c d) = ∑ r ∈ Finset.range ((i + 1) * 1024), H.E (j * 1024 + c.val) r * H.O r d
/-- and that of `dq` over the keys: below row block `j + 1` for the queries below row block `i + 1`, below `j` for the others. -/
def DqI (H : Hd) (i j : ℕ) (a : S8192x256.Idx → EReal) : Prop :=
  ∀ (r : Fin 8192) (d : Fin 256), a (ix2 r d) = ∑ c ∈ Finset.range ((if r.val / 1024 ≤ i then j + 1 else j) * 1024), H.D c r.val * H.K c d

/-- A sum over one block more. -/
theorem sum_block (f : ℕ → EReal) (n : ℕ) : ∑ r ∈ Finset.range ((n + 1) * 1024), f r = (∑ r ∈ Finset.range (n * 1024), f r) + ∑ r : Fin 1024, f (n * 1024 + r.val) := by
  rw [Nat.add_mul, Nat.one_mul, Finset.sum_range_add, Finset.sum_range (fun x => f (n * 1024 + x))]

/-- A block's sum in two halves. -/
theorem sum_halves (f : ℕ → EReal) : ∑ r : Fin 1024, f r.val = (∑ r : Fin 512, f r.val) + ∑ r : Fin 512, f (512 + r.val) := by
  rw [← Finset.sum_range f, show (1024 : ℕ) = 512 + 512 from rfl, Finset.sum_range_add, Finset.sum_range f, Finset.sum_range (fun x => f (512 + x))]

/-! ## Reading stores of whole rows -/

/-- A stored row of scratch 0 reads the newest piece that holds it. -/
theorem sc0_mem {W : ℕ} (a : S1024x256.Idx → EReal) {off : Fin 2 → ℕ} (o : ℕ) (hoff : off = ![o, 0]) (inb : ∀ a, off a + (![W, 256] : Fin 2 → ℕ) a ≤ S1024x256.size a)
    (w : (⟨2, ![W, 256]⟩ : Shape).Idx → EReal) (L : List (View.Piece (Elt Ideal) S1024x256 .f32)) (r : Fin 1024) (d : Fin 256) (x : Fin W) (h : r.val = o + x.val) :
    (scM0.view.writes (Elt Ideal) a ((⟨Rect.unit (s := S1024x256) off ![W, 256] inb, w⟩ : View.Piece (Elt Ideal) S1024x256 .f32) :: L) (ix2 r d) : EReal) = w (ix2 x d) :=
  View.read_writes_cons_rows_of_mem (Val := Elt Ideal) scM0.view a inb w L (ix2 r d) (ix2 x d) hoff h rfl

theorem sc0_not_mem {W : ℕ} (a : S1024x256.Idx → EReal) {off : Fin 2 → ℕ} (o : ℕ) (hoff : off = ![o, 0]) (inb : ∀ a, off a + (![W, 256] : Fin 2 → ℕ) a ≤ S1024x256.size a)
    (w : (⟨2, ![W, 256]⟩ : Shape).Idx → EReal) (L : List (View.Piece (Elt Ideal) S1024x256 .f32)) (r : Fin 1024) (d : Fin 256) (h : r.val < o ∨ o + W ≤ r.val) :
    (scM0.view.writes (Elt Ideal) a ((⟨Rect.unit (s := S1024x256) off ![W, 256] inb, w⟩ : View.Piece (Elt Ideal) S1024x256 .f32) :: L) (ix2 r d) : EReal)
      = scM0.view.writes (Elt Ideal) a L (ix2 r d) :=
  View.read_writes_cons_rows_of_not_mem (Val := Elt Ideal) (W := W) scM0.view a inb w L (ix2 r d) hoff rfl h

/-- A stored row of scratch 1 reads the newest piece that holds it. -/
theorem sc1_mem {W : ℕ} (a : S1024x128.Idx → EReal) {off : Fin 2 → ℕ} (o : ℕ) (hoff : off = ![o, 0]) (inb : ∀ a, off a + (![W, 128] : Fin 2 → ℕ) a ≤ S1024x128.size a)
    (w : (⟨2, ![W, 128]⟩ : Shape).Idx → EReal) (L : List (View.Piece (Elt Ideal) S1024x128 .f32)) (r : Fin 1024) (d : Fin 128) (x : Fin W) (h : r.val = o + x.val) :
    (scM1.view.writes (Elt Ideal) a ((⟨Rect.unit (s := S1024x128) off ![W, 128] inb, w⟩ : View.Piece (Elt Ideal) S1024x128 .f32) :: L) (ix2 r d) : EReal) = w (ix2 x d) :=
  View.read_writes_cons_rows_of_mem (Val := Elt Ideal) scM1.view a inb w L (ix2 r d) (ix2 x d) hoff h rfl

theorem sc1_not_mem {W : ℕ} (a : S1024x128.Idx → EReal) {off : Fin 2 → ℕ} (o : ℕ) (hoff : off = ![o, 0]) (inb : ∀ a, off a + (![W, 128] : Fin 2 → ℕ) a ≤ S1024x128.size a)
    (w : (⟨2, ![W, 128]⟩ : Shape).Idx → EReal) (L : List (View.Piece (Elt Ideal) S1024x128 .f32)) (r : Fin 1024) (d : Fin 128) (h : r.val < o ∨ o + W ≤ r.val) :
    (scM1.view.writes (Elt Ideal) a ((⟨Rect.unit (s := S1024x128) off ![W, 128] inb, w⟩ : View.Piece (Elt Ideal) S1024x128 .f32) :: L) (ix2 r d) : EReal)
      = scM1.view.writes (Elt Ideal) a L (ix2 r d) :=
  View.read_writes_cons_rows_of_not_mem (Val := Elt Ideal) (W := W) scM1.view a inb w L (ix2 r d) hoff rfl h

/-- A stored row of scratch 2 reads the newest piece that holds it. -/
theorem sc2_mem {W : ℕ} (a : S8192x256.Idx → EReal) {off : Fin 2 → ℕ} (o : ℕ) (hoff : off = ![o, 0]) (inb : ∀ a, off a + (![W, 256] : Fin 2 → ℕ) a ≤ S8192x256.size a)
    (w : (⟨2, ![W, 256]⟩ : Shape).Idx → EReal) (L : List (View.Piece (Elt Ideal) S8192x256 .f32)) (r : Fin 8192) (d : Fin 256) (x : Fin W) (h : r.val = o + x.val) :
    (scM2.view.writes (Elt Ideal) a ((⟨Rect.unit (s := S8192x256) off ![W, 256] inb, w⟩ : View.Piece (Elt Ideal) S8192x256 .f32) :: L) (ix2 r d) : EReal) = w (ix2 x d) :=
  View.read_writes_cons_rows_of_mem (Val := Elt Ideal) scM2.view a inb w L (ix2 r d) (ix2 x d) hoff h rfl

theorem sc2_not_mem {W : ℕ} (a : S8192x256.Idx → EReal) {off : Fin 2 → ℕ} (o : ℕ) (hoff : off = ![o, 0]) (inb : ∀ a, off a + (![W, 256] : Fin 2 → ℕ) a ≤ S8192x256.size a)
    (w : (⟨2, ![W, 256]⟩ : Shape).Idx → EReal) (L : List (View.Piece (Elt Ideal) S8192x256 .f32)) (r : Fin 8192) (d : Fin 256) (h : r.val < o ∨ o + W ≤ r.val) :
    (scM2.view.writes (Elt Ideal) a ((⟨Rect.unit (s := S8192x256) off ![W, 256] inb, w⟩ : View.Piece (Elt Ideal) S8192x256 .f32) :: L) (ix2 r d) : EReal)
      = scM2.view.writes (Elt Ideal) a L (ix2 r d) :=
  View.read_writes_cons_rows_of_not_mem (Val := Elt Ideal) (W := W) scM2.view a inb w L (ix2 r d) hoff rfl h

/-! ## Off the diagonal -/

variable {H : Hd} {j : ℕ} {L : Ld Ideal}

theorem dkO_inv {i : ℕ} (B : Blk H (i + 1) j L) (hij : j < i + 1) (a : S1024x256.Idx → EReal) (ha : DkI H i j a) : DkI H (i + 1) j (dkO L a) := fun c d => by
  rw [sum_block, ← ha c d]
  have e : (dkO L a (ix2 c d) : EReal) = (k0_pay8 (k0_pay34 L.q L.dO L.k L.v L.ls L.de) a (ix2 c d) : EReal) := by
    unfold dkO
    rw [rd0]
    exact sc0_mem _ 0 rfl _ _ [] c d c (by omega)
  refine e.trans ?_
  rw [pay8_apply, pay34_apply]
  simp only [B.e33 hij, B.q]

theorem dvO_inv {i : ℕ} (B : Blk H (i + 1) j L) (hij : j < i + 1) (a : S1024x128.Idx → EReal) (ha : DvI H i j a) : DvI H (i + 1) j (dvO L a) := fun c d => by
  rw [sum_block, ← ha c d]
  have e : (dvO L a (ix2 c d) : EReal) = (k0_pay9 (k0_pay32 L.q L.dO L.k L.ls) a (ix2 c d) : EReal) := by
    unfold dvO
    rw [rd1]
    exact sc1_mem _ 0 rfl _ _ [] c d c (by omega)
  refine e.trans ?_
  rw [pay9_apply, pay32_apply]
  simp only [B.e31 hij, B.dO]

theorem off2_eq : ∀ i : grid0.Coords, k0_off2 (wq i) = ![(wq i).toNat * 1024, 0] := by decide +kernel
theorem off3_eq : ∀ i : grid0.Coords, k0_off3 (wq i) = ![(wq i).toNat * 1024 + 512, 0] := by decide +kernel
theorem off4_eq : ∀ i : grid0.Coords, k0_off4 (wq i) = ![(wq i).toNat * 1024, 0] := by decide +kernel

/-- A load of some of the rows, at an index. -/
theorem readAt_rows {n : ℕ} (f : S8192x256.Idx → EReal) {off : Fin 2 → ℕ} (o : ℕ) (hoff : off = ![o, 0]) (inb : ∀ a, off a + (![n, 256] : Fin 2 → ℕ) a ≤ S8192x256.size a)
    (r : Fin n) (d : Fin 256) (h : o + r.val < 8192) :
    (View.readAt (Elt Ideal) scM2.view (Rect.unit (s := S8192x256) off ![n, 256] inb).toLoadRect f (ix2 r d) : EReal) = f (ix2 ⟨o + r.val, h⟩ d) := by
  subst hoff
  refine congrArg f (funext fun a => Fin.ext ?_)
  fin_cases a
  · show o + 1 * r.val = o + r.val
    omega
  · show 0 + 1 * d.val = d.val
    omega

theorem dqO_inv (g : grid0.Coords) {i : ℕ} (hw : (wq g).toNat = i + 1) (h3 : k0_cond3 (wq g) (wk g) = 1#1) (B : Blk H (i + 1) j L) (hij : j < i + 1)
    (a : S8192x256.Idx → EReal) (ha : DqI H i j a) : DqI H (i + 1) j (dqO g h3 L a) := fun r d => by
  have ho : k0_off4 (wq g) = ![(i + 1) * 1024, 0] := by rw [off4_eq, hw]
  have hi : i + 1 ≤ 7 := hw ▸ wq_le g
  unfold dqO
  by_cases hr : r.val / 1024 = i + 1
  · refine (sc2_mem (W := 1024) _ ((i + 1) * 1024) ho _ _ _ r d ⟨r.val - (i + 1) * 1024, by omega⟩ (by show r.val = (i + 1) * 1024 + (r.val - (i + 1) * 1024); omega)).trans ?_
    rw [pay35_apply, readAt_rows (n := 1024) a ((i + 1) * 1024) ho _ _ _ (by show (i + 1) * 1024 + (r.val - (i + 1) * 1024) < 8192; omega)]
    have er : (⟨(i + 1) * 1024 + (r.val - (i + 1) * 1024), by omega⟩ : Fin 8192) = r := Fin.ext (by show (i + 1) * 1024 + (r.val - (i + 1) * 1024) = r.val; omega)
    have er' : (i + 1) * 1024 + (r.val - (i + 1) * 1024) = r.val := by omega
    rw [show (ix2 (⟨(i + 1) * 1024 + (r.val - (i + 1) * 1024), by omega⟩ : Fin 8192) d : S8192x256.Idx) = ix2 r d from by rw [er], ha r d, if_neg (by omega), if_pos (by omega), sum_block]
    simp only [B.e33 hij, B.k, er']
  · refine (sc2_not_mem (W := 1024) _ ((i + 1) * 1024) ho _ _ _ r d (by show r.val < (i + 1) * 1024 ∨ (i + 1) * 1024 + 1024 ≤ r.val; omega)).trans ((ha r d).trans ?_)
    have : (r.val / 1024 ≤ i) = (r.val / 1024 ≤ i + 1) := propext (by omega)
    simp only [this]

/-! ## On the diagonal -/

/-- Below the block's rows nothing is summed. -/
theorem sum_diag (f : ℕ → EReal) (n : ℕ) (h : ∀ r, r < n * 1024 → f r = 0) :
    ∑ r ∈ Finset.range ((n + 1) * 1024), f r = ∑ r : Fin 1024, f (n * 1024 + r.val) := by
  rw [sum_block, Finset.sum_eq_zero (fun r hr => h r (Finset.mem_range.1 hr)), zero_add]

theorem dkD_inv (B : Blk H j j L) : DkI H j j (dkD L) := fun c d => by
  rw [sum_diag (fun r => H.D (j * 1024 + c.val) r * H.Q r d) j (fun r hr => by rw [H.D_zero (by omega), zero_mul])]
  unfold dkD
  by_cases hc : c.val < 512
  · refine (sc0_not_mem (W := 512) _ 512 rfl _ _ _ c d (by left; exact hc)).trans
      ((sc0_mem (W := 512) _ 0 rfl _ _ _ c d ⟨c.val, hc⟩ (by show c.val = 0 + c.val; omega)).trans ?_)
    rw [pay21_eq, pay19_apply]
    simp only [B.e18 rfl, B.q]
  · refine (sc0_mem (W := 512) _ 512 rfl _ _ _ c d ⟨c.val - 512, by omega⟩ (by show c.val = 512 + (c.val - 512); omega)).trans ?_
    have ec : 512 + (c.val - 512) = c.val := by omega
    rw [pay5_apply, sum_halves (fun r => H.D (j * 1024 + c.val) (j * 1024 + r) * H.Q (j * 1024 + r) d),
      Finset.sum_eq_zero (s := Finset.univ) (f := fun r : Fin 512 => H.D (j * 1024 + c.val) (j * 1024 + r.val) * H.Q (j * 1024 + r.val) d)
        (fun r _ => by rw [H.D_zero (by omega), zero_mul]), zero_add]
    simp only [B.e3 rfl, B.qh, ec]

theorem dvD_inv (B : Blk H j j L) : DvI H j j (dvD L) := fun c d => by
  rw [sum_diag (fun r => H.E (j * 1024 + c.val) r * H.O r d) j (fun r hr => by rw [H.E_zero (by omega), zero_mul])]
  unfold dvD
  by_cases hc : c.val < 512
  · refine (sc1_not_mem (W := 512) _ 512 rfl _ _ _ c d (by left; exact hc)).trans
      ((sc1_mem (W := 512) _ 0 rfl _ _ _ c d ⟨c.val, hc⟩ (by show c.val = 0 + c.val; omega)).trans ?_)
    rw [pay22_eq, pay17_apply]
    simp only [B.e16 rfl, B.dO]
  · refine (sc1_mem (W := 512) _ 512 rfl _ _ _ c d ⟨c.val - 512, by omega⟩ (by show c.val = 512 + (c.val - 512); omega)).trans ?_
    have ec : 512 + (c.val - 512) = c.val := by omega
    rw [pay6_apply, sum_halves (fun r => H.E (j * 1024 + c.val) (j * 1024 + r) * H.O (j * 1024 + r) d),
      Finset.sum_eq_zero (s := Finset.univ) (f := fun r : Fin 512 => H.E (j * 1024 + c.val) (j * 1024 + r.val) * H.O (j * 1024 + r.val) d)
        (fun r _ => by rw [H.E_zero (by omega), zero_mul]), zero_add]
    simp only [B.e2 rfl, B.dh, ec]

section dq
variable (g : grid0.Coords) (hw : (wq g).toNat = j) (h2 : k0_cond2 (wq g) (wk g) = 1#1) (B : Blk H j j L)
  (a : S8192x256.Idx → EReal) (L0 : List (View.Piece (Elt Ideal) S8192x256 .f32))
  (hb : ∀ (r : Fin 8192) (d : Fin 256), (scM2.view.writes (Elt Ideal) a L0 (ix2 r d) : EReal) = ∑ c ∈ Finset.range (j * 1024), H.D c r.val * H.K c d)
include hw B hb

/-- After the first update the rows of the block also sum over the low half of its keys. -/
theorem dq1_apply (r : Fin 8192) (d : Fin 256) :
    (scM2.view.writes (Elt Ideal) a (dqD1 g h2 L a L0) (ix2 r d) : EReal)
      = (∑ c ∈ Finset.range (j * 1024), H.D c r.val * H.K c d) + (if r.val / 1024 = j then ∑ c : Fin 512, H.D (j * 1024 + c.val) r.val * H.K (j * 1024 + c.val) d else 0) := by
  have ho : k0_off2 (wq g) = ![j * 1024, 0] := by rw [off2_eq, hw]
  have hj : j ≤ 7 := hw ▸ wq_le g
  unfold dqD1
  by_cases hr : r.val / 1024 = j
  · refine (sc2_mem (W := 1024) _ (j * 1024) ho _ _ _ r d ⟨r.val - j * 1024, by omega⟩ (by show r.val = j * 1024 + (r.val - j * 1024); omega)).trans ?_
    rw [pay20_apply, readAt_rows (n := 1024) _ (j * 1024) ho _ _ _ (by show j * 1024 + (r.val - j * 1024) < 8192; omega)]
    have er' : j * 1024 + (r.val - j * 1024) = r.val := by omega
    have er : (⟨j * 1024 + (r.val - j * 1024), by omega⟩ : Fin 8192) = r := Fin.ext er'
    rw [show (ix2 (⟨j * 1024 + (r.val - j * 1024), by omega⟩ : Fin 8192) d : S8192x256.Idx) = ix2 r d from by rw [er], hb r d, if_pos hr]
    simp only [B.e18 rfl, B.kl, er']
  · refine (sc2_not_mem (W := 1024) _ (j * 1024) ho _ _ _ r d (by show r.val < j * 1024 ∨ j * 1024 + 1024 ≤ r.val; omega)).trans ((hb r d).trans ?_)
    rw [if_neg hr, add_zero]

/-- After the second they sum over all of its keys. -/
theorem dq2_inv : DqI H j j (scM2.view.writes (Elt Ideal) a (dqD2 g h2 L a L0)) := fun r d => by
  have ho : k0_off3 (wq g) = ![j * 1024 + 512, 0] := by rw [off3_eq, hw]
  have hj : j ≤ 7 := hw ▸ wq_le g
  have h1 := dq1_apply g hw h2 B a L0 hb
  unfold dqD2
  by_cases hr : r.val / 1024 = j ∧ j * 1024 + 512 ≤ r.val
  · refine (sc2_mem (W := 512) _ (j * 1024 + 512) ho _ _ _ r d ⟨r.val - (j * 1024 + 512), by omega⟩ (by show r.val = j * 1024 + 512 + (r.val - (j * 1024 + 512)); omega)).trans ?_
    rw [pay4_apply, readAt_rows (n := 512) _ (j * 1024 + 512) ho _ _ _ (by show j * 1024 + 512 + (r.val - (j * 1024 + 512)) < 8192; omega)]
    have er' : j * 1024 + 512 + (r.val - (j * 1024 + 512)) = r.val := by omega
    have er'' : j * 1024 + (512 + (r.val - (j * 1024 + 512))) = r.val := by omega
    have er : (⟨j * 1024 + 512 + (r.val - (j * 1024 + 512)), by omega⟩ : Fin 8192) = r := Fin.ext er'
    rw [show (ix2 (⟨j * 1024 + 512 + (r.val - (j * 1024 + 512)), by omega⟩ : Fin 8192) d : S8192x256.Idx) = ix2 r d from by rw [er], h1 r d, if_pos hr.1, if_pos (by omega),
      sum_block, sum_halves (fun c => H.D (j * 1024 + c) r.val * H.K (j * 1024 + c) d), ← add_assoc]
    simp only [B.e3 rfl, B.kh, er'']
  · refine (sc2_not_mem (W := 512) _ (j * 1024 + 512) ho _ _ _ r d (by show r.val < j * 1024 + 512 ∨ j * 1024 + 512 + 512 ≤ r.val; omega)).trans ((h1 r d).trans ?_)
    by_cases hq : r.val / 1024 ≤ j
    · rw [if_pos hq, sum_block]
      congr 1
      by_cases hr' : r.val / 1024 = j
      · rw [if_pos hr', sum_halves (fun c => H.D (j * 1024 + c) r.val * H.K (j * 1024 + c) d),
          Finset.sum_eq_zero (s := Finset.univ) (f := fun c : Fin 512 => H.D (j * 1024 + (512 + c.val)) r.val * H.K (j * 1024 + (512 + c.val)) d)
            (fun c _ => by rw [H.D_zero (by omega), zero_mul]), add_zero]
      · rw [if_neg hr', Finset.sum_eq_zero (fun c _ => by rw [H.D_zero (by omega), zero_mul])]
    · rw [if_neg hq, if_neg (by omega), add_zero]

end dq

theorem dqD_inv (g : grid0.Coords) (hw : (wq g).toNat = j + 1) (h2 : k0_cond2 (wq g) (wk g) = 1#1) (B : Blk H (j + 1) (j + 1) L)
    (a : S8192x256.Idx → EReal) (ha : DqI H 7 j a) : DqI H (j + 1) (j + 1) (dqD g h2 L a) :=
  dq2_inv g hw h2 B a [] fun r d => (ha r d).trans (by rw [if_pos (by omega)])

theorem dqZ_inv (g : grid0.Coords) (hw : (wq g).toNat = 0) (h2 : k0_cond2 (wq g) (wk g) = 1#1) (B : Blk H 0 0 L) : DqI H 0 0 (dqZ g h2 L) :=
  dq2_inv g hw h2 B _ _ fun r d => (sc2_mem _ 0 rfl _ _ [] r d r (by omega)).trans ((pay1_apply r d).trans (by rw [Nat.zero_mul, Finset.range_zero, Finset.sum_empty]))

end Cert.KernelIdeal.Bwd

end
-- ==== Proof.Inv.lean ====
/- The scratches after each point, over the extended reals: the three sums over the blocks met so far. -/
module

public import proofs.«01_k».proof.Proof.Step
public import proofs.«01_k».proof.Proof.State

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic

/-- A head's operands, of the six arrays. -/
def hdOf (q k : S8x8192x256.Idx → EReal) (v : S8x8192x128.Idx → EReal) (o : S8192x1024.Idx → EReal) (ls de : S8x1x8192.Idx → EReal) (h : Fin 8) : Hd where
  Q r x := if hr : r < 8192 then q (ix3 h ⟨r, hr⟩ x) else 0
  K r x := if hr : r < 8192 then k (ix3 h ⟨r, hr⟩ x) else 0
  V r x := if hr : r < 8192 then v (ix3 h ⟨r, hr⟩ x) else 0
  O r x := if hr : r < 8192 then o (ix2 ⟨r, hr⟩ ⟨h.val * 128 + x.val, by omega⟩) else 0
  S r := if hr : r < 8192 then ls (ix3 h 0 ⟨r, hr⟩) else 0
  T r := if hr : r < 8192 then de (ix3 h 0 ⟨r, hr⟩) else 0

variable (m : (ℓ : Loc nD τ sig) → Buf (Elt Ideal) ℓ)

/-- A head's operands, of the arrays the region finds. -/
def hd (c : Dev nD) (h : Fin 8) : Hd := hdOf (V m c main_v39) (V m c main_v40) (V m c main_v41) (V m c main_v42) (V m c main_v25) (V m c main_v34) h

/-! ## The tables -/

theorem t_lt (t : Fin grid0.N) : t.val < 288 := t.isLt

/-- The head of a point. -/
def hix (t : Fin grid0.N) : Fin 8 := ⟨t.val / 36, by have := t_lt t; omega⟩

theorem head_eq : ∀ t : Fin grid0.N, (BitVec.ofNat 32 (crd t 0).val).toNat = t.val / 36 := by decide +kernel
theorem first_eq : ∀ t : Fin grid0.N, cond1 (crd t) = 1#1 → (wq (crd t)).toNat = 0 ∧ (wk (crd t)).toNat = 0 := by decide +kernel
theorem next_eq : ∀ t : Fin grid0.N, ∀ h : t.val + 1 < grid0.N, ¬ cond1 (crd ⟨t.val + 1, h⟩) = 1#1 →
    (t.val + 1) / 36 = t.val / 36 ∧
    (k0_cond2 (wq (crd ⟨t.val + 1, h⟩)) (wk (crd ⟨t.val + 1, h⟩)) = 1#1 →
      (wq (crd t)).toNat = 7 ∧ (wq (crd ⟨t.val + 1, h⟩)).toNat = (wk (crd t)).toNat + 1 ∧ (wk (crd ⟨t.val + 1, h⟩)).toNat = (wk (crd t)).toNat + 1) ∧
    (¬ k0_cond2 (wq (crd ⟨t.val + 1, h⟩)) (wk (crd ⟨t.val + 1, h⟩)) = 1#1 →
      (wq (crd ⟨t.val + 1, h⟩)).toNat = (wq (crd t)).toNat + 1 ∧ (wk (crd ⟨t.val + 1, h⟩)).toNat = (wk (crd t)).toNat ∧ (wk (crd t)).toNat < (wq (crd t)).toNat + 1) := by decide +kernel
theorem last4 : ∀ t : Fin grid0.N, k0_cond4 (wq (crd t)) = 1#1 → (wq (crd t)).toNat = 7 := by decide +kernel
theorem last5 : ∀ t : Fin grid0.N, k0_cond5 (crd t) = 1#1 → (wq (crd t)).toNat = 7 ∧ (wk (crd t)).toNat = 7 := by decide +kernel
theorem ex4 : ∀ h j : Fin 8, ∃ t : Fin grid0.N, k0_cond4 (wq (crd t)) = 1#1 ∧ t.val / 36 = h.val ∧ (wk (crd t)).toNat = j.val := by decide +kernel
theorem ex5 : ∀ h : Fin 8, ∃ t : Fin grid0.N, k0_cond5 (crd t) = 1#1 ∧ t.val / 36 = h.val := by decide +kernel

/-! ## The blocks of a point, at an index -/

theorem iblk0_apply (c : Dev nD) (t : Fin grid0.N) (r : Fin 1024) (x : Fin 256) (hr : (wq (crd t)).toNat * 1024 + r.val < 8192) :
    ((iblk m c (0 : Fin 9) t : S1x1024x256.Idx → EReal) (ix3 0 r x) : EReal) = V m c main_v39 (ix3 (hix t) ⟨(wq (crd t)).toNat * 1024 + r.val, hr⟩ x) := by
  refine congrArg (V m c main_v39) (funext fun a => Fin.ext ?_)
  fin_cases a
  · show (BitVec.ofNat 32 (crd t 0).val).toNat * 1 + 1 * 0 = t.val / 36
    rw [head_eq]; omega
  · show (wq (crd t)).toNat * 1024 + 1 * r.val = _
    rw [Nat.one_mul]; rfl
  · show 0 * 256 + 1 * x.val = x.val
    omega

theorem iblk1_apply (c : Dev nD) (t : Fin grid0.N) (r : Fin 1024) (x : Fin 256) (hr : (wk (crd t)).toNat * 1024 + r.val < 8192) :
    ((iblk m c (1 : Fin 9) t : S1x1024x256.Idx → EReal) (ix3 0 r x) : EReal) = V m c main_v40 (ix3 (hix t) ⟨(wk (crd t)).toNat * 1024 + r.val, hr⟩ x) := by
  refine congrArg (V m c main_v40) (funext fun a => Fin.ext ?_)
  fin_cases a
  · show (BitVec.ofNat 32 (crd t 0).val).toNat * 1 + 1 * 0 = t.val / 36
    rw [head_eq]; omega
  · show (wk (crd t)).toNat * 1024 + 1 * r.val = _
    rw [Nat.one_mul]; rfl
  · show 0 * 256 + 1 * x.val = x.val
    omega

theorem iblk2_apply (c : Dev nD) (t : Fin grid0.N) (r : Fin 1024) (x : Fin 128) (hr : (wk (crd t)).toNat * 1024 + r.val < 8192) :
    ((iblk m c (2 : Fin 9) t : S1x1024x128.Idx → EReal) (ix3 0 r x) : EReal) = V m c main_v41 (ix3 (hix t) ⟨(wk (crd t)).toNat * 1024 + r.val, hr⟩ x) := by
  refine congrArg (V m c main_v41) (funext fun a => Fin.ext ?_)
  fin_cases a
  · show (BitVec.ofNat 32 (crd t 0).val).toNat * 1 + 1 * 0 = t.val / 36
    rw [head_eq]; omega
  · show (wk (crd t)).toNat * 1024 + 1 * r.val = _
    rw [Nat.one_mul]; rfl
  · show 0 * 128 + 1 * x.val = x.val
    omega

theorem iblk3_apply (c : Dev nD) (t : Fin grid0.N) (r : Fin 1024) (x : Fin 128) (hr : (wq (crd t)).toNat * 1024 + r.val < 8192) :
    ((iblk m c (3 : Fin 9) t : S1024x128.Idx → EReal) (ix2 r x) : EReal)
      = V m c main_v42 (ix2 ⟨(wq (crd t)).toNat * 1024 + r.val, hr⟩ ⟨(hix t).val * 128 + x.val, by omega⟩) := by
  refine congrArg (V m c main_v42) (funext fun a => Fin.ext ?_)
  fin_cases a
  · show (wq (crd t)).toNat * 1024 + 1 * r.val = _
    rw [Nat.one_mul]; rfl
  · show (BitVec.ofNat 32 (crd t 0).val).toNat * 128 + 1 * x.val = t.val / 36 * 128 + x.val
    rw [head_eq]; omega

theorem iblk4_apply (c : Dev nD) (t : Fin grid0.N) (r : Fin 1024) (hr : (wq (crd t)).toNat * 1024 + r.val < 8192) :
    ((iblk m c (4 : Fin 9) t : S1x1x1024.Idx → EReal) (ix3 0 0 r) : EReal) = V m c main_v25 (ix3 (hix t) 0 ⟨(wq (crd t)).toNat * 1024 + r.val, hr⟩) := by
  refine congrArg (V m c main_v25) (funext fun a => Fin.ext ?_)
  fin_cases a
  · show (BitVec.ofNat 32 (crd t 0).val).toNat * 1 + 1 * 0 = t.val / 36
    rw [head_eq]; omega
  · rfl
  · show (wq (crd t)).toNat * 1024 + 1 * r.val = _
    rw [Nat.one_mul]; rfl

theorem iblk5_apply (c : Dev nD) (t : Fin grid0.N) (r : Fin 1024) (hr : (wq (crd t)).toNat * 1024 + r.val < 8192) :
    ((iblk m c (5 : Fin 9) t : S1x1x1024.Idx → EReal) (ix3 0 0 r) : EReal) = V m c main_v34 (ix3 (hix t) 0 ⟨(wq (crd t)).toNat * 1024 + r.val, hr⟩) := by
  refine congrArg (V m c main_v34) (funext fun a => Fin.ext ?_)
  fin_cases a
  · show (BitVec.ofNat 32 (crd t 0).val).toNat * 1 + 1 * 0 = t.val / 36
    rw [head_eq]; omega
  · rfl
  · show (wq (crd t)).toNat * 1024 + 1 * r.val = _
    rw [Nat.one_mul]; rfl

/-- The half of a block that begins at row `o`. -/
theorem half3 {n : ℕ} (f : (⟨3, ![1, 1024, n]⟩ : Shape).Idx → EReal) (o : ℕ) (inb : ∀ a, (![0, o, 0] : Fin 3 → ℕ) a + (![1, 512, n] : Fin 3 → ℕ) a ≤ (![1, 1024, n] : Fin 3 → ℕ) a)
    (r : Fin 512) (x : Fin n) (h : o + r.val < 1024) :
    (VecWindow.window (s := ⟨3, ![1, 1024, n]⟩) f ![0, o, 0] ![1, 512, n] inb (ix3 0 r x) : EReal) = f (ix3 0 ⟨o + r.val, h⟩ x) := by
  refine congrArg f (funext fun a => Fin.ext ?_)
  fin_cases a
  · rfl
  · show o + 1 * r.val = o + r.val
    omega
  · show 0 + 1 * x.val = x.val
    omega

theorem half2 (f : S1024x128.Idx → EReal) (inb : ∀ a, (![512, 0] : Fin 2 → ℕ) a + (![512, 128] : Fin 2 → ℕ) a ≤ S1024x128.size a) (r : Fin 512) (x : Fin 128) :
    (VecWindow.window f ![512, 0] ![512, 128] inb (ix2 r x) : EReal) = f (ix2 ⟨512 + r.val, by omega⟩ x) := by
  refine congrArg f (funext fun a => Fin.ext ?_)
  fin_cases a
  · show 512 + 1 * r.val = 512 + r.val
    omega
  · show 0 + 1 * x.val = x.val
    omega

/-- The reads of blocks that hold a head's rows. -/
theorem Blk.of {H : Hd} {i j : ℕ} (x0 x1 : S1x1024x256.Idx → EReal) (x2 : S1x1024x128.Idx → EReal) (x3 : S1024x128.Idx → EReal) (x4 x5 : S1x1x1024.Idx → EReal)
    (q : ∀ (r : Fin 1024) (x : Fin 256), x0 (ix3 0 r x) = H.Q (i * 1024 + r.val) x)
    (k : ∀ (r : Fin 1024) (x : Fin 256), x1 (ix3 0 r x) = H.K (j * 1024 + r.val) x)
    (v : ∀ (r : Fin 1024) (x : Fin 128), x2 (ix3 0 r x) = H.V (j * 1024 + r.val) x)
    (o : ∀ (r : Fin 1024) (x : Fin 128), x3 (ix2 r x) = H.O (i * 1024 + r.val) x)
    (ls : ∀ r : Fin 1024, x4 (ix3 0 0 r) = H.S (i * 1024 + r.val))
    (de : ∀ r : Fin 1024, x5 (ix3 0 0 r) = H.T (i * 1024 + r.val)) : Blk H i j (Ld.of (F := Ideal) x0 x1 x2 x3 x4 x5) where
  q := q
  k := k
  v := v
  dO := o
  ls := ls
  de := de
  qh r x := (half3 (n := 256) x0 512 _ r x (by omega)).trans (q ⟨512 + r.val, by omega⟩ x)
  kl r x := (half3 (n := 256) x1 0 _ r x (by omega)).trans ((k ⟨0 + r.val, by omega⟩ x).trans (by show H.K (_ + (0 + r.val)) x = _; rw [Nat.zero_add]))
  kh r x := (half3 (n := 256) x1 512 _ r x (by omega)).trans (k ⟨512 + r.val, by omega⟩ x)
  vl r x := (half3 (n := 128) x2 0 _ r x (by omega)).trans ((v ⟨0 + r.val, by omega⟩ x).trans (by show H.V (_ + (0 + r.val)) x = _; rw [Nat.zero_add]))
  vh r x := (half3 (n := 128) x2 512 _ r x (by omega)).trans (v ⟨512 + r.val, by omega⟩ x)
  dh r x := (half2 x3 _ r x).trans (o ⟨512 + r.val, by omega⟩ x)

/-- A row of a block lies in its array. -/
theorem row_lt {b : ℕ} (h : b ≤ 7) (r : Fin 1024) : b * 1024 + r.val < 8192 := by omega

section rd
variable (q k : S8x8192x256.Idx → EReal) (v : S8x8192x128.Idx → EReal) (o : S8192x1024.Idx → EReal) (ls de : S8x1x8192.Idx → EReal) (h : Fin 8) (r : ℕ) (hr : r < 8192)
theorem hdOf_Q (x : Fin 256) : (hdOf q k v o ls de h).Q r x = q (ix3 h ⟨r, hr⟩ x) := dif_pos hr
theorem hdOf_K (x : Fin 256) : (hdOf q k v o ls de h).K r x = k (ix3 h ⟨r, hr⟩ x) := dif_pos hr
theorem hdOf_V (x : Fin 128) : (hdOf q k v o ls de h).V r x = v (ix3 h ⟨r, hr⟩ x) := dif_pos hr
theorem hdOf_O (x : Fin 128) : (hdOf q k v o ls de h).O r x = o (ix2 ⟨r, hr⟩ ⟨h.val * 128 + x.val, by omega⟩) := dif_pos hr
theorem hdOf_S : (hdOf q k v o ls de h).S r = ls (ix3 h 0 ⟨r, hr⟩) := dif_pos hr
theorem hdOf_T : (hdOf q k v o ls de h).T r = de (ix3 h 0 ⟨r, hr⟩) := dif_pos hr
end rd

/-- The blocks a point reads are its head's. -/
theorem blk (c : Dev nD) (t : Fin grid0.N) : Blk (hd m c (hix t)) (wq (crd t)).toNat (wk (crd t)).toNat (blkL m c t) :=
  Blk.of _ _ _ _ _ _
    (fun r x => by rw [iblk0_apply m c t r x (row_lt (wq_le _) r)]; unfold hd; rw [hdOf_Q _ _ _ _ _ _ _ _ (row_lt (wq_le _) r)])
    (fun r x => by rw [iblk1_apply m c t r x (row_lt (wk_le _) r)]; unfold hd; rw [hdOf_K _ _ _ _ _ _ _ _ (row_lt (wk_le _) r)])
    (fun r x => by rw [iblk2_apply m c t r x (row_lt (wk_le _) r)]; unfold hd; rw [hdOf_V _ _ _ _ _ _ _ _ (row_lt (wk_le _) r)])
    (fun r x => by rw [iblk3_apply m c t r x (row_lt (wq_le _) r)]; unfold hd; rw [hdOf_O _ _ _ _ _ _ _ _ (row_lt (wq_le _) r)])
    (fun r => by rw [iblk4_apply m c t r (row_lt (wq_le _) r)]; unfold hd; rw [hdOf_S _ _ _ _ _ _ _ _ (row_lt (wq_le _) r)])
    (fun r => by rw [iblk5_apply m c t r (row_lt (wq_le _) r)]; unfold hd; rw [hdOf_T _ _ _ _ _ _ _ _ (row_lt (wq_le _) r)])

/-! ## The scratches after a point -/

/-- The three sums at row block `i` of the queries and `j` of the keys. -/
def StI (H : Hd) (i j : ℕ) (s : St Ideal) : Prop := DkI H i j s.1 ∧ DvI H i j s.2.1 ∧ DqI H i j s.2.2

theorem StI.mk (H : Hd) {i j : ℕ} {a : S1024x256.Idx → EReal} {b : S1024x128.Idx → EReal} {c : S8192x256.Idx → EReal} (ha : DkI H i j a) (hb : DvI H i j b) (hc : DqI H i j c) : StI H i j (a, b, c) := ⟨ha, hb, hc⟩

theorem step_inv {H : Hd} {i' j' : ℕ} {L : Ld Ideal} (g : grid0.Coords) (e1 : (wq g).toNat = i') (B : Blk H i' j' L) (s : St Ideal)
    (hf : cond1 g = 1#1 → i' = 0 ∧ j' = 0)
    (hs : ¬ cond1 g = 1#1 → ∃ i j, StI H i j s ∧
      (k0_cond2 (wq g) (wk g) = 1#1 → i = 7 ∧ i' = j + 1 ∧ j' = j + 1) ∧
      (¬ k0_cond2 (wq g) (wk g) = 1#1 → i' = i + 1 ∧ j' = j ∧ j < i + 1)) :
    StI H i' j' (step g L s) := by
  by_cases h1 : cond1 g = 1#1
  · have h2 := (path_first _ h1).1
    obtain ⟨rfl, rfl⟩ := hf h1
    rw [step_A _ _ _ h1 h2]
    exact StI.mk _ (dkD_inv B) (dvD_inv B) (dqZ_inv g e1 h2 B)
  · obtain ⟨i, j, ⟨hk, hv, hq⟩, hd2, ho2⟩ := hs h1
    by_cases h2 : k0_cond2 (wq g) (wk g) = 1#1
    · obtain ⟨rfl, rfl, rfl⟩ := hd2 h2
      rw [step_D _ _ _ h1 h2]
      exact StI.mk _ (dkD_inv B) (dvD_inv B) (dqD_inv g e1 h2 B _ hq)
    · obtain ⟨rfl, rfl, e3⟩ := ho2 h2
      rw [step_O _ _ _ h2 ((cond3_iff _).2 h2)]
      exact StI.mk _ (dkO_inv B e3 _ hk) (dvO_inv B e3 _ hv) (dqO_inv g e1 _ B e3 _ hq)

theorem traj_inv (c : Dev nD) : ∀ (n : ℕ) (hn : n < grid0.N),
    StI (hd m c (hix ⟨n, hn⟩)) (wq (crd ⟨n, hn⟩)).toNat (wk (crd ⟨n, hn⟩)).toNat (traj m c (n + 1)) := by
  intro n
  induction n with
  | zero =>
    intro hn
    rw [show traj m c (0 + 1) = _ from traj_succ m c ⟨0, hn⟩]
    exact step_inv _ rfl (blk m c ⟨0, hn⟩) _ (first_eq _) fun h => absurd first0 h
  | succ n ih =>
    intro hn
    rw [show traj m c (n + 1 + 1) = _ from traj_succ m c ⟨n + 1, hn⟩]
    refine step_inv _ rfl (blk m c ⟨n + 1, hn⟩) _ (first_eq _) fun h => ?_
    have hn' : n < grid0.N := Nat.lt_of_succ_lt hn
    obtain ⟨e, f1, f2⟩ := next_eq ⟨n, hn'⟩ hn h
    refine ⟨(wq (crd ⟨n, hn'⟩)).toNat, (wk (crd ⟨n, hn'⟩)).toNat, ?_, f1, f2⟩
    rw [show hix ⟨n + 1, hn⟩ = hix ⟨n, hn'⟩ from Fin.ext e]
    exact ih hn'

end Cert.KernelIdeal.Bwd

end
-- ==== Proof.Out.lean ====
/- The three results after the region, over the extended reals. -/
module

public import proofs.«01_k».proof.Proof.Inv
public import proofs.«01_k».proof.Proof.Frame
public import Idealize.ShloMosaic.Lib.Pipeline.ValueKit.Geometry

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic

/-- The gradient of the queries, of a head's operands: -/
def gq (H : Fin 8 → Hd) : S8x8192x256.Idx → EReal := fun j => ∑ c ∈ Finset.range 8192, (H (j 0)).D c (j 1).val * (H (j 0)).K c (j 2)
/-- that of the keys, -/
def gk (H : Fin 8 → Hd) : S8x8192x256.Idx → EReal := fun j => (∑ r ∈ Finset.range 8192, (H (j 0)).D (j 1).val r * (H (j 0)).Q r (j 2)) * ((Real.log 2 : ℝ) : EReal)
/-- and that of the values. -/
def gv (H : Fin 8 → Hd) : S8x8192x128.Idx → EReal := fun j => ∑ r ∈ Finset.range 8192, (H (j 0)).E (j 1).val r * (H (j 0)).O r (j 2)

/-- The sums at the last row block. -/
theorem DqI.last {H : Hd} {a : S8192x256.Idx → EReal} (h : DqI H 7 7 a) (r : Fin 8192) (d : Fin 256) :
    a (ix2 r d) = ∑ c ∈ Finset.range 8192, H.D c r.val * H.K c d := by
  rw [h r d, if_pos (by omega)]

section stage
variable (H : Hd)
/-- What the last point of a head stores of `dq`, and the last point of a block of keys of `dk` and `dv`. -/
theorem st6 {a : S8192x256.Idx → EReal} (h : DqI H 7 7 a) (y : S1x8192x256.Idx) :
    (k0_pay12 (F := Ideal) a y : EReal) = ∑ c ∈ Finset.range 8192, H.D c (y 1).val * H.K c (y 2) := by
  obtain ⟨y0, y1, y2, rfl⟩ : ∃ (y0 : Fin 1) (y1 : Fin 8192) (y2 : Fin 256), y = ix3 y0 y1 y2 := ⟨y 0, y 1, y 2, eq_ix3 y⟩
  obtain rfl : y0 = 0 := Subsingleton.elim _ _
  exact (pay12_apply a y1 y2).trans (h.last y1 y2)

theorem st7 {j : ℕ} {a : S1024x256.Idx → EReal} (h : DkI H 7 j a) (y : S1x1024x256.Idx) :
    (k0_pay10 (F := Ideal) a y : EReal) = (∑ r ∈ Finset.range 8192, H.D (j * 1024 + (y 1).val) r * H.Q r (y 2)) * ((Real.log 2 : ℝ) : EReal) := by
  obtain ⟨y0, y1, y2, rfl⟩ : ∃ (y0 : Fin 1) (y1 : Fin 1024) (y2 : Fin 256), y = ix3 y0 y1 y2 := ⟨y 0, y 1, y 2, eq_ix3 y⟩
  obtain rfl : y0 = 0 := Subsingleton.elim _ _
  exact (pay10_apply a y1 y2).trans (congrArg (· * ((Real.log 2 : ℝ) : EReal)) (h y1 y2))

theorem st8 {j : ℕ} {a : S1024x128.Idx → EReal} (h : DvI H 7 j a) (y : S1x1024x128.Idx) :
    (k0_pay11 (F := Ideal) a y : EReal) = ∑ r ∈ Finset.range 8192, H.E (j * 1024 + (y 1).val) r * H.O r (y 2) := by
  obtain ⟨y0, y1, y2, rfl⟩ : ∃ (y0 : Fin 1) (y1 : Fin 1024) (y2 : Fin 128), y = ix3 y0 y1 y2 := ⟨y 0, y 1, y 2, eq_ix3 y⟩
  obtain rfl : y0 = 0 := Subsingleton.elim _ _
  exact (pay11_apply a y1 y2).trans (h y1 y2)
end stage

variable (m : (ℓ : Loc nD τ sig) → Buf (Elt Ideal) ℓ)

theorem emb6 (t : Fin grid0.N) (y : S1x8192x256.Idx) :
    ((((cfgA (F := Ideal)).win (6 : Fin 9)).blk t).view.emb y : S8x8192x256.Idx) = ix3 (hix t) (y 1) (y 2) := by
  refine funext fun a => Fin.ext ?_
  fin_cases a
  · show (BitVec.ofNat 32 (crd t 0).val).toNat * 1 + 1 * (y 0).val = t.val / 36
    have h : (y 0).val < 1 := (y 0).isLt
    rw [head_eq]; omega
  · show 0 * 8192 + 1 * (y 1).val = (y 1).val
    omega
  · show 0 * 256 + 1 * (y 2).val = (y 2).val
    omega

theorem krow_lt (t : Fin grid0.N) (r : Fin 1024) : (wk (crd t)).toNat * 1024 + r.val < 8192 := row_lt (wk_le _) r

theorem emb7 (t : Fin grid0.N) (y : S1x1024x256.Idx) :
    ((((cfgA (F := Ideal)).win (7 : Fin 9)).blk t).view.emb y : S8x8192x256.Idx) = ix3 (hix t) ⟨(wk (crd t)).toNat * 1024 + (y 1).val, krow_lt t (y 1)⟩ (y 2) := by
  refine funext fun a => Fin.ext ?_
  fin_cases a
  · show (BitVec.ofNat 32 (crd t 0).val).toNat * 1 + 1 * (y 0).val = t.val / 36
    have h : (y 0).val < 1 := (y 0).isLt
    rw [head_eq]; omega
  · show (wk (crd t)).toNat * 1024 + 1 * (y 1).val = (wk (crd t)).toNat * 1024 + (y 1).val
    rw [Nat.one_mul]
  · show 0 * 256 + 1 * (y 2).val = (y 2).val
    omega

theorem emb8 (t : Fin grid0.N) (y : S1x1024x128.Idx) :
    ((((cfgA (F := Ideal)).win (8 : Fin 9)).blk t).view.emb y : S8x8192x128.Idx) = ix3 (hix t) ⟨(wk (crd t)).toNat * 1024 + (y 1).val, krow_lt t (y 1)⟩ (y 2) := by
  refine funext fun a => Fin.ext ?_
  fin_cases a
  · show (BitVec.ofNat 32 (crd t 0).val).toNat * 1 + 1 * (y 0).val = t.val / 36
    have h : (y 0).val < 1 := (y 0).isLt
    rw [head_eq]; omega
  · show (wk (crd t)).toNat * 1024 + 1 * (y 1).val = (wk (crd t)).toNat * 1024 + (y 1).val
    rw [Nat.one_mul]
  · show 0 * 128 + 1 * (y 2).val = (y 2).val
    omega

/-- An index in terms of its block and its place there. -/
theorem split_row {n : ℕ} (i : (⟨3, ![8, 8192, n]⟩ : Shape).Idx) (t : Fin grid0.N) (h0 : t.val / 36 = (i 0).val) (h1 : (wk (crd t)).toNat = (i 1).val / 1024) :
    (ix3 (hix t) ⟨(wk (crd t)).toNat * 1024 + (i 1).val % 1024, krow_lt t ⟨(i 1).val % 1024, Nat.mod_lt _ (by decide)⟩⟩ (i 2) : (⟨3, ![8, 8192, n]⟩ : Shape).Idx) = i := by
  refine funext fun a => Fin.ext ?_
  fin_cases a
  · exact h0
  · show (wk (crd t)).toNat * 1024 + (i 1).val % 1024 = (i 1).val
    rw [h1]; omega
  · rfl

theorem inv_at (c : Dev nD) (t : Fin grid0.N) : StI (hd m c (hix t)) (wq (crd t)).toNat (wk (crd t)).toNat (traj m c (t.val + 1)) := traj_inv m c t.val t.isLt

/-- The array of window 6 after the region. -/
theorem out6 (c : Dev nD) : (dats m (0 : Fin 1) c).arrAt (6 : Fin 9) (cfgA (F := Ideal)).N = gq (hd m c) := by
  refine (dats m (0 : Fin 1) c).arrAt_eq_of_emb (6 : Fin 9) (gq (hd m c)) (fun t hf y => ?_) (fun i => ?_)
  · have h5 : k0_cond5 (crd t) = 1#1 := beq_iff_eq.1 ((flush6 t).symm.trans hf)
    have I := inv_at m c t
    obtain ⟨e1, e2⟩ := last5 t h5
    rw [e1, e2] at I
    refine Eq.trans ?_ (congrArg (gq (hd m c)) (emb6 t y)).symm
    exact st6 (hd m c (hix t)) I.2.2 y
  · obtain ⟨t, h5, h0⟩ := ex5 (i (0 : Fin 3))
    refine ⟨t, (flush6 t).trans (beq_iff_eq.2 h5), Finset.mem_map.2 ⟨(ix3 (0 : Fin 1) (i (1 : Fin 3)) (i (2 : Fin 3)) : S1x8192x256.Idx), Finset.mem_univ _, ?_⟩⟩
    refine (emb6 t _).trans (funext fun a => Fin.ext ?_)
    fin_cases a
    · exact h0
    · rfl
    · rfl

/-- The array of window 7 after the region. -/
theorem out7 (c : Dev nD) : (dats m (0 : Fin 1) c).arrAt (7 : Fin 9) (cfgA (F := Ideal)).N = gk (hd m c) := by
  refine (dats m (0 : Fin 1) c).arrAt_eq_of_emb (7 : Fin 9) (gk (hd m c)) (fun t hf y => ?_) (fun i => ?_)
  · have h5 : k0_cond4 (wq (crd t)) = 1#1 := beq_iff_eq.1 ((flush7 t).symm.trans hf)
    have I := inv_at m c t
    rw [last4 t h5] at I
    refine Eq.trans ?_ (congrArg (gk (hd m c)) (emb7 t y)).symm
    exact st7 (hd m c (hix t)) I.1 y
  · have hi : (i (1 : Fin 3)).val < 8192 := (i (1 : Fin 3)).isLt
    obtain ⟨t, h5, h0, h1⟩ := ex4 (i (0 : Fin 3)) ⟨(i (1 : Fin 3)).val / 1024, by omega⟩
    refine ⟨t, (flush7 t).trans (beq_iff_eq.2 h5), Finset.mem_map.2 ⟨(ix3 (0 : Fin 1) (⟨(i (1 : Fin 3)).val % 1024, Nat.mod_lt _ (by decide)⟩ : Fin 1024) (i (2 : Fin 3)) : S1x1024x256.Idx), Finset.mem_univ _, ?_⟩⟩
    exact (emb7 t _).trans (split_row i t h0 h1)

/-- The array of window 8 after the region. -/
theorem out8 (c : Dev nD) : (dats m (0 : Fin 1) c).arrAt (8 : Fin 9) (cfgA (F := Ideal)).N = gv (hd m c) := by
  refine (dats m (0 : Fin 1) c).arrAt_eq_of_emb (8 : Fin 9) (gv (hd m c)) (fun t hf y => ?_) (fun i => ?_)
  · have h5 : k0_cond4 (wq (crd t)) = 1#1 := beq_iff_eq.1 ((flush8 t).symm.trans hf)
    have I := inv_at m c t
    rw [last4 t h5] at I
    refine Eq.trans ?_ (congrArg (gv (hd m c)) (emb8 t y)).symm
    exact st8 (hd m c (hix t)) I.2.1 y
  · have hi : (i (1 : Fin 3)).val < 8192 := (i (1 : Fin 3)).isLt
    obtain ⟨t, h5, h0, h1⟩ := ex4 (i (0 : Fin 3)) ⟨(i (1 : Fin 3)).val / 1024, by omega⟩
    refine ⟨t, (flush8 t).trans (beq_iff_eq.2 h5), Finset.mem_map.2 ⟨(ix3 (0 : Fin 1) (⟨(i (1 : Fin 3)).val % 1024, Nat.mod_lt _ (by decide)⟩ : Fin 1024) (i (2 : Fin 3)) : S1x1024x128.Idx), Finset.mem_univ _, ?_⟩⟩
    exact (emb8 t _).trans (split_row i t h0 h1)

end Cert.KernelIdeal.Bwd

end
-- ==== Proof.Host.lean ====
/- The arrays the region finds, over the extended reals: the operands and the two statistics at an index. -/
module

public import proofs.«01_k».proof.Proof.State
public import proofs.«01_k».proof.Proof.Gen.ReferenceIdeal.Read
public import Idealize.ShloMosaic.Lib.Pointwise
public import Idealize.ShloMosaic.Lib.StableHlo.Run

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic Idealize.ShloMosaic.StableHlo
open Cert.ReferenceIdeal.Read (val_main_v1 val_main_v13 val_main_v15)

section gen
variable (s e : FVec Ideal S8x8192x8192 .f32) (M L : FVec Ideal S8x8192 .f32) (x2 o : FVec Ideal S8x8192x128 .f32) (x3 : FVec Ideal S8192x1024 .f32)
  (q : FVec Ideal S8x8192x256 .f32)

/-- The exponentials of the scores less their row's greatest, -/
def fE : FVec Ideal S8x8192x8192 .f32 :=
  Host.exp (subf s (broadcastInDim S8x8192x8192 ![0, 1, 2] bcast_S8x8192x1_S8x8192x8192_0_1_2 (broadcastInDim S8x8192x1 ![0, 1] bcast_S8x8192_S8x8192x1_0_1 M)))
/-- their sums, -/
def fL : FVec Ideal S8x8192 .f32 :=
  Host.reduceAdd e (constant S_ .f32 0x00000000#32) reducesTo_S8x8192x8192_S8x8192_d2 h_S_
/-- the logarithm of two, -/
def hTwo : FVec Ideal S_ .f32 := Host.log (constant S_ .f32 0x40000000#32)
/-- the logarithms of the sums, to the base two, -/
def fS : FVec Ideal S8x8192 .f32 :=
  Host.divf (addf M (Host.log L)) (broadcastInDim S8x8192 ![] bcast_S_S8x8192 hTwo)
/-- the weights, -/
def fP : FVec Ideal S8x8192x8192 .f32 :=
  Host.divf e (broadcastInDim S8x8192x8192 ![0, 1, 2] bcast_S8x8192x1_S8x8192x8192_0_1_2 (broadcastInDim S8x8192x1 ![0, 1] bcast_S8x8192_S8x8192x1_0_1 L))
/-- the output, -/
def fO : FVec Ideal S8x8192x128 .f32 :=
  Host.dotGeneral dot_S8x8192x8192_S8x8192x128_S8x8192x128_2_1_1_2_0_0 none e x2
/-- its gradient by heads, -/
def hG : FVec Ideal S8x8192x128 .f32 :=
  transpose S8x8192x128 [1, 0, 2] (shapeCast S8192x8x128 x3 shapeCasts_S8192x1024_S8192x8x128) transposes_S8192x8x128_S8x8192x128_1_0_2
/-- their products' sums, -/
def fT : FVec Ideal S8x8192 .f32 :=
  Host.reduceAdd (mulf x2 o) (constant S_ .f32 0x00000000#32) reducesTo_S8x8192x128_S8x8192_d2 h_S_
/-- and the queries, scaled and to the base two. -/
def fQ : FVec Ideal S8x8192x256 .f32 :=
  Host.divf q (broadcastInDim S8x8192x256 ![] bcast_S_S8x8192x256 hTwo)
end gen

section vals
variable (x0 x1 : FVec Ideal S8x8192x256 .f32) (x2 : FVec Ideal S8x8192x128 .f32) (x3 : FVec Ideal S8192x1024 .f32)

/-- Those of the arguments: the exponentials, -/
def hE : FVec Ideal S8x8192x8192 .f32 := fE (val_main_v13 (F := Ideal) x0 x1) (val_main_v15 (F := Ideal) x0 x1)
/-- the sums, -/
def hL : FVec Ideal S8x8192 .f32 := fL (hE x0 x1)
/-- the logarithms, -/
def hS : FVec Ideal S8x8192 .f32 := fS (val_main_v15 (F := Ideal) x0 x1) (hL x0 x1)
/-- the weights, -/
def hP : FVec Ideal S8x8192x8192 .f32 := fP (hE x0 x1) (hL x0 x1)
/-- the output, -/
def hO : FVec Ideal S8x8192x128 .f32 := fO (hP x0 x1) x2
/-- the products' sums, -/
def hT : FVec Ideal S8x8192 .f32 := fT (hG x3) (hO x0 x1 x2)
/-- and the queries. -/
def hQ : FVec Ideal S8x8192x256 .f32 := fQ (val_main_v1 (F := Ideal) x0)
end vals

variable (m : (ℓ : Loc nD τ sig) → Buf (Elt Ideal) ℓ) (c : Dev nD)

/-- The arguments. -/
abbrev a0 : FVec Ideal S8x8192x256 .f32 := m ((c : Thread nD τ).loc main_arg0)
abbrev a1 : FVec Ideal S8x8192x256 .f32 := m ((c : Thread nD τ).loc main_arg1)
abbrev a2 : FVec Ideal S8x8192x128 .f32 := m ((c : Thread nD τ).loc main_arg2)
abbrev a3 : FVec Ideal S8192x1024 .f32 := m ((c : Thread nD τ).loc main_arg3)

set_option maxHeartbeats 4000000 in
theorem V39 : V m c main_v39 = (truncf .bf16 (hQ (a0 m c)) bitsLt_bf16_f32 : FVec Ideal S8x8192x256 .bf16) := by
  unfold V
  after_results_simp
  rfl
set_option maxHeartbeats 4000000 in
theorem V40 : V m c main_v40 = (truncf .bf16 (a1 m c) bitsLt_bf16_f32 : FVec Ideal S8x8192x256 .bf16) := by
  unfold V
  after_results_simp
set_option maxHeartbeats 4000000 in
theorem V41 : V m c main_v41 = (truncf .bf16 (a2 m c) bitsLt_bf16_f32 : FVec Ideal S8x8192x128 .bf16) := by
  unfold V
  after_results_simp
set_option maxHeartbeats 4000000 in
theorem V42 : V m c main_v42 = (truncf .bf16 (a3 m c) bitsLt_bf16_f32 : FVec Ideal S8192x1024 .bf16) := by
  unfold V
  after_results_simp
set_option maxHeartbeats 4000000 in
theorem V25 : V m c main_v25 = (shapeCast S8x1x8192 (hS (a0 m c) (a1 m c)) shapeCasts_S8x8192_S8x1x8192 : FVec Ideal S8x1x8192 .f32) := by
  unfold V
  after_results_simp
  rfl
set_option maxHeartbeats 4000000 in
theorem V34 : V m c main_v34 = (shapeCast S8x1x8192 (hT (a0 m c) (a1 m c) (a2 m c) (a3 m c)) shapeCasts_S8x8192_S8x1x8192 : FVec Ideal S8x1x8192 .f32) := by
  unfold V
  after_results_simp
  rfl

/-! ## At an index -/

section at_
variable (s e : FVec Ideal S8x8192x8192 .f32) (M L : FVec Ideal S8x8192 .f32) (x2 o : FVec Ideal S8x8192x128 .f32) (x3 : FVec Ideal S8192x1024 .f32)
  (q : FVec Ideal S8x8192x256 .f32) (h : Fin 8) (r c : Fin 8192)

theorem fE_apply : (fE s M (ix3 h r c) : EReal) = Ideal.exp ((s (ix3 h r c) : EReal) - M (ix2 h r)) := by
  pointwise [fE]
theorem fL_apply : (fL e (ix2 h r) : EReal) = ∑ c : Fin 8192, (e (ix3 h r c) : EReal) := by
  pointwise [fL]
theorem fS_apply : (fS M L (ix2 h r) : EReal) = Ideal.div ((M (ix2 h r) : EReal) + Ideal.log (L (ix2 h r))) (Ideal.log (Ideal.ofBits .f32 0x40000000#32)) := by
  pointwise [fS, hTwo]
theorem fP_apply : (fP e L (ix3 h r c) : EReal) = Ideal.div (e (ix3 h r c)) (L (ix2 h r)) := by
  pointwise [fP]
theorem fO_apply (d : Fin 128) : (fO e x2 (ix3 h r d) : EReal) = ∑ c : Fin 8192, (e (ix3 h r c) : EReal) * x2 (ix3 h c d) := by
  pointwise [fO]
theorem hG_apply (d : Fin 128) : (hG x3 (ix3 h r d) : EReal) = x3 (ix2 r ⟨h.val * 128 + d.val, by omega⟩) := by
  pointwise [hG]
theorem fT_apply : (fT x2 o (ix2 h r) : EReal) = ∑ d : Fin 128, (x2 (ix3 h r d) : EReal) * o (ix3 h r d) := by
  pointwise [fT]
theorem fQ_apply (x : Fin 256) : (fQ q (ix3 h r x) : EReal) = Ideal.div (q (ix3 h r x)) (Ideal.log (Ideal.ofBits .f32 0x40000000#32)) := by
  pointwise [fQ, hTwo]
end at_

end Cert.KernelIdeal.Bwd

end
-- ==== Proof.Math.lean ====
/- The mathematics of a head, over the reals: the weights, the sums, the score's gradient, in the kernel's spelling and the reference's. -/
module

public import proofs.«01_k».proof.Proof.Step

@[expose] public section

set_option maxRecDepth 16384

noncomputable section

namespace Cert.KernelIdeal.Bwd

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite_bot (p : Prop) [Decidable p] (x y : ℝ) :
    ((if p then (x : EReal) else ⊥) - (y : EReal)) = if p then ((x - y : ℝ) : EReal) else ⊥ := by
  split
  · rw [EReal.coe_sub]
  · rw [EReal.bot_sub]

section real
variable (A K : Fin 8192 → Fin 256 → ℝ) (W G : Fin 8192 → Fin 128 → ℝ) (μ : Fin 8192 → ℝ)

/-- The score of key `c` for query `r`, -/
def rs (r c : Fin 8192) : ℝ := ∑ x, A r x * K c x
/-- with the keys after the query masked, -/
def rst (r c : Fin 8192) : EReal := if c.val ≤ r.val then (rs A K r c : EReal) else ⊥
/-- its exponential, -/
def re (r c : Fin 8192) : ℝ := if c.val ≤ r.val then Real.exp (rs A K r c - μ r) else 0
/-- their sum, -/
def rl (r : Fin 8192) : ℝ := ∑ c, re A K μ r c
/-- the weight, -/
def rp (r c : Fin 8192) : ℝ := re A K μ r c / rl A K μ r
/-- the weight's gradient, -/
def rdp (r c : Fin 8192) : ℝ := ∑ d, G r d * W c d
/-- its mean, -/
def rt (r : Fin 8192) : ℝ := ∑ c, rp A K μ r c * rdp W G r c
/-- and the score's gradient. -/
def rd (r c : Fin 8192) : ℝ := rp A K μ r c * (rdp W G r c - rt A K W G μ r)

theorem max_real (r : Fin 8192) : ∃ y : ℝ, (Finset.univ : Finset (Fin 8192)).fold max ⊥ (rst A K r) = (y : EReal) := by
  have h1 : (Finset.univ : Finset (Fin 8192)).fold max ⊥ (rst A K r) < ⊤ := by
    rw [Finset.fold_max_lt]
    refine ⟨bot_lt_top, fun c _ => ?_⟩
    unfold rst
    split
    · exact EReal.coe_lt_top _
    · exact bot_lt_top
  have h2 : ⊥ < (Finset.univ : Finset (Fin 8192)).fold max ⊥ (rst A K r) := by
    rw [Finset.lt_fold_max]
    refine Or.inr ⟨r, Finset.mem_univ _, ?_⟩
    unfold rst
    rw [if_pos le_rfl]
    exact EReal.bot_lt_coe _
  exact ⟨_, (EReal.coe_toReal h1.ne h2.ne').symm⟩

theorem re_nonneg (r c : Fin 8192) : 0 ≤ re A K μ r c := by
  unfold re
  split
  · exact (Real.exp_pos _).le
  · exact le_rfl

theorem rl_pos (r : Fin 8192) : 0 < rl A K μ r := by
  unfold rl
  refine Finset.sum_pos' (fun c _ => re_nonneg A K μ r c) ⟨r, Finset.mem_univ _, ?_⟩
  unfold re
  rw [if_pos le_rfl]
  exact Real.exp_pos _

theorem exp_rst (r c : Fin 8192) : Ideal.exp (rst A K r c - (μ r : EReal)) = (re A K μ r c : EReal) := by
  unfold rst re
  rw [coe_ite_bot]
  split
  · exact Ideal.exp_coe _
  · exact Ideal.exp_bot

/-- The mean of the weight's gradients, in the kernel's order. -/
theorem rt_eq (r : Fin 8192) : ∑ d, G r d * ∑ c, rp A K μ r c * W c d = rt A K W G μ r := by
  unfold rt rdp
  simp only [Finset.mul_sum]
  rw [Finset.sum_comm]
  exact Finset.sum_congr rfl fun c _ => Finset.sum_congr rfl fun d _ => by ring

/-- The score's gradient, in the reference's spelling. -/
theorem rd_eq (r c : Fin 8192) :
    (rdp W G r c * (1 / rl A K μ r) + -∑ k, rdp W G r k * (1 / (rl A K μ r * rl A K μ r)) * re A K μ r k) * re A K μ r c = rd A K W G μ r c := by
  have hl := (rl_pos A K μ r).ne'
  have e : ∑ k, rdp W G r k * (1 / (rl A K μ r * rl A K μ r)) * re A K μ r k = rt A K W G μ r * (1 / rl A K μ r) := by
    unfold rt rp
    rw [Finset.sum_mul]
    exact Finset.sum_congr rfl fun k _ => by field_simp
  rw [e]
  unfold rd rp
  field_simp
  ring

theorem rd_zero {r c : Fin 8192} (h : ¬ c.val ≤ r.val) : rd A K W G μ r c = 0 := by
  unfold rd rp re
  rw [if_neg h, zero_div, zero_mul]

/-- A power of two at a quotient by the logarithm of two. -/
theorem rpow_two {x l : ℝ} (hl : 0 < l) : Real.rpow 2 (x / Real.log 2 - Real.log l / Real.log 2) = Real.exp x / l := by
  have h2 : Real.log 2 ≠ 0 := (Real.log_pos one_lt_two).ne'
  show (2 : ℝ) ^ (x / Real.log 2 - Real.log l / Real.log 2) = _
  rw [Real.rpow_def_of_pos two_pos]
  have : Real.log 2 * (x / Real.log 2 - Real.log l / Real.log 2) = x - Real.log l := by field_simp
  rw [this, Real.exp_sub, Real.exp_log hl]

/-! ## The kernel's head -/

section head
variable (H : Hd)
  (hQ : ∀ (r : Fin 8192) x, H.Q r.val x = ((A r x / Real.log 2 : ℝ) : EReal))
  (hK : ∀ (c : Fin 8192) x, H.K c.val x = (K c x : EReal))
  (hV : ∀ (c : Fin 8192) d, H.V c.val d = (W c d : EReal))
  (hO : ∀ (r : Fin 8192) d, H.O r.val d = (G r d : EReal))
  (hS : ∀ r : Fin 8192, H.S r.val = (((μ r + Real.log (rl A K μ r)) / Real.log 2 : ℝ) : EReal))
  (hT : ∀ r : Fin 8192, H.T r.val = (rt A K W G μ r : EReal))
include hQ hK hS

theorem head_E (r c : Fin 8192) : H.E c.val r.val = (rp A K μ r c : EReal) := by
  unfold Hd.E
  have e : ∑ x, H.K c.val x * H.Q r.val x = ((rs A K r c / Real.log 2 : ℝ) : EReal) := by
    unfold rs
    rw [Finset.sum_div, coe_sum]
    exact Finset.sum_congr rfl fun x _ => by rw [hK, hQ, ← EReal.coe_mul]; congr 1; ring
  rw [e, hS, coe_ite_bot]
  unfold rp
  by_cases h : c.val ≤ r.val
  · rw [if_pos h, Ideal.exp2_coe]
    have : rs A K r c / Real.log 2 - (μ r + Real.log (rl A K μ r)) / Real.log 2
        = (rs A K r c - μ r) / Real.log 2 - Real.log (rl A K μ r) / Real.log 2 := by ring
    rw [this, rpow_two (rl_pos A K μ r)]
    unfold re
    rw [if_pos h]
  · rw [if_neg h, Ideal.exp2_bot]
    unfold re
    rw [if_neg h, zero_div, EReal.coe_zero]

include hV hO hT
theorem head_D (r c : Fin 8192) : H.D c.val r.val = (rd A K W G μ r c : EReal) := by
  unfold Hd.D
  have e : ∑ d, H.V c.val d * H.O r.val d = (rdp W G r c : EReal) := by
    unfold rdp
    rw [coe_sum]
    exact Finset.sum_congr rfl fun d _ => by rw [hV, hO, ← EReal.coe_mul]; congr 1; ring
  rw [e, head_E A K μ H hQ hK hS, hT, ← EReal.coe_sub, ← EReal.coe_mul]
  rfl

theorem head_q (r : Fin 8192) (x : Fin 256) : ∑ c ∈ Finset.range 8192, H.D c r.val * H.K c x = ((∑ c, rd A K W G μ r c * K c x : ℝ) : EReal) := by
  rw [Finset.sum_range, coe_sum]
  exact Finset.sum_congr rfl fun c _ => by rw [head_D A K W G μ H hQ hK hV hO hS hT, hK, ← EReal.coe_mul]

theorem head_k (c : Fin 8192) (x : Fin 256) :
    (∑ r ∈ Finset.range 8192, H.D c.val r * H.Q r x) * ((Real.log 2 : ℝ) : EReal) = ((∑ r, rd A K W G μ r c * A r x : ℝ) : EReal) := by
  have h2 : Real.log 2 ≠ 0 := (Real.log_pos one_lt_two).ne'
  rw [Finset.sum_range]
  have : ∀ r : Fin 8192, H.D c.val r.val * H.Q r.val x = ((rd A K W G μ r c * (A r x / Real.log 2) : ℝ) : EReal) := fun r => by
    rw [head_D A K W G μ H hQ hK hV hO hS hT, hQ, ← EReal.coe_mul]
  rw [Finset.sum_congr rfl fun r _ => this r, ← coe_sum, ← EReal.coe_mul, Finset.sum_mul]
  congr 1
  exact Finset.sum_congr rfl fun r _ => by field_simp

omit hV hT in
theorem head_v (c : Fin 8192) (d : Fin 128) : ∑ r ∈ Finset.range 8192, H.E c.val r * H.O r d = ((∑ r, rp A K μ r c * G r d : ℝ) : EReal) := by
  rw [Finset.sum_range, coe_sum]
  exact Finset.sum_congr rfl fun r _ => by rw [head_E A K μ H hQ hK hS, hO, ← EReal.coe_mul]
end head
end real

end Cert.KernelIdeal.Bwd

end
-- ==== Proof.RefAt.lean ====
/- The reference's values at an index, over the extended reals. -/
module

public import proofs.«01_k».proof.Proof.Gen.ReferenceIdeal.Read
public import Idealize.ShloMosaic.Lib.Pointwise

@[expose] public section

set_option maxRecDepth 16384

noncomputable section

namespace Cert.ReferenceIdeal.At

open Cert.ReferenceIdeal Cert.ReferenceIdeal.Gen Cert.ReferenceIdeal.Read Idealize.ShloMosaic Idealize.ShloMosaic.TcCoe
open Idealize.ShloMosaic.Tactic

section at_
variable (x0 x1 : FVec Ideal S8x8192x256 .f32) (x2 : FVec Ideal S8x8192x128 .f32) (x3 : FVec Ideal S8192x1024 .f32)
  (h : Fin 8) (r c : Fin 8192)

theorem ext3 {a b d : ℕ} {i j : (⟨3, ![a, b, d]⟩ : Shape).Idx} (h0 : (i 0).val = (j 0).val) (h1 : (i 1).val = (j 1).val) (h2 : (i 2).val = (j 2).val) : i = j := by
  funext t
  apply Fin.ext
  fin_cases t
  · exact h0
  · exact h1
  · exact h2
theorem ext2 {a b : ℕ} {i j : (⟨2, ![a, b]⟩ : Shape).Idx} (h0 : (i 0).val = (j 0).val) (h1 : (i 1).val = (j 1).val) : i = j := by
  funext t
  apply Fin.ext
  fin_cases t
  · exact h0
  · exact h1

theorem v1_at (x : Fin 256) : (val_main_v1 (F := Ideal) x0 (ix3 h r x) : EReal) = (x0 (ix3 h r x) : EReal) * Ideal.ofBits .f32 0x3D93CD3A#32 := by
  rw [val_main_v1_apply, val_main_v0_apply, val_main_cst_apply]
  rfl

theorem v2_at : (val_main_v2 (F := Ideal) x0 x1 (ix3 h r c) : EReal) = ∑ x : Fin 256, (val_main_v1 (F := Ideal) x0 (ix3 h r x) : EReal) * x1 (ix3 h c x) := by
  rw [val_main_v2_apply]
  refine Finset.sum_congr rfl fun x _ => ?_
  rw [show lidx_main_v2 (ix3 h r c) x = ix3 h r x from ext3 rfl rfl rfl, show ridx_main_v2 (ix3 h r c) x = ix3 h c x from ext3 rfl rfl rfl]

theorem v11_at : val_main_v11 (F := Ideal) (ix3 h r c) = IntOp.cmpi .sge (BitVec.ofNat 32 r.val) (BitVec.ofNat 32 c.val) := by
  rw [val_main_v11_apply, val_main_v10_apply, val_main_v9_apply, val_main_v7_apply, val_main_v8_apply, val_main_v4_apply, val_main_v6_apply, val_main_v3_apply, val_main_v5_apply]
  rfl

theorem sge_at : IntOp.cmpi .sge (BitVec.ofNat 32 r.val) (BitVec.ofNat 32 c.val) = BitVec.ofBool (decide (c.val ≤ r.val)) := by
  have hr := r.isLt
  have hc := c.isLt
  simp only [IntOp.cmpi]
  congr 1
  rw [Bool.eq_iff_iff]
  simp only [BitVec.sle_iff_toInt_le, decide_eq_true_eq]
  rw [BitVec.toInt_eq_toNat_of_lt (by rw [BitVec.toNat_ofNat]; omega), BitVec.toInt_eq_toNat_of_lt (by rw [BitVec.toNat_ofNat]; omega)]
  simp only [BitVec.toNat_ofNat]
  omega

theorem sel_at {α : Type} (x y : α) : Scalar.select (val_main_v11 (F := Ideal) (ix3 h r c)) x y = if c.val ≤ r.val then x else y := by
  rw [v11_at, sge_at]
  by_cases g : c.val ≤ r.val
  · rw [decide_eq_true g, if_pos g]; rfl
  · rw [decide_eq_false g, if_neg g]; rfl

theorem v13_at : (val_main_v13 (F := Ideal) x0 x1 (ix3 h r c) : EReal) = if c.val ≤ r.val then (val_main_v2 (F := Ideal) x0 x1 (ix3 h r c) : EReal) else Ideal.ofBits .f32 0xFF800000#32 := by
  rw [val_main_v13_apply, sel_at, val_main_v12_apply, val_main_cst_0_apply]
  rfl

theorem max_at (y : FVec Ideal S8x8192x8192 .f32) (z : FVec Ideal S_ .f32) :
    Host.reduce (FloatOps.maximumf (F := Ideal) (φ := .f32)) y z reducesTo_S8x8192x8192_S8x8192_d2 h_S_ (ix2 h r)
    = (Finset.univ : Finset (Fin 8192)).fold max (z (Shape.Idx.first h_S_) : EReal) (fun c => (y (ix3 h r c) : EReal)) := by
  have hd : S8x8192x8192.Reduces [2] S8x8192 := by decide
  rw [Host.reduce_eq_fold_single (FloatOps.maximumf (F := Ideal) (φ := .f32)) y z reducesTo_S8x8192x8192_S8x8192_d2 hd h_S_]
  have hf : (y ∘ hd.lift (ix2 h r)) = fun k : Fin 8192 => y (ix3 h r k) :=
    funext fun k => congrArg y (ext3 rfl rfl rfl)
  exact congrArg (fun f => Finset.fold max (z (Shape.Idx.first h_S_) : EReal) f (Finset.univ : Finset (Fin 8192))) hf

theorem v15_at : (val_main_v15 (F := Ideal) x0 x1 (ix2 h r) : EReal)
    = (Finset.univ : Finset (Fin 8192)).fold max (Ideal.ofBits .f32 0xFF800000#32) (fun c => (val_main_v13 (F := Ideal) x0 x1 (ix3 h r c) : EReal)) := by
  unfold val_main_v15
  exact max_at h r (val_main_v13 (F := Ideal) x0 x1) (val_main_cst_2 (F := Ideal))

theorem v33_at : (val_main_v33 (F := Ideal) x0 x1 (ix3 h r c) : EReal) = max (Ideal.ofBits .f32 0xFF800000#32) (val_main_v15 (F := Ideal) x0 x1 (ix2 h r)) := by
  rw [val_main_v33_apply, val_main_v32_apply, val_main_v22_apply, val_main_v21_apply, val_main_cst_4_apply]
  rw [show idx_main_v32 (idx_main_v33 (ix3 h r c)) = ix2 h r from ext2 rfl rfl]
  rfl

theorem v35_at : (val_main_v35 (F := Ideal) x0 x1 (ix3 h r c) : EReal)
    = Ideal.exp ((val_main_v13 (F := Ideal) x0 x1 (ix3 h r c) : EReal) - max (Ideal.ofBits .f32 0xFF800000#32) (val_main_v15 (F := Ideal) x0 x1 (ix2 h r))) := by
  rw [val_main_v35_apply, val_main_v34_apply, ← v33_at x0 x1 h r c]
  rfl

theorem v36_at : (val_main_v36 (F := Ideal) x0 x1 (ix2 h r) : EReal) = ∑ c : Fin 8192, (val_main_v35 (F := Ideal) x0 x1 (ix3 h r c) : EReal) := by
  rw [val_main_v36_apply, val_main_cst_10_apply]
  refine (congrArg (· + _) Ideal.ofBits_zero_f32).trans ((zero_add _).trans (Finset.sum_congr rfl fun k _ => ?_))
  exact congrArg (val_main_v35 (F := Ideal) x0 x1) (ext3 rfl rfl rfl)

theorem v37_at (u : Fin 1) : (val_main_v37 (F := Ideal) x0 x1 (ix3 h r u) : EReal) = val_main_v36 (F := Ideal) x0 x1 (ix2 h r) := by
  rw [val_main_v37_apply]
  exact congrArg (val_main_v36 (F := Ideal) x0 x1) (ext2 rfl rfl)

theorem v39_at : (val_main_v39 (F := Ideal) x0 x1 (ix3 h r c) : EReal) = Ideal.div (val_main_v35 (F := Ideal) x0 x1 (ix3 h r c)) (val_main_v36 (F := Ideal) x0 x1 (ix2 h r)) := by
  rw [val_main_v39_apply, val_main_v38_apply, show idx_main_v38 (ix3 h r c) = ix3 h r 0 from ext3 rfl rfl rfl, ← v37_at x0 x1 h r 0]
  rfl

theorem v47_at (d : Fin 128) : (val_main_v47 (F := Ideal) x3 (ix3 h d r) : EReal) = x3 (ix2 r ⟨h.val * 128 + d.val, by omega⟩) := by
  rw [val_main_v47_apply, val_main_v46_apply]
  refine congrArg x3 (ext2 ?_ ?_) <;>
  · have := h.isLt; have := d.isLt; have := r.isLt
    simp only [idx_main_v46, idx_main_v47, ix3, ix2]
    show _ = _
    omega

theorem v48_at : (val_main_v48 (F := Ideal) x2 x3 (ix3 h r c) : EReal) = ∑ d : Fin 128, (val_main_v47 (F := Ideal) x3 (ix3 h d r) : EReal) * x2 (ix3 h c d) := by
  rw [val_main_v48_apply]
  refine Finset.sum_congr rfl fun x _ => ?_
  rw [show lidx_main_v48 (ix3 h r c) x = ix3 h x r from ext3 rfl rfl rfl, show ridx_main_v48 (ix3 h r c) x = ix3 h c x from ext3 rfl rfl rfl]

theorem v69_at (d : Fin 128) : (val_main_v69 (F := Ideal) x0 x1 x3 (ix3 h c d) : EReal) = ∑ r : Fin 8192, (val_main_v47 (F := Ideal) x3 (ix3 h d r) : EReal) * val_main_v39 (F := Ideal) x0 x1 (ix3 h r c) := by
  rw [val_main_v69_apply, val_main_v50_apply, show idx_main_v50 (ix3 h c d) = ix3 h d c from ext3 rfl rfl rfl]
  refine (val_main_v49_apply x0 x1 x3 (ix3 h d c)).trans (Finset.sum_congr rfl fun x _ => ?_)
  rw [show lidx_main_v49 (ix3 h d c) x = ix3 h d x from ext3 rfl rfl rfl, show ridx_main_v49 (ix3 h d c) x = ix3 h x c from ext3 rfl rfl rfl]

theorem v42_at (u : Fin 1) : (val_main_v42 (F := Ideal) x0 x1 (ix3 h r u) : EReal)
    = Ideal.div 1 ((val_main_v36 (F := Ideal) x0 x1 (ix2 h r) : EReal) * val_main_v36 (F := Ideal) x0 x1 (ix2 h r)) := by
  rw [val_main_v42_apply, val_main_v41_apply, val_main_cst_11_apply, val_main_v40_apply, ← v37_at x0 x1 h r u]
  exact congrArg (fun z => Ideal.div z _) Ideal.ofBits_one_f32

theorem v53_at : (val_main_v53 (F := Ideal) x0 x1 x2 x3 (ix3 h r c) : EReal)
    = (val_main_v48 (F := Ideal) x2 x3 (ix3 h r c) : EReal) * val_main_v42 (F := Ideal) x0 x1 (ix3 h r 0) * val_main_v35 (F := Ideal) x0 x1 (ix3 h r c) := by
  rw [val_main_v53_apply, val_main_v52_apply, val_main_v51_apply, show idx_main_v51 (ix3 h r c) = ix3 h r 0 from ext3 rfl rfl rfl]
  rfl

theorem v54_at : (val_main_v54 (F := Ideal) x0 x1 x2 x3 (ix2 h r) : EReal) = ∑ c : Fin 8192, (val_main_v53 (F := Ideal) x0 x1 x2 x3 (ix3 h r c) : EReal) := by
  rw [val_main_v54_apply, val_main_cst_12_apply]
  refine (congrArg (· + _) Ideal.ofBits_zero_f32).trans ((zero_add _).trans (Finset.sum_congr rfl fun k _ => ?_))
  exact congrArg (val_main_v53 (F := Ideal) x0 x1 x2 x3) (ext3 rfl rfl rfl)

theorem v59_at : (val_main_v59 (F := Ideal) x0 x1 x2 x3 (ix2 h r) : EReal) = -(val_main_v54 (F := Ideal) x0 x1 x2 x3 (ix2 h r) : EReal) := by
  rw [val_main_v59_apply, val_main_cst_13_apply]
  refine (congrArg (· + _) Ideal.ofBits_zero_f32).trans ((zero_add _).trans ?_)
  rw [Fin.sum_univ_one, val_main_v56_apply, val_main_v55_apply,
    show idx_main_v55 (idx_main_v59 (ix2 h r) 0) = ix2 h r from by
      have := h.isLt; have := r.isLt
      refine ext2 ?_ ?_
      · show ((h.val * 8192 + r.val) * 1 + 0) / 8192 = h.val; omega
      · show ((h.val * 8192 + r.val) * 1 + 0) % 8192 = r.val; omega]
  rfl

theorem v64_at : (val_main_v64 (F := Ideal) x0 x1 x2 x3 (ix3 h r c) : EReal)
    = if c.val ≤ r.val then (Ideal.div (val_main_v48 (F := Ideal) x2 x3 (ix3 h r c)) (val_main_v36 (F := Ideal) x0 x1 (ix2 h r))
        + -(val_main_v54 (F := Ideal) x0 x1 x2 x3 (ix2 h r) : EReal)) * val_main_v35 (F := Ideal) x0 x1 (ix3 h r c) else 0 := by
  rw [val_main_v64_apply, sel_at, val_main_v63_apply, val_main_cst_14_apply, val_main_v62_apply, val_main_v61_apply, val_main_v58_apply, val_main_v57_apply, val_main_v60_apply,
    show idx_main_v57 (ix3 h r c) = ix3 h r 0 from ext3 rfl rfl rfl, show idx_main_v60 (ix3 h r c) = ix2 h r from ext2 rfl rfl, ← v59_at, ← v37_at x0 x1 h r 0]
  refine if_congr Iff.rfl rfl ?_
  exact Ideal.ofBits_zero_f32

theorem v68_at (x : Fin 256) : (val_main_v68 (F := Ideal) x0 x1 x2 x3 (ix3 h c x) : EReal)
    = ∑ r : Fin 8192, (val_main_v64 (F := Ideal) x0 x1 x2 x3 (ix3 h r c) : EReal) * val_main_v1 (F := Ideal) x0 (ix3 h r x) := by
  rw [val_main_v68_apply]
  refine (val_main_v65_apply x0 x1 x2 x3 (ix3 h c x)).trans (Finset.sum_congr rfl fun k _ => ?_)
  rw [show lidx_main_v65 (ix3 h c x) k = ix3 h k c from ext3 rfl rfl rfl, show ridx_main_v65 (ix3 h c x) k = ix3 h k x from ext3 rfl rfl rfl]

theorem v67_at (x : Fin 256) : (val_main_v67 (F := Ideal) x0 x1 x2 x3 (ix3 h r x) : EReal)
    = ∑ c : Fin 8192, (val_main_v64 (F := Ideal) x0 x1 x2 x3 (ix3 h r c) : EReal) * x1 (ix3 h c x) := by
  rw [val_main_v67_apply]
  refine (val_main_v66_apply x0 x1 x2 x3 (ix3 h r x)).trans (Finset.sum_congr rfl fun k _ => ?_)
  rw [show lidx_main_v66 (ix3 h r x) k = ix3 h r k from ext3 rfl rfl rfl, show ridx_main_v66 (ix3 h r x) k = ix3 h k x from ext3 rfl rfl rfl]
end at_

end Cert.ReferenceIdeal.At

end
-- ==== Proof.Fin.lean ====
/- The constants' values, and what the precondition says of an argument. -/
module

public import proofs.«01_k».proof.Proof.Pre
public import Idealize.ShloMosaic.PureOps.Ideal.Laws
public import Idealize.ShloMosaic.Lib.ReduceAll
public import Idealize.ShloMosaic.Lib.Affine

@[expose] public section

noncomputable section

namespace Cert.Finite

open Idealize.ShloMosaic

theorem neg_inf : Ideal.ofBits .f32 0xFF800000#32 = ⊥ := by simp [Ideal.ofBits, Ideal.ieee]
theorem pos_inf : Ideal.ofBits .f32 0x7F800000#32 = ⊤ := by simp [Ideal.ofBits, Ideal.ieee]
theorem two : Ideal.ofBits .f32 0x40000000#32 = ((2 : ℝ) : EReal) := by
  simp [Ideal.ofBits, Ideal.ieee, -EReal.coe_mul]; norm_num
theorem scale : ∃ y : ℝ, Ideal.ofBits .f32 0x3D93CD3A#32 = (y : EReal) := by
  simp only [Ideal.ofBits, Ideal.ieee]
  norm_num
  exact ⟨_, rfl⟩

theorem log_two : Ideal.log (Ideal.ofBits .f32 0x40000000#32) = ((Real.log 2 : ℝ) : EReal) := by
  rw [two, Ideal.log_coe, if_neg (by norm_num)]

theorem real_of_abs {x : EReal} (h : Ideal.cmp .olt (max x (-x)) (Ideal.ofBits .f32 0x7F800000#32) = 1#1) : ∃ y : ℝ, x = (y : EReal) := by
  rw [pos_inf] at h
  have h1 : max x (-x) < ⊤ := by
    by_contra hn
    have : Ideal.cmp .olt (max x (-x)) ⊤ = 0#1 := by
      show BitVec.ofBool (decide (max x (-x) < ⊤)) = 0#1
      rw [decide_eq_false hn]; rfl
    rw [this] at h
    exact absurd h (by decide)
  obtain ⟨h2, h3⟩ := max_lt_iff.1 h1
  induction x using EReal.rec with
  | bot => exact absurd h3 (by simp)
  | coe y => exact ⟨y, rfl⟩
  | top => exact absurd h2 (by simp)

open Cert.Pre_finite in
/-- Where the precondition holds every argument's entries are real numbers. -/
theorem reals [Facts] (x0 x1 : FVec Ideal S8x8192x256 .f32) (x2 : FVec Ideal S8x8192x128 .f32) (x3 : FVec Ideal S8192x1024 .f32)
    (h : fn (F := Ideal) x0 x1 x2 x3 = fun _ => 1#1) :
    (∀ i, ∃ y : ℝ, x0 i = (y : EReal)) ∧ (∀ i, ∃ y : ℝ, x1 i = (y : EReal)) ∧ (∀ i, ∃ y : ℝ, x2 i = (y : EReal)) ∧ ∀ i, ∃ y : ℝ, x3 i = (y : EReal) := by
  have hj := congrFun h (fun a => a.elim0)
  dsimp only [fn, fn_part1] at hj
  obtain ⟨hj, h3⟩ := IntOp.andi_eq_one.1 hj
  obtain ⟨hj, h2⟩ := IntOp.andi_eq_one.1 hj
  obtain ⟨h0, h1⟩ := IntOp.andi_eq_one.1 hj
  haveI : Subsingleton S_.Idx := ⟨fun a b => funext fun t => t.elim0⟩
  exact ⟨fun i => real_of_abs (Host.reduce_andi_all _ _ _ _ _ h0 i), fun i => real_of_abs (Host.reduce_andi_all _ _ _ _ _ h1 i),
    fun i => real_of_abs (Host.reduce_andi_all _ _ _ _ _ h2 i), fun i => real_of_abs (Host.reduce_andi_all _ _ _ _ _ h3 i)⟩

end Cert.Finite

end
-- ==== Proof.Value.lean ====
/- The kernel's three gradients and the reference's, where the arguments are real. -/
module

public import proofs.«01_k».proof.Proof.Out
public import proofs.«01_k».proof.Proof.Host
public import proofs.«01_k».proof.Proof.Math
public import proofs.«01_k».proof.Proof.RefAt
public import proofs.«01_k».proof.Proof.Fin

@[expose] public section

set_option maxRecDepth 16384

noncomputable section

namespace Cert.KernelIdeal.Bwd

open Cert.KernelIdeal Cert.KernelIdeal.Gen
open Idealize.ShloMosaic
open Idealize.ShloMosaic.TcCoe Idealize.ShloMosaic.Tactic
open Cert.ReferenceIdeal.Read Cert.ReferenceIdeal.At

/-- The quotient of two reals. -/
theorem div_real (x : ℝ) {y : ℝ} (h : y ≠ 0) : Ideal.div (x : EReal) (y : EReal) = ((x / y : ℝ) : EReal) := by
  rw [Ideal.div_coe h, ← EReal.coe_mul]
  congr 1
  ring

theorem log2_ne : Real.log 2 ≠ 0 := (Real.log_pos one_lt_two).ne'

section head
variable (x0 x1 : FVec Ideal S8x8192x256 .f32) (x2 : FVec Ideal S8x8192x128 .f32) (x3 : FVec Ideal S8192x1024 .f32) (h : Fin 8)
  (A K : Fin 8192 → Fin 256 → ℝ) (W G : Fin 8192 → Fin 128 → ℝ) (μ : Fin 8192 → ℝ)
  (hA : ∀ r x, (val_main_v1 (F := Ideal) x0 (ix3 h r x) : EReal) = (A r x : EReal))
  (hK : ∀ r x, (x1 (ix3 h r x) : EReal) = (K r x : EReal))
  (hW : ∀ r d, (x2 (ix3 h r d) : EReal) = (W r d : EReal))
  (hG : ∀ (r : Fin 8192) (d : Fin 128), (x3 (ix2 r ⟨h.val * 128 + d.val, by omega⟩) : EReal) = (G r d : EReal))
  (hμ : ∀ r, (Finset.univ : Finset (Fin 8192)).fold max ⊥ (rst A K r) = (μ r : EReal))

include hA hK in
theorem r13 (r c : Fin 8192) : (val_main_v13 (F := Ideal) x0 x1 (ix3 h r c) : EReal) = rst A K r c := by
  rw [v13_at, Cert.Finite.neg_inf]
  unfold rst
  refine if_congr Iff.rfl ?_ rfl
  rw [v2_at]
  unfold rs
  rw [coe_sum]
  exact Finset.sum_congr rfl fun x _ => by rw [hA, hK, ← EReal.coe_mul]

include hA hK hμ

theorem r15 (r : Fin 8192) : (val_main_v15 (F := Ideal) x0 x1 (ix2 h r) : EReal) = (μ r : EReal) := by
  rw [v15_at, Cert.Finite.neg_inf, ← hμ r]
  exact congrArg (fun f => Finset.fold max ⊥ f Finset.univ) (funext fun c => r13 x0 x1 h A K hA hK r c)

theorem r35 (r c : Fin 8192) : (val_main_v35 (F := Ideal) x0 x1 (ix3 h r c) : EReal) = (re A K μ r c : EReal) := by
  rw [v35_at, Cert.Finite.neg_inf, r15 x0 x1 h A K μ hA hK hμ, r13 x0 x1 h A K hA hK, max_eq_right bot_le]
  exact exp_rst A K μ r c

theorem r36 (r : Fin 8192) : (val_main_v36 (F := Ideal) x0 x1 (ix2 h r) : EReal) = (rl A K μ r : EReal) := by
  rw [v36_at]
  unfold rl
  rw [coe_sum]
  exact Finset.sum_congr rfl fun c _ => r35 x0 x1 h A K μ hA hK hμ r c

theorem r39 (r c : Fin 8192) : (val_main_v39 (F := Ideal) x0 x1 (ix3 h r c) : EReal) = (rp A K μ r c : EReal) := by
  rw [v39_at, r35 x0 x1 h A K μ hA hK hμ, r36 x0 x1 h A K μ hA hK hμ, div_real _ (rl_pos A K μ r).ne']
  rfl

omit hA hK hμ in
include hW hG in
theorem r48 (r c : Fin 8192) : (val_main_v48 (F := Ideal) x2 x3 (ix3 h r c) : EReal) = (rdp W G r c : EReal) := by
  rw [v48_at]
  unfold rdp
  rw [coe_sum]
  exact Finset.sum_congr rfl fun d _ => by rw [v47_at, hG, hW, ← EReal.coe_mul]

include hW hG

theorem r54 (r : Fin 8192) : (val_main_v54 (F := Ideal) x0 x1 x2 x3 (ix2 h r) : EReal)
    = ((∑ k, rdp W G r k * (1 / (rl A K μ r * rl A K μ r)) * re A K μ r k : ℝ) : EReal) := by
  have hl := (rl_pos A K μ r).ne'
  rw [v54_at, coe_sum]
  refine Finset.sum_congr rfl fun c _ => ?_
  rw [v53_at, v42_at, r48 x2 x3 h W G hW hG, r36 x0 x1 h A K μ hA hK hμ, r35 x0 x1 h A K μ hA hK hμ, ← EReal.coe_mul, Ideal.div_coe (mul_ne_zero hl hl), one_mul,
    ← EReal.coe_mul, ← EReal.coe_mul]

theorem r64 (r c : Fin 8192) : (val_main_v64 (F := Ideal) x0 x1 x2 x3 (ix3 h r c) : EReal) = (rd A K W G μ r c : EReal) := by
  rw [v64_at]
  by_cases g : c.val ≤ r.val
  · rw [if_pos g, r54 x0 x1 x2 x3 h A K W G μ hA hK hW hG hμ, r48 x2 x3 h W G hW hG, r36 x0 x1 h A K μ hA hK hμ, r35 x0 x1 h A K μ hA hK hμ,
      Ideal.div_coe (rl_pos A K μ r).ne', ← EReal.coe_mul, ← EReal.coe_neg, ← EReal.coe_add, ← EReal.coe_mul, rd_eq]
  · rw [if_neg g, rd_zero A K W G μ g, EReal.coe_zero]

/-- The reference's gradients. -/
theorem r67 (r : Fin 8192) (x : Fin 256) : (val_main_v67 (F := Ideal) x0 x1 x2 x3 (ix3 h r x) : EReal) = ((∑ c, rd A K W G μ r c * K c x : ℝ) : EReal) := by
  rw [v67_at, coe_sum]
  exact Finset.sum_congr rfl fun c _ => by rw [r64 x0 x1 x2 x3 h A K W G μ hA hK hW hG hμ, hK, ← EReal.coe_mul]
theorem r68 (c : Fin 8192) (x : Fin 256) : (val_main_v68 (F := Ideal) x0 x1 x2 x3 (ix3 h c x) : EReal) = ((∑ r, rd A K W G μ r c * A r x : ℝ) : EReal) := by
  rw [v68_at, coe_sum]
  exact Finset.sum_congr rfl fun r _ => by rw [r64 x0 x1 x2 x3 h A K W G μ hA hK hW hG hμ, hA, ← EReal.coe_mul]
omit hW in
theorem r69 (c : Fin 8192) (d : Fin 128) : (val_main_v69 (F := Ideal) x0 x1 x3 (ix3 h c d) : EReal) = ((∑ r, rp A K μ r c * G r d : ℝ) : EReal) := by
  rw [v69_at, coe_sum]
  exact Finset.sum_congr rfl fun r _ => by rw [r39 x0 x1 h A K μ hA hK hμ, v47_at, hG, ← EReal.coe_mul, mul_comm]

omit hW hG

/-! ## The statistics -/

theorem kE (r c : Fin 8192) : (hE x0 x1 (ix3 h r c) : EReal) = (re A K μ r c : EReal) := by
  unfold hE
  rw [fE_apply, r15 x0 x1 h A K μ hA hK hμ, r13 x0 x1 h A K hA hK]
  exact exp_rst A K μ r c
theorem kL (r : Fin 8192) : (hL x0 x1 (ix2 h r) : EReal) = (rl A K μ r : EReal) := by
  unfold hL
  rw [fL_apply]
  unfold rl
  rw [coe_sum]
  exact Finset.sum_congr rfl fun c _ => kE x0 x1 h A K μ hA hK hμ r c
theorem kS (r : Fin 8192) : (hS x0 x1 (ix2 h r) : EReal) = (((μ r + Real.log (rl A K μ r)) / Real.log 2 : ℝ) : EReal) := by
  unfold hS
  rw [fS_apply, Cert.Finite.log_two, r15 x0 x1 h A K μ hA hK hμ, kL x0 x1 h A K μ hA hK hμ, Ideal.log_coe, if_neg (not_le.2 (rl_pos A K μ r)), ← EReal.coe_add,
    div_real _ log2_ne]
theorem kP (r c : Fin 8192) : (hP x0 x1 (ix3 h r c) : EReal) = (rp A K μ r c : EReal) := by
  unfold hP
  rw [fP_apply, kE x0 x1 h A K μ hA hK hμ, kL x0 x1 h A K μ hA hK hμ, div_real _ (rl_pos A K μ r).ne']
  rfl
include hW in
theorem kO (r : Fin 8192) (d : Fin 128) : (hO x0 x1 x2 (ix3 h r d) : EReal) = ((∑ c, rp A K μ r c * W c d : ℝ) : EReal) := by
  unfold hO
  rw [fO_apply, coe_sum]
  exact Finset.sum_congr rfl fun c _ => by rw [kP x0 x1 h A K μ hA hK hμ, hW, ← EReal.coe_mul]
include hW hG in
theorem kT (r : Fin 8192) : (hT x0 x1 x2 x3 (ix2 h r) : EReal) = (rt A K W G μ r : EReal) := by
  unfold hT
  rw [fT_apply, ← rt_eq, coe_sum]
  exact Finset.sum_congr rfl fun d _ => by rw [kO x0 x1 x2 h A K W μ hA hK hW hμ, hG_apply, hG, ← EReal.coe_mul]
omit hK hμ in
theorem kQ (r : Fin 8192) (x : Fin 256) : (hQ x0 (ix3 h r x) : EReal) = ((A r x / Real.log 2 : ℝ) : EReal) := by
  unfold hQ
  rw [fQ_apply, Cert.Finite.log_two, hA, div_real _ log2_ne]
end head

/-! ## The head the region reads -/

section final
variable (m : (ℓ : Loc nD τ sig) → Buf (Elt Ideal) ℓ) (c : Dev nD) (h : Fin 8)

theorem cast_at (y : FVec Ideal S8x8192 .f32) (r : Fin 8192) : (shapeCast S8x1x8192 y shapeCasts_S8x8192_S8x1x8192 : FVec Ideal S8x1x8192 .f32) (ix3 h 0 r) = y (ix2 h r) := by
  pointwise []

theorem hd_Q (r : Fin 8192) (x : Fin 256) : (hd m c h).Q r.val x = (hQ (a0 m c) (ix3 h r x) : EReal) := by
  unfold hd
  rw [V39]
  exact hdOf_Q _ _ _ _ _ _ h r.val r.isLt x
theorem hd_K (r : Fin 8192) (x : Fin 256) : (hd m c h).K r.val x = (a1 m c (ix3 h r x) : EReal) := by
  unfold hd
  rw [V40]
  exact hdOf_K _ _ _ _ _ _ h r.val r.isLt x
theorem hd_V (r : Fin 8192) (x : Fin 128) : (hd m c h).V r.val x = (a2 m c (ix3 h r x) : EReal) := by
  unfold hd
  rw [V41]
  exact hdOf_V _ _ _ _ _ _ h r.val r.isLt x
theorem hd_O (r : Fin 8192) (x : Fin 128) : (hd m c h).O r.val x = (a3 m c (ix2 r ⟨h.val * 128 + x.val, by omega⟩) : EReal) := by
  unfold hd
  rw [V42]
  exact hdOf_O _ _ _ _ _ _ h r.val r.isLt x
theorem hd_S (r : Fin 8192) : (hd m c h).S r.val = (hS (a0 m c) (a1 m c) (ix2 h r) : EReal) := by
  unfold hd
  rw [V25]
  exact (hdOf_S _ _ _ _ _ _ h r.val r.isLt).trans (cast_at h _ r)
theorem hd_T (r : Fin 8192) : (hd m c h).T r.val = (hT (a0 m c) (a1 m c) (a2 m c) (a3 m c) (ix2 h r) : EReal) := by
  unfold hd
  rw [V34]
  exact (hdOf_T _ _ _ _ _ _ h r.val r.isLt).trans (cast_at h _ r)
end final

section main
variable (m : (ℓ : Loc nD τ sig) → Buf (Elt Ideal) ℓ) (c : Dev nD)
  (h0 : ∀ i, ∃ y : ℝ, a0 m c i = (y : EReal)) (h1 : ∀ i, ∃ y : ℝ, a1 m c i = (y : EReal))
  (h2 : ∀ i, ∃ y : ℝ, a2 m c i = (y : EReal)) (h3 : ∀ i, ∃ y : ℝ, a3 m c i = (y : EReal))
include h0 h1 h2 h3

/-- A head's operands and statistics, of real numbers. -/
theorem head_real (h : Fin 8) : ∃ (A K : Fin 8192 → Fin 256 → ℝ) (W G : Fin 8192 → Fin 128 → ℝ) (μ : Fin 8192 → ℝ),
    (∀ r x, (val_main_v1 (F := Ideal) (a0 m c) (ix3 h r x) : EReal) = (A r x : EReal))
    ∧ (∀ r x, (a1 m c (ix3 h r x) : EReal) = (K r x : EReal))
    ∧ (∀ r d, (a2 m c (ix3 h r d) : EReal) = (W r d : EReal))
    ∧ (∀ (r : Fin 8192) (d : Fin 128), (a3 m c (ix2 r ⟨h.val * 128 + d.val, by omega⟩) : EReal) = (G r d : EReal))
    ∧ ∀ r, (Finset.univ : Finset (Fin 8192)).fold max ⊥ (rst A K r) = (μ r : EReal) := by
  obtain ⟨s, hs⟩ := Cert.Finite.scale
  choose X0 e0 using h0
  choose X1 e1 using h1
  choose X2 e2 using h2
  choose X3 e3 using h3
  choose μ hμ using max_real (fun r x => X0 (ix3 h r x) * s) (fun r x => X1 (ix3 h r x))
  refine ⟨_, _, fun r d => X2 (ix3 h r d), fun r d => X3 (ix2 r ⟨h.val * 128 + d.val, by omega⟩), μ, fun r x => ?_, fun r x => e1 _, fun r d => e2 _, fun r d => e3 _, hμ⟩
  rw [v1_at, hs, e0, ← EReal.coe_mul]

theorem gq_eq : gq (hd m c) = val_main_v67 (F := Ideal) (a0 m c) (a1 m c) (a2 m c) (a3 m c) := by
  funext j
  obtain ⟨h, r, x, rfl⟩ : ∃ (h : Fin 8) (r : Fin 8192) (x : Fin 256), j = ix3 h r x := ⟨j 0, j 1, j 2, eq_ix3 j⟩
  obtain ⟨A, K, W, G, μ, hA, hK, hW, hG, hμ⟩ := head_real m c h0 h1 h2 h3 h
  refine Eq.trans ?_ (r67 _ _ _ _ h A K W G μ hA hK hW hG hμ r x).symm
  exact head_q A K W G μ (hd m c h) (fun r x => (hd_Q m c h r x).trans (kQ _ h A hA r x)) (fun r x => (hd_K m c h r x).trans (hK r x))
    (fun r d => (hd_V m c h r d).trans (hW r d)) (fun r d => (hd_O m c h r d).trans (hG r d)) (fun r => (hd_S m c h r).trans (kS _ _ h A K μ hA hK hμ r))
    (fun r => (hd_T m c h r).trans (kT _ _ _ _ h A K W G μ hA hK hW hG hμ r)) r x

theorem gk_eq : gk (hd m c) = val_main_v68 (F := Ideal) (a0 m c) (a1 m c) (a2 m c) (a3 m c) := by
  funext j
  obtain ⟨h, r, x, rfl⟩ : ∃ (h : Fin 8) (r : Fin 8192) (x : Fin 256), j = ix3 h r x := ⟨j 0, j 1, j 2, eq_ix3 j⟩
  obtain ⟨A, K, W, G, μ, hA, hK, hW, hG, hμ⟩ := head_real m c h0 h1 h2 h3 h
  refine Eq.trans ?_ (r68 _ _ _ _ h A K W G μ hA hK hW hG hμ r x).symm
  exact head_k A K W G μ (hd m c h) (fun r x => (hd_Q m c h r x).trans (kQ _ h A hA r x)) (fun r x => (hd_K m c h r x).trans (hK r x))
    (fun r d => (hd_V m c h r d).trans (hW r d)) (fun r d => (hd_O m c h r d).trans (hG r d)) (fun r => (hd_S m c h r).trans (kS _ _ h A K μ hA hK hμ r))
    (fun r => (hd_T m c h r).trans (kT _ _ _ _ h A K W G μ hA hK hW hG hμ r)) r x

theorem gv_eq : gv (hd m c) = val_main_v69 (F := Ideal) (a0 m c) (a1 m c) (a3 m c) := by
  funext j
  obtain ⟨h, r, d, rfl⟩ : ∃ (h : Fin 8) (r : Fin 8192) (d : Fin 128), j = ix3 h r d := ⟨j 0, j 1, j 2, eq_ix3 j⟩
  obtain ⟨A, K, W, G, μ, hA, hK, hW, hG, hμ⟩ := head_real m c h0 h1 h2 h3 h
  refine Eq.trans ?_ (r69 _ _ _ h A K G μ hA hK hG hμ r d).symm
  exact head_v A K G μ (hd m c h) (fun r x => (hd_Q m c h r x).trans (kQ _ h A hA r x)) (fun r x => (hd_K m c h r x).trans (hK r x))
    (fun r d => (hd_O m c h r d).trans (hG r d)) (fun r => (hd_S m c h r).trans (kS _ _ h A K μ hA hK hμ r)) r d
end main

end Cert.KernelIdeal.Bwd

end
-- ==== Proof.Alg.lean ====
/- The algebraic claim. -/
module

public import proofs.«01_k».proof.Proof.Value
public import proofs.«01_k».proof.Proof.Gen.ReferenceIdeal.Run
public import proofs.«01_k».proof.Defs

@[expose] public section

set_option maxRecDepth 16384

noncomputable section

namespace Cert.KernelIdeal.Bwd

open Cert.KernelIdeal Cert.KernelIdeal.Gen
open Idealize.ShloMosaic Idealize.SL.Sem
open Idealize.ShloMosaic.TcCoe Idealize.ShloMosaic.Tactic

/-- The kernel's region ends with the three gradients of the heads it reads, and the arguments unchanged. -/
theorem run_val (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43_0) = gq (hd m c)
      ∧ r.2.mem ((c.tc : Thread nD τ).loc main_v43_1) = gk (hd m c)
      ∧ r.2.mem ((c.tc : Thread nD τ).loc main_v43_2) = gv (hd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_main m ρ)
  obtain ⟨h, -⟩ := hr
  obtain ⟨e0, e1, e2, e3⟩ := V_arg m c
  exact ⟨((h c).1 (6 : Fin 9)).trans (out6 m c), ((h c).1 (7 : Fin 9)).trans (out7 m c), ((h c).1 (8 : Fin 9)).trans (out8 m c),
    ((h c).2 main_arg0 (Pipeline.mem_restRefs_of _ rfl (show ∀ w : Fin 9, Pipeline.arrRef spec0 w ≠ main_arg0 by decide))).trans e0,
    ((h c).2 main_arg1 (Pipeline.mem_restRefs_of _ rfl (show ∀ w : Fin 9, Pipeline.arrRef spec0 w ≠ main_arg1 by decide))).trans e1,
    ((h c).2 main_arg2 (Pipeline.mem_restRefs_of _ rfl (show ∀ w : Fin 9, Pipeline.arrRef spec0 w ≠ main_arg2 by decide))).trans e2,
    ((h c).2 main_arg3 (Pipeline.mem_restRefs_of _ rfl (show ∀ w : Fin 9, Pipeline.arrRef spec0 w ≠ main_arg3 by decide))).trans e3⟩

/-- The kernel's region and the reference end with the same three gradients where the arguments are real numbers. -/
theorem algebraic : @Cert.algebraic_KernelIdeal_ReferenceIdeal_pre_finite Cert.KernelIdeal.Gen.facts Cert.ReferenceIdeal.Gen.facts Cert.Pre_finite.facts := by
  intro m g m' g' hpre hargs
  refine ⟨fun c => gq (hd m c), fun c => gk (hd m c), fun c => gv (hd m c), run_val m g, ?_⟩
  refine (θ_run _ _ _).mono (fun r hr c => ?_) (Cert.ReferenceIdeal.Value.run m' g')
  obtain ⟨q, k, v, hrest⟩ := hr c
  obtain ⟨e0, e1, e2, e3⟩ := hargs c
  obtain ⟨h0, h1, h2, h3⟩ := @Cert.Finite.reals Cert.Pre_finite.facts _ _ _ _ (hpre c)
  refine ⟨q.trans ?_, k.trans ?_, v.trans ?_, hrest⟩
  · rw [Cert.ReferenceIdeal.Read.val_main_v67_eq, e0, e1, e2, e3]
    exact (gq_eq m c h0 h1 h2 h3).symm
  · rw [Cert.ReferenceIdeal.Read.val_main_v68_eq, e0, e1, e2, e3]
    exact (gk_eq m c h0 h1 h2 h3).symm
  · rw [Cert.ReferenceIdeal.Read.val_main_v69_eq, e0, e1, e3]
    exact (gv_eq m c h0 h1 h2 h3).symm

end Cert.KernelIdeal.Bwd

end
-- ==== Proof.Fwd.Tables.lean ====
/- The prefetched tables of the attention forward call: the block of rows of q and the block of rows of k that each of
   the 36 steps of a head works on, the pipeline at these tables, and what is decided about its grid. -/
module

public import proofs.«01_k».proof.Defs
public import proofs.«01_k».proof.Proof.Gen.Kernel2Ideal
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

/-! ## The tables -/

/-- The tables and scratches the kernel is handed, whole. -/
abbrev tbM0 : Memref sig .tc .smem S36 .i32 := Memref.whole main_c
abbrev tbM1 : Memref sig .tc .smem S36 .i32 := Memref.whole main_c_0
abbrev scM0 : Memref sig .tc .vmem S4x1024x128 .f32 := Memref.whole cc0_scratch0
abbrev scM1 : Memref sig .tc .vmem S4x1024x128 .f32 := Memref.whole cc0_scratch1
abbrev scM2 : Memref sig .tc .vmem S4x1024x128 .f32 := Memref.whole cc0_scratch2

/-- The table of the rows of q, and the table of the rows of k. -/
def tbl0 : S36.Idx → BitVec 32 := fun i => lit0 (S36.rowMajor i)
def tbl1 : S36.Idx → BitVec 32 := fun i => lit1 (S36.rowMajor i)

set_option backward.proofsInPublic true in
/-- The contents of the two tables. -/
def pfN : pre0.Contents (Elt F) := fun | ⟨0, _⟩ => tbl0 | ⟨1, _⟩ => tbl1 | ⟨_ + 2, h⟩ => absurd h (by simp)

/-- The index a point of the grid reads its words at. -/
def tix (i : grid0.Coords) : S36.Idx :=
  (Rect.unit (s := S36) (k0_off1 i) S1.size (k0_off1_inb i)).emb (Shape.Idx.first (numel1_S1.symm ▸ Nat.one_pos))

/-- The block of q and the block of k of a point, as words. -/
def wq (i : grid0.Coords) : BitVec 32 := tbl0 (tix i)
def wk (i : grid0.Coords) : BitVec 32 := tbl1 (tix i)

theorem pf_atD0 (i : grid0.Coords) : (pfN (F := F)).atD 0 (k0_off1 i) = wq i := by
  have h : ∀ a : Fin 1, k0_off1 i a + 1 ≤ S36.size a := fun a => by
    have h1 : ∀ a, S1.size a = 1 := by decide
    have h := k0_off1_inb i a
    rw [h1] at h; exact h
  refine (dif_pos (c := ∀ a, k0_off1 i a + 1 ≤ (pre0.ref 0).ty.shape.size a) h).trans ?_
  show tbl0 _ = tbl0 _
  congr 1

theorem pf_atD1 (i : grid0.Coords) : (pfN (F := F)).atD 1 (k0_off1 i) = wk i := by
  have h : ∀ a : Fin 1, k0_off1 i a + 1 ≤ S36.size a := fun a => by
    have h1 : ∀ a, S1.size a = 1 := by decide
    have h := k0_off1_inb i a
    rw [h1] at h; exact h
  refine (dif_pos (c := ∀ a, k0_off1 i a + 1 ≤ (pre0.ref 1).ty.shape.size a) h).trans ?_
  show tbl1 _ = tbl1 _
  congr 1

/-! ## The blocks of a point -/

/-- The index maps: a block of rows of q, a block of rows of k, a block of rows of the output (the four heads' lanes),
    a block of the entries of the rows of log-sums. -/
def ixq3 (i : grid0.Coords) : Fin 3 → ℕ := ![(BitVec.ofNat 32 (i 0).val).toNat, (wq i).toNat, (0#32 : BitVec 32).toNat]
def ixk3 (i : grid0.Coords) : Fin 3 → ℕ := ![(BitVec.ofNat 32 (i 0).val).toNat, (wk i).toNat, (0#32 : BitVec 32).toNat]
def ixq2 (i : grid0.Coords) : Fin 2 → ℕ := ![(wq i).toNat, (BitVec.ofNat 32 (i 0).val).toNat]
def ixr3 (i : grid0.Coords) : Fin 3 → ℕ := ![(BitVec.ofNat 32 (i 0).val).toNat, (0#32 : BitVec 32).toNat, (wq i).toNat]

theorem tr0_eq (i : grid0.Coords) : cc0_transform_0 k0_off1_inb numel1_S1 (pfN (F := F)) i = ixq3 i := rfl
theorem tr1_eq (i : grid0.Coords) : cc0_transform_1 k0_off1_inb numel1_S1 (pfN (F := F)) i = ixk3 i := rfl
theorem tr2_eq (i : grid0.Coords) : cc0_transform_2 k0_off1_inb numel1_S1 (pfN (F := F)) i = ixk3 i := rfl
theorem tr3_eq (i : grid0.Coords) : cc0_transform_3 k0_off1_inb numel1_S1 (pfN (F := F)) i = ixq2 i := rfl
theorem tr4_eq (i : grid0.Coords) : cc0_transform_4 k0_off1_inb numel1_S1 (pfN (F := F)) i = ixr3 i := rfl

theorem inb0 : ∀ i : grid0.Coords, ∀ a, (ixq3 i a + 1) * S4x1024x256.size a ≤ S8x8192x256.size a := by decide +kernel
theorem inb1 : ∀ i : grid0.Coords, ∀ a, (ixk3 i a + 1) * S4x1024x256.size a ≤ S8x8192x256.size a := by decide +kernel
theorem inb2 : ∀ i : grid0.Coords, ∀ a, (ixk3 i a + 1) * S4x1024x128.size a ≤ S8x8192x128.size a := by decide +kernel
theorem inb3 : ∀ i : grid0.Coords, ∀ a, (ixq2 i a + 1) * S1024x512.size a ≤ S8192x1024.size a := by decide +kernel
theorem inb4 : ∀ i : grid0.Coords, ∀ a, (ixr3 i a + 1) * S4x1x1024.size a ≤ S8x1x8192.size a := by decide +kernel

/-- Every block lies inside its array, whole words. -/
theorem ok_pfN : ok0 (F := F) pfN := by
  refine ⟨fun i => ⟨inb0 i, .inr (Affine.block_words_dvd (s := S8x8192x256) (p := EltTy.packing .bf16) (by decide) (by decide))⟩, fun i => ⟨inb1 i, .inr (Affine.block_words_dvd (s := S8x8192x256) (p := EltTy.packing .bf16) (by decide) (by decide))⟩, fun i => ⟨inb2 i, .inr (Affine.block_words_dvd (s := S8x8192x128) (p := EltTy.packing .bf16) (by decide) (by decide))⟩, fun i => ⟨inb3 i, .inl rfl⟩, fun i => ⟨inb4 i, .inl rfl⟩⟩

/-- The tables as admissible contents, and the pipeline at them. -/
def adm : (pcfg0 (F := F)).Adm := ⟨pfN, ok_pfN⟩
abbrev cfgA : Pipeline.Cfg sig Λ₀ := cfg0 (F := F) adm
abbrev pcs : Fin 1 → Pipeline.Cfg sig Λ₀ := Pipeline.pin (pcfgs (F := F)) fun _ => adm

/-- A point's coordinates. -/
abbrev crd (t : Fin grid0.N) : grid0.Coords := grid0.coords t

/-! ## The control at a point -/

/-- The first pair of a row of blocks; a pair off the diagonal; the pair on it. -/
abbrev cond1 (i : grid0.Coords) : BitVec 1 := Scalar.cmpi .ne (Scalar.extui (Scalar.cmpi .eq (wk i) 0#32)) 0#32
abbrev cond2 (i : grid0.Coords) : BitVec 1 := Scalar.cmpi .ne (Scalar.extui (Scalar.cmpi .slt (wk i) (wq i))) 0#32

theorem cond3_iff : ∀ i : grid0.Coords, k0_cond3 (wq i) (wk i) = 1#1 ↔ ¬ cond2 i = 1#1 := by decide +kernel

theorem first0 : cond1 (crd ⟨0, by decide⟩) = 1#1 := by decide +kernel

/-! ## Where the outputs are written back -/

theorem fl3 : ∀ t : Fin grid0.N, (decide (t.val + 1 = grid0.N) || decide (∃ h : t.val + 1 < grid0.N, ixq2 (crd ⟨t.val + 1, h⟩) ≠ ixq2 (crd t))) = (k0_cond3 (wq (crd t)) (wk (crd t)) == 1#1) := by decide +kernel
theorem fl4 : ∀ t : Fin grid0.N, (decide (t.val + 1 = grid0.N) || decide (∃ h : t.val + 1 < grid0.N, ixr3 (crd ⟨t.val + 1, h⟩) ≠ ixr3 (crd t))) = (k0_cond3 (wq (crd t)) (wk (crd t)) == 1#1) := by decide +kernel

theorem flush3 (t : Fin grid0.N) : ((cfgA (F := F)).win (3 : Fin 5)).flush t = (k0_cond3 (wq (crd t)) (wk (crd t)) == 1#1) := (Bool.true_and _).trans (fl3 t)
theorem flush4 (t : Fin grid0.N) : ((cfgA (F := F)).win (4 : Fin 5)).flush t = (k0_cond3 (wq (crd t)) (wk (crd t)) == 1#1) := (Bool.true_and _).trans (fl4 t)
theorem idle3 (t : Fin grid0.N) : (cfgA (F := F)).idle (3 : Fin 5) (crd t) = !(k0_cond3 (wq (crd t)) (wk (crd t)) == 1#1) := by
  rw [← pf_atD0 (F := F), ← pf_atD1 (F := F)]; rfl
theorem idle4 (t : Fin grid0.N) : (cfgA (F := F)).idle (4 : Fin 5) (crd t) = !(k0_cond3 (wq (crd t)) (wk (crd t)) == 1#1) := by
  rw [← pf_atD0 (F := F), ← pf_atD1 (F := F)]; rfl

end Cert.Kernel2Ideal.Fwd

end
-- ==== Proof.Fwd.Body.lean ====
/- The body of the attention forward call, path by path. -/
module

public import proofs.«01_k».proof.Defs
public import proofs.«01_k».proof.Proof.Fwd.Tables
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S4x1024x256 .bf16) (harg4 : arg4.IsWhole) (arg5 : Memref sig .tc .vmem S4x1024x256 .bf16) (harg5 : arg5.IsWhole) (arg6 : Memref sig .tc .vmem S4x1024x128 .bf16) (harg6 : arg6.IsWhole) (arg7 : Memref sig .tc .vmem S1024x512 .f32) (harg7 : arg7.IsWhole) (arg8 : Memref sig .tc .vmem S4x1x1024 .f32) (harg8 : arg8.IsWhole)
  (x0 x1 : S4x1024x256.Idx → Elt F .bf16) (x2 : S4x1024x128.Idx → Elt F .bf16)

/-- The inputs at their blocks, and the body's halves of the tables. -/
def inps : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tbM0.view.loc (c : Thread nD τ) ↦{fullShare.right} tbl0)
    ∗ (tbM1.view.loc (c : Thread nD τ) ↦{fullShare.right} tbl1))

/-- The outputs' staging buffers. -/
def outs (y3 : S1024x512.Idx → Elt F .f32) (y4 : S4x1x1024.Idx → Elt F .f32) : sProp 𝕄 :=
  iprop(owns (c : Thread nD τ) arg7 fullShare y3
    ∗ owns (c : Thread nD τ) arg8 fullShare y4)

/-- The scratches. -/
def scrs (a0 a1 a2 : S4x1024x128.Idx → Elt F .f32) : sProp 𝕄 :=
  iprop((scM0.view.loc (c : Thread nD τ) ↦{fullShare} a0)
    ∗ (scM1.view.loc (c : Thread nD τ) ↦{fullShare} a1)
    ∗ (scM2.view.loc (c : Thread nD τ) ↦{fullShare} a2))

/-- The body on its staging memrefs. -/
abbrev body : Prog (TpuEff nD τ sig (Elt F) Λ₀ .tc) PUnit :=
  cc0_attn_fwd i tbM0 (Memref.isWhole_whole _) tbM1 (Memref.isWhole_whole _) arg4 harg4 arg5 harg5 arg6 harg6 arg7 harg7 arg8 harg8 scM0 (Memref.isWhole_whole _) scM1 (Memref.isWhole_whole _) scM2 (Memref.isWhole_whole _)

/-! ## The boxes that the body loads and stores -/

theorem inF : ∀ h : Fin 4, ∀ a, (![h.val, 0, 0] : Fin 3 → ℕ) a + S1x1024x128.size a ≤ S4x1024x128.size a := by decide
theorem inL : ∀ h : Fin 4, ∀ a, (![h.val, 0, 0] : Fin 3 → ℕ) a + S1x512x128.size a ≤ S4x1024x128.size a := by decide
theorem inH : ∀ h : Fin 4, ∀ a, (![h.val, 512, 0] : Fin 3 → ℕ) a + S1x512x128.size a ≤ S4x1024x128.size a := by decide
theorem inWF : ∀ h : Fin 4, ∀ a, (![h.val, 0, 0] : Fin 3 → ℕ) a + S1x1024x256.size a ≤ S4x1024x256.size a := by decide
theorem inWL : ∀ h : Fin 4, ∀ a, (![h.val, 0, 0] : Fin 3 → ℕ) a + S1x512x256.size a ≤ S4x1024x256.size a := by decide
theorem inWH : ∀ h : Fin 4, ∀ a, (![h.val, 512, 0] : Fin 3 → ℕ) a + S1x512x256.size a ≤ S4x1024x256.size a := by decide
theorem inC : ∀ h : Fin 4, ∀ a, (![0, 128 * h.val] : Fin 2 → ℕ) a + S1024x128.size a ≤ S1024x512.size a := by decide
theorem inR : ∀ h : Fin 4, ∀ a, (![h.val, 0, 0] : Fin 3 → ℕ) a + S1x1x1024.size a ≤ S4x1x1024.size a := by decide

/-- A head's rows of 128 entries, the lower half of them, the upper half; the same of the rows of 256 entries; a head's
    lanes of the output, and its row of log-sums. -/
abbrev rF (h : Fin 4) : Rect S4x1024x128 := Rect.unit (s := S4x1024x128) ![h.val, 0, 0] S1x1024x128.size (inF h)
abbrev rL (h : Fin 4) : Rect S4x1024x128 := Rect.unit (s := S4x1024x128) ![h.val, 0, 0] S1x512x128.size (inL h)
abbrev rH (h : Fin 4) : Rect S4x1024x128 := Rect.unit (s := S4x1024x128) ![h.val, 512, 0] S1x512x128.size (inH h)
abbrev rWF (h : Fin 4) : Rect S4x1024x256 := Rect.unit (s := S4x1024x256) ![h.val, 0, 0] S1x1024x256.size (inWF h)
abbrev rWL (h : Fin 4) : Rect S4x1024x256 := Rect.unit (s := S4x1024x256) ![h.val, 0, 0] S1x512x256.size (inWL h)
abbrev rWH (h : Fin 4) : Rect S4x1024x256 := Rect.unit (s := S4x1024x256) ![h.val, 512, 0] S1x512x256.size (inWH h)
abbrev rC (h : Fin 4) : Rect S1024x512 := Rect.unit (s := S1024x512) ![0, 128 * h.val] S1024x128.size (inC h)
abbrev rR (h : Fin 4) : Rect S4x1x1024 := Rect.unit (s := S4x1x1024) ![h.val, 0, 0] S1x1x1024.size (inR h)

/-! ## What a point reads of its blocks -/

/-- What one grid point reads of its blocks, head by head: the whole blocks, and the halves the diagonal point takes apart. -/
structure Ld (F : FTy → Type) where
  q : Fin 4 → Vec F S1x1024x256 .bf16
  k : Fin 4 → Vec F S1x1024x256 .bf16
  v : Fin 4 → Vec F S1x1024x128 .bf16
  ql : Fin 4 → Vec F S1x512x256 .bf16
  qh : Fin 4 → Vec F S1x512x256 .bf16
  kl : Fin 4 → Vec F S1x512x256 .bf16
  vl : Fin 4 → Vec F S1x512x128 .bf16

/-- The reads of a point whose blocks are `x0`, `x1`, `x2`. -/
def Ld.of : Ld F where
  q h := VecWindow.window x0 ![h.val, 0, 0] S1x1024x256.size (inWF h)
  k h := VecWindow.window x1 ![h.val, 0, 0] S1x1024x256.size (inWF h)
  v h := VecWindow.window x2 ![h.val, 0, 0] S1x1024x128.size (inF h)
  ql h := VecWindow.window x0 ![h.val, 0, 0] S1x512x256.size (inWL h)
  qh h := VecWindow.window x0 ![h.val, 512, 0] S1x512x256.size (inWH h)
  kl h := VecWindow.window x1 ![h.val, 0, 0] S1x512x256.size (inWL h)
  vl h := VecWindow.window x2 ![h.val, 0, 0] S1x512x128.size (inL h)

/-- The loads of the body of the staging memrefs that hold the blocks. -/
def Ld.at : Ld F where
  q h := View.readAt (Elt F) arg4.view (rWF h).toLoadRect (arg4.view.rep x0)
  k h := View.readAt (Elt F) arg5.view (rWF h).toLoadRect (arg5.view.rep x1)
  v h := View.readAt (Elt F) arg6.view (rF h).toLoadRect (arg6.view.rep x2)
  ql h := View.readAt (Elt F) arg4.view (rWL h).toLoadRect (arg4.view.rep x0)
  qh h := View.readAt (Elt F) arg4.view (rWH h).toLoadRect (arg4.view.rep x0)
  kl h := View.readAt (Elt F) arg5.view (rWL h).toLoadRect (arg5.view.rep x1)
  vl h := View.readAt (Elt F) arg6.view (rL h).toLoadRect (arg6.view.rep x2)

theorem Ld.at_eq : Ld.at arg4 arg5 arg6 x0 x1 x2 = Ld.of x0 x1 x2 := by
  unfold Ld.at Ld.of
  congr 1 <;> funext h
  · exact View.readAt_rep_unit _ _ _ rfl _
  · exact View.readAt_rep_unit _ _ _ rfl _
  · exact View.readAt_rep_unit _ _ _ rfl _
  · exact View.readAt_rep_unit _ _ _ rfl _
  · exact View.readAt_rep_unit _ _ _ rfl _
  · exact View.readAt_rep_unit _ _ _ rfl _
  · exact View.readAt_rep_unit _ _ _ rfl _

/-! ## What a point stores -/

/-- Off the diagonal: a head's row maxima, row sums and accumulated products, of its queries, keys and values and of what
    the three were. -/
def mO (q k : Vec F S1x1024x256 .bf16) (m : Vec F S1x1024x128 .f32) : Vec F S1x1024x128 .f32 := k0_pay16 (k0_pay10 q k m)
def lO (q k : Vec F S1x1024x256 .bf16) (m l : Vec F S1x1024x128 .f32) : Vec F S1x1024x128 .f32 := k0_pay14 (k0_pay11 q k m) (k0_pay13 q k m) l
def aO (q k : Vec F S1x1024x256 .bf16) (v : Vec F S1x1024x128 .bf16) (m a : Vec F S1x1024x128 .f32) : Vec F S1x1024x128 .f32 := k0_pay15 (k0_pay11 q k m) (k0_pay12 q k m) a v

/-- On the diagonal, the lower half of the rows against the lower half of the keys, -/
def mL (q k : Vec F S1x512x256 .bf16) (m : Vec F S1x512x128 .f32) : Vec F S1x512x128 .f32 := k0_pay52 (k0_pay46 q k m)
def lL (q k : Vec F S1x512x256 .bf16) (m l : Vec F S1x512x128 .f32) : Vec F S1x512x128 .f32 := k0_pay50 (k0_pay49 q k m l)
def aL (q k : Vec F S1x512x256 .bf16) (v : Vec F S1x512x128 .bf16) (m a : Vec F S1x512x128 .f32) : Vec F S1x512x128 .f32 := k0_pay51 (k0_pay47 q k m) (k0_pay48 q k m) a v

/-- and the upper half of the rows against all of them. -/
def mH (q : Vec F S1x512x256 .bf16) (k : Vec F S1x1024x256 .bf16) (m : Vec F S1x512x128 .f32) : Vec F S1x512x128 .f32 :=
  k0_pay64 (k0_pay57 (k0_pay53 q k) (k0_pay54 q k) (k0_pay55 q k) m)
def lH (q : Vec F S1x512x256 .bf16) (k : Vec F S1x1024x256 .bf16) (m l : Vec F S1x512x128 .f32) : Vec F S1x512x128 .f32 :=
  k0_pay60 (k0_pay53 q k) (k0_pay54 q k) (k0_pay55 q k) m l
def aH (q : Vec F S1x512x256 .bf16) (k : Vec F S1x1024x256 .bf16) (v : Vec F S1x1024x128 .bf16) (m a : Vec F S1x512x128 .f32) : Vec F S1x512x128 .f32 :=
  k0_pay63 (k0_pay61 (k0_pay53 q k) (k0_pay54 q k) (k0_pay55 q k) m a) (k0_pay62 (k0_pay53 q k) (k0_pay54 q k) (k0_pay55 q k) m) v

/-- The end of a row of blocks: a head's quotients, and its row of log-sums. -/
def oF (l a : Vec F S1x1024x128 .f32) : Vec F S1024x128 .f32 := k0_pay124 l a
def sF (l m : Vec F S1x1024x128 .f32) : Vec F S1x1x1024 .f32 := k0_pay126 (k0_pay125 l m)

section store
variable (L : Ld F) (b0 b1 b2 : S4x1024x128.Idx → Elt F .f32)

/-- The three scratches at the first pair of a row of blocks set to minus infinity, zero and zero, and left alone at the others. -/
def ini0 : S4x1024x128.Idx → Elt F .f32 :=
  if hc : cond1 i = 1#1 then scM0.view.writes (Elt F) b0 [⟨Rect.unit (s := S4x1024x128) ![0, 0, 0] S4x1024x128.size inb_S4x1024x128_S4x1024x128_0_0_0, k0_pay1 (F := F)⟩] else b0
def ini1 : S4x1024x128.Idx → Elt F .f32 :=
  if hc : cond1 i = 1#1 then scM1.view.writes (Elt F) b1 [⟨Rect.unit (s := S4x1024x128) ![0, 0, 0] S4x1024x128.size inb_S4x1024x128_S4x1024x128_0_0_0, k0_pay2 (F := F)⟩] else b1
def ini2 : S4x1024x128.Idx → Elt F .f32 :=
  if hc : cond1 i = 1#1 then scM2.view.writes (Elt F) b2 [⟨Rect.unit (s := S4x1024x128) ![0, 0, 0] S4x1024x128.size inb_S4x1024x128_S4x1024x128_0_0_0, k0_pay3 (F := F)⟩] else b2

/-- A head's stores off the diagonal. -/
def pO0 (h : Fin 4) : View.Piece (Elt F) S4x1024x128 .f32 := ⟨rF h, mO (L.q h) (L.k h) (View.readAt (Elt F) scM0.view (rF h).toLoadRect b0)⟩
def pO1 (h : Fin 4) : View.Piece (Elt F) S4x1024x128 .f32 :=
  ⟨rF h, lO (L.q h) (L.k h) (View.readAt (Elt F) scM0.view (rF h).toLoadRect b0) (View.readAt (Elt F) scM1.view (rF h).toLoadRect b1)⟩
def pO2 (h : Fin 4) : View.Piece (Elt F) S4x1024x128 .f32 :=
  ⟨rF h, aO (L.q h) (L.k h) (L.v h) (View.readAt (Elt F) scM0.view (rF h).toLoadRect b0) (View.readAt (Elt F) scM2.view (rF h).toLoadRect b2)⟩

/-- The scratches after a point off the diagonal. -/
def off0 : S4x1024x128.Idx → Elt F .f32 := scM0.view.writes (Elt F) scM0.view.junk [pO0 L b0 3, pO0 L b0 2, pO0 L b0 1, pO0 L b0 0]
def off1 : S4x1024x128.Idx → Elt F .f32 := scM1.view.writes (Elt F) scM1.view.junk [pO1 L b0 b1 3, pO1 L b0 b1 2, pO1 L b0 b1 1, pO1 L b0 b1 0]
def off2 : S4x1024x128.Idx → Elt F .f32 := scM2.view.writes (Elt F) scM2.view.junk [pO2 L b0 b2 3, pO2 L b0 b2 2, pO2 L b0 b2 1, pO2 L b0 b2 0]

/-- A head's stores on the diagonal, of the lower half of the rows and of the upper half. -/
def pL0 (h : Fin 4) : View.Piece (Elt F) S4x1024x128 .f32 := ⟨rL h, mL (L.ql h) (L.kl h) (View.readAt (Elt F) scM0.view (rL h).toLoadRect b0)⟩
def pL1 (h : Fin 4) : View.Piece (Elt F) S4x1024x128 .f32 :=
  ⟨rL h, lL (L.ql h) (L.kl h) (View.readAt (Elt F) scM0.view (rL h).toLoadRect b0) (View.readAt (Elt F) scM1.view (rL h).toLoadRect b1)⟩
def pL2 (h : Fin 4) : View.Piece (Elt F) S4x1024x128 .f32 :=
  ⟨rL h, aL (L.ql h) (L.kl h) (L.vl h) (View.readAt (Elt F) scM0.view (rL h).toLoadRect b0) (View.readAt (Elt F) scM2.view (rL h).toLoadRect b2)⟩
def pH0 (h : Fin 4) : View.Piece (Elt F) S4x1024x128 .f32 := ⟨rH h, mH (L.qh h) (L.k h) (View.readAt (Elt F) scM0.view (rH h).toLoadRect b0)⟩
def pH1 (h : Fin 4) : View.Piece (Elt F) S4x1024x128 .f32 :=
  ⟨rH h, lH (L.qh h) (L.k h) (View.readAt (Elt F) scM0.view (rH h).toLoadRect b0) (View.readAt (Elt F) scM1.view (rH h).toLoadRect b1)⟩
def pH2 (h : Fin 4) : View.Piece (Elt F) S4x1024x128 .f32 :=
  ⟨rH h, aH (L.qh h) (L.k h) (L.v h) (View.readAt (Elt F) scM0.view (rH h).toLoadRect b0) (View.readAt (Elt F) scM2.view (rH h).toLoadRect b2)⟩

/-- The scratches after a point on the diagonal. -/
def dia0 : S4x1024x128.Idx → Elt F .f32 := scM0.view.writes (Elt F) scM0.view.junk
  [pH0 L b0 3, pL0 L b0 3, pH0 L b0 2, pL0 L b0 2, pH0 L b0 1, pL0 L b0 1, pH0 L b0 0, pL0 L b0 0]
def dia1 : S4x1024x128.Idx → Elt F .f32 := scM1.view.writes (Elt F) scM1.view.junk
  [pH1 L b0 b1 3, pL1 L b0 b1 3, pH1 L b0 b1 2, pL1 L b0 b1 2, pH1 L b0 b1 1, pL1 L b0 b1 1, pH1 L b0 b1 0, pL1 L b0 b1 0]
def dia2 : S4x1024x128.Idx → Elt F .f32 := scM2.view.writes (Elt F) scM2.view.junk
  [pH2 L b0 b2 3, pL2 L b0 b2 3, pH2 L b0 b2 2, pL2 L b0 b2 2, pH2 L b0 b2 1, pL2 L b0 b2 1, pH2 L b0 b2 0, pL2 L b0 b2 0]

end store

/-- The stores of a head's outputs, of what the scratches hold then. -/
def pc3 (s1 s2 : S4x1024x128.Idx → Elt F .f32) (h : Fin 4) : View.Piece (Elt F) S1024x512 .f32 :=
  ⟨rC h, oF (View.readAt (Elt F) scM1.view (rF h).toLoadRect s1) (View.readAt (Elt F) scM2.view (rF h).toLoadRect s2)⟩
def pc4 (s0 s1 : S4x1024x128.Idx → Elt F .f32) (h : Fin 4) : View.Piece (Elt F) S4x1x1024 .f32 :=
  ⟨rR h, sF (View.readAt (Elt F) scM1.view (rF h).toLoadRect s1) (View.readAt (Elt F) scM0.view (rF h).toLoadRect s0)⟩

/-- The pieces of the two outputs. -/
def ps3 (s1 s2 : S4x1024x128.Idx → Elt F .f32) : List (View.Piece (Elt F) S1024x512 .f32) := [pc3 s1 s2 3, pc3 s1 s2 2, pc3 s1 s2 1, pc3 s1 s2 0]
def ps4 (s0 s1 : S4x1024x128.Idx → Elt F .f32) : List (View.Piece (Elt F) S4x1x1024 .f32) := [pc4 s0 s1 3, pc4 s0 s1 2, pc4 s0 s1 1, pc4 s0 s1 0]

end Cert.Kernel2Ideal.Fwd

end
-- ==== Proof.Fwd.RunO.lean ====
/- The body of the attention forward call, path by path. -/
module

public import proofs.«01_k».proof.Defs
public import proofs.«01_k».proof.Proof.Fwd.Body
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S4x1024x256 .bf16) (harg4 : arg4.IsWhole) (arg5 : Memref sig .tc .vmem S4x1024x256 .bf16) (harg5 : arg5.IsWhole) (arg6 : Memref sig .tc .vmem S4x1024x128 .bf16) (harg6 : arg6.IsWhole) (arg7 : Memref sig .tc .vmem S1024x512 .f32) (harg7 : arg7.IsWhole) (arg8 : Memref sig .tc .vmem S4x1x1024 .f32) (harg8 : arg8.IsWhole)
  (x0 x1 : S4x1024x256.Idx → Elt F .bf16) (x2 : S4x1024x128.Idx → Elt F .bf16)

set_option backward.proofsInPublic true in
set_option maxHeartbeats 8000000 in
/-- A point off the diagonal. -/
theorem runO (k0_h2 : cond2 i = 1#1) (k0_h3 : ¬ k0_cond3 (wq i) (wk i) = 1#1)
    (y3 : S1024x512.Idx → Elt F .f32) (y4 : S4x1x1024.Idx → Elt F .f32)
    (L : Ld F) (hL : Ld.at arg4 arg5 arg6 x0 x1 x2 = L) (a0 a1 a2 b0 b1 b2 : S4x1024x128.Idx → Elt F .f32) (h0 : ini0 i a0 = b0) (h1 : ini1 i a1 = b1) (h2 : ini2 i a2 = b2) (K : PUnit → sProp 𝕄) :
    iprop(inps c arg4 arg5 arg6 x0 x1 x2 ∗ outs c arg7 arg8 y3 y4 ∗ scrs c a0 a1 a2
      ∗ (iprop(inps c arg4 arg5 arg6 x0 x1 x2 ∗ outs c arg7 arg8 y3 y4 ∗ scrs c (off0 L b0) (off1 L b0 b1) (off2 L b0 b2)) -∗ K ⟨⟩))
      ⊢ wp frame (wpE (defs₀ (F := F)) Variants.none c none) Set.univ (body i arg4 harg4 arg5 harg5 arg6 harg6 arg7 harg7 arg8 harg8) K := by
  subst hL
  unfold inps outs scrs owns body
  rw [cc0_attn_fwd_eq_skeleton]; unfold cc0_attn_fwd_skel
  rw [k0_part1_eq_skeleton, k0_part2_eq_skeleton, k0_part3_eq_skeleton, k0_part4_eq_skeleton, k0_part5_eq_skeleton, k0_part6_eq_skeleton]
  iintro ⟨⟨H0, H1, H2, HT0, HT1⟩, ⟨⟨%f3, %hf3, HO3⟩, ⟨%f4, %hf4, HO4⟩⟩, ⟨HS0, HS1, HS2⟩, Hk⟩
  obtain rfl := harg7.eq_unread hf3; obtain rfl := harg8.eq_unread hf4
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  (set_option sl_exec.stopBefore "k0_part1" in sl_exec! (disch := first | (guard_target = ¬(k0_cond3 _ _ = _); exact k0_h3) | (guard_target = runO.sl.v9 _ = _; exact k0_h2)))
  generalize e0 : (if hc : runO.sl.v6 i = 1#1 then scM0.view.writes (Elt F) a0 [⟨Rect.unit (s := S4x1024x128) ![0, 0, 0] S4x1024x128.size inb_S4x1024x128_S4x1024x128_0_0_0, k0_pay1 (F := F)⟩] else a0) = d0
  generalize e1 : (if hc : runO.sl.v6 i = 1#1 then scM1.view.writes (Elt F) a1 [⟨Rect.unit (s := S4x1024x128) ![0, 0, 0] S4x1024x128.size inb_S4x1024x128_S4x1024x128_0_0_0, k0_pay2 (F := F)⟩] else a1) = d1
  generalize e2 : (if hc : runO.sl.v6 i = 1#1 then scM2.view.writes (Elt F) a2 [⟨Rect.unit (s := S4x1024x128) ![0, 0, 0] S4x1024x128.size inb_S4x1024x128_S4x1024x128_0_0_0, k0_pay3 (F := F)⟩] else a2) = d2
  obtain rfl : d0 = b0 := e0.symm.trans h0
  obtain rfl : d1 = b1 := e1.symm.trans h1
  obtain rfl : d2 = b2 := e2.symm.trans h2
  clear e0 e1 e2
  sl_exec! (disch := first | (guard_target = ¬(k0_cond3 _ _ = _); exact k0_h3) | (guard_target = runO.sl.v9 _ = _; exact k0_h2))
  sl_step
  iapply Hk
  isplitl [H0 H1 H2 HT0 HT1]
  · isplitl [H0]; · iexact H0
    isplitl [H1]; · iexact H1
    isplitl [H2]; · iexact H2
    isplitl [HT0]; · iexact HT0
    iexact HT1
  isplitl [HO3 HO4]
  · isplitl [HO3]
    · iexists _; isplitr; rotate_left
      · iexact HO3
      · ipureintro; exact harg7.read_unread _
    · iexists _; isplitr; rotate_left
      · iexact HO4
      · ipureintro; exact harg8.read_unread _
  isplitl [HS0]; · iexact HS0
  isplitl [HS1]; · iexact HS1
  iexact HS2

end Cert.Kernel2Ideal.Fwd

end
-- ==== Proof.Fwd.RunD.lean ====
/- The body of the attention forward call, path by path. -/
module

public import proofs.«01_k».proof.Defs
public import proofs.«01_k».proof.Proof.Fwd.Body
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (c : Dev nD) (i : grid0.Coords) (arg4 : Memref sig .tc .vmem S4x1024x256 .bf16) (harg4 : arg4.IsWhole) (arg5 : Memref sig .tc .vmem S4x1024x256 .bf16) (harg5 : arg5.IsWhole) (arg6 : Memref sig .tc .vmem S4x1024x128 .bf16) (harg6 : arg6.IsWhole) (arg7 : Memref sig .tc .vmem S1024x512 .f32) (harg7 : arg7.IsWhole) (arg8 : Memref sig .tc .vmem S4x1x1024 .f32) (harg8 : arg8.IsWhole)
  (x0 x1 : S4x1024x256.Idx → Elt F .bf16) (x2 : S4x1024x128.Idx → Elt F .bf16)

set_option backward.proofsInPublic true in
set_option maxHeartbeats 8000000 in
/-- A point on the diagonal, the last of its row of blocks: both outputs are written. -/
theorem runD (k0_h2 : ¬ cond2 i = 1#1) (k0_h3 : k0_cond3 (wq i) (wk i) = 1#1)
    (y3 : S1024x512.Idx → Elt F .f32) (y4 : S4x1x1024.Idx → Elt F .f32)
    (L : Ld F) (hL : Ld.at arg4 arg5 arg6 x0 x1 x2 = L) (a0 a1 a2 b0 b1 b2 : S4x1024x128.Idx → Elt F .f32) (h0 : ini0 i a0 = b0) (h1 : ini1 i a1 = b1) (h2 : ini2 i a2 = b2) (K : PUnit → sProp 𝕄) :
    iprop(inps c arg4 arg5 arg6 x0 x1 x2 ∗ outs c arg7 arg8 y3 y4 ∗ scrs c a0 a1 a2
      ∗ (iprop(inps c arg4 arg5 arg6 x0 x1 x2 ∗ ((arg7.view.loc (c : Thread nD τ) ↦[arg7.view.set]{fullShare} arg7.view.writes (Elt F) arg7.view.junk (ps3 (dia1 L b0 b1) (dia2 L b0 b2)))
        ∗ (arg8.view.loc (c : Thread nD τ) ↦[arg8.view.set]{fullShare} arg8.view.writes (Elt F) arg8.view.junk (ps4 (dia0 L b0) (dia1 L b0 b1)))) ∗ scrs c (dia0 L b0) (dia1 L b0 b1) (dia2 L b0 b2)) -∗ K ⟨⟩))
      ⊢ wp frame (wpE (defs₀ (F := F)) Variants.none c none) Set.univ (body i arg4 harg4 arg5 harg5 arg6 harg6 arg7 harg7 arg8 harg8) K := by
  subst hL
  unfold inps outs scrs owns body
  rw [cc0_attn_fwd_eq_skeleton]; unfold cc0_attn_fwd_skel
  rw [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  iintro ⟨⟨H0, H1, H2, HT0, HT1⟩, ⟨⟨%f3, %hf3, HO3⟩, ⟨%f4, %hf4, HO4⟩⟩, ⟨HS0, HS1, HS2⟩, Hk⟩
  obtain rfl := harg7.eq_unread hf3; obtain rfl := harg8.eq_unread hf4
  have hS0 : scM0.IsWhole := Memref.isWhole_whole _
  have hS1 : scM1.IsWhole := Memref.isWhole_whole _
  have hS2 : scM2.IsWhole := Memref.isWhole_whole _
  have hT0 : tbM0.IsWhole := Memref.isWhole_whole _
  have hT1 : tbM1.IsWhole := Memref.isWhole_whole _
  (set_option sl_exec.stopBefore "k0_part7" in sl_exec! (disch := first | (guard_target = k0_cond3 _ _ = _; exact k0_h3) | (guard_target = ¬(runD.sl.v9 _ = _); exact k0_h2)))
  generalize e0 : (if hc : runD.sl.v6 i = 1#1 then scM0.view.writes (Elt F) a0 [⟨Rect.unit (s := S4x1024x128) ![0, 0, 0] S4x1024x128.size inb_S4x1024x128_S4x1024x128_0_0_0, k0_pay1 (F := F)⟩] else a0) = d0
  generalize e1 : (if hc : runD.sl.v6 i = 1#1 then scM1.view.writes (Elt F) a1 [⟨Rect.unit (s := S4x1024x128) ![0, 0, 0] S4x1024x128.size inb_S4x1024x128_S4x1024x128_0_0_0, k0_pay2 (F := F)⟩] else a1) = d1
  generalize e2 : (if hc : runD.sl.v6 i = 1#1 then scM2.view.writes (Elt F) a2 [⟨Rect.unit (s := S4x1024x128) ![0, 0, 0] S4x1024x128.size inb_S4x1024x128_S4x1024x128_0_0_0, k0_pay3 (F := F)⟩] else a2) = d2
  obtain rfl : d0 = b0 := e0.symm.trans h0
  obtain rfl : d1 = b1 := e1.symm.trans h1
  obtain rfl : d2 = b2 := e2.symm.trans h2
  clear e0 e1 e2
  sl_exec! (disch := first | (guard_target = k0_cond3 _ _ = _; exact k0_h3) | (guard_target = ¬(runD.sl.v9 _ = _); exact k0_h2))
  sl_step
  iapply Hk
  isplitl [H0 H1 H2 HT0 HT1]
  · isplitl [H0]; · iexact H0
    isplitl [H1]; · iexact H1
    isplitl [H2]; · iexact H2
    isplitl [HT0]; · iexact HT0
    iexact HT1
  isplitl [HO3 HO4]
  · isplitl [HO3]
    · iexact HO3
    · iexact HO4
  isplitl [HS0]; · iexact HS0
  isplitl [HS1]; · iexact HS1
  iexact HS2

end Cert.Kernel2Ideal.Fwd

end
-- ==== Proof.Fwd.State.lean ====
/- The body of the attention forward call, path by path. -/
module

public import proofs.«01_k».proof.Defs
public import proofs.«01_k».proof.Proof.Fwd.RunO
public import proofs.«01_k».proof.Proof.Fwd.RunD
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ)

/-! ## A point's staging memrefs and blocks -/

abbrev ms0 (t : Fin grid0.N) : Memref sig .tc .vmem S4x1024x256 .bf16 := spec0_0.stage ((cfgA (F := F)).slots t (0 : Fin 5))
abbrev hs0 (t : Fin grid0.N) : (ms0 (F := F) t).IsWhole := hstage0_0 (((cfgA (F := F)).slots t (0 : Fin 5)).cast nbuf0_0)
abbrev ms1 (t : Fin grid0.N) : Memref sig .tc .vmem S4x1024x256 .bf16 := spec0_1.stage ((cfgA (F := F)).slots t (1 : Fin 5))
abbrev hs1 (t : Fin grid0.N) : (ms1 (F := F) t).IsWhole := hstage0_1 (((cfgA (F := F)).slots t (1 : Fin 5)).cast nbuf0_1)
abbrev ms2 (t : Fin grid0.N) : Memref sig .tc .vmem S4x1024x128 .bf16 := spec0_2.stage ((cfgA (F := F)).slots t (2 : Fin 5))
abbrev hs2 (t : Fin grid0.N) : (ms2 (F := F) t).IsWhole := hstage0_2 (((cfgA (F := F)).slots t (2 : Fin 5)).cast nbuf0_2)
abbrev ms3 (t : Fin grid0.N) : Memref sig .tc .vmem S1024x512 .f32 := spec0_3.stage ((cfgA (F := F)).slots t (3 : Fin 5))
abbrev hs3 (t : Fin grid0.N) : (ms3 (F := F) t).IsWhole := hstage0_3 (((cfgA (F := F)).slots t (3 : Fin 5)).cast nbuf0_3)
abbrev ms4 (t : Fin grid0.N) : Memref sig .tc .vmem S4x1x1024 .f32 := spec0_4.stage ((cfgA (F := F)).slots t (4 : Fin 5))
abbrev hs4 (t : Fin grid0.N) : (ms4 (F := F) t).IsWhole := hstage0_4 (((cfgA (F := F)).slots t (4 : Fin 5)).cast nbuf0_4)

/-- What a buffer holds when the region is entered. -/
def V (c : Dev nD) (b : Ref sig .tc) : Buf (Elt F) ((c.tc : Thread nD τ).loc b) := StableHlo.after hostOps0 (fun b => m (c, b)) b

/-- Window `w`'s block at point `t`. -/
def iblk (c : Dev nD) (w : Fin (cfgA (F := F)).W) (t : Fin (cfgA (F := F)).N) : (((cfgA (F := F)).win w).xblock (crd t)).Idx → Elt F ((cfgA (F := F)).win w).elt :=
  (((cfgA (F := F)).win w).blk t).view.read (Elt F) (V m c (Pipeline.arrRef spec0 w))

/-- What the body reads of the blocks of a point. -/
def blkL (c : Dev nD) (t : Fin grid0.N) : Ld F := Ld.of (iblk m c (0 : Fin 5) t) (iblk m c (1 : Fin 5) t) (iblk m c (2 : Fin 5) t)

/-! ## What the scratches hold -/

/-- The contents of the three scratches: the row maxima, the row sums and the accumulated products. -/
abbrev St (F : FTy → Type) := (S4x1024x128.Idx → Elt F .f32) × (S4x1024x128.Idx → Elt F .f32) × (S4x1024x128.Idx → Elt F .f32)

/-- The scratches as a point's loads find them. -/
def iniS (i : grid0.Coords) (s : St F) : St F := (ini0 i s.1, ini1 i s.2.1, ini2 i s.2.2)

/-- A store of a whole scratch. -/
theorem rd0 (f : S4x1024x128.Idx → Elt F .f32) : scM0.view.read (Elt F) f = f := rfl
theorem rw0 (a w : S4x1024x128.Idx → Elt F .f32) :
    scM0.view.read (Elt F) (scM0.view.writes (Elt F) a [⟨Rect.unit (s := S4x1024x128) ![0, 0, 0] S4x1024x128.size inb_S4x1024x128_S4x1024x128_0_0_0, w⟩]) = w :=
  View.read_writes_full (Val := Elt F) scM0.view a (off := ![0, 0, 0]) inb_S4x1024x128_S4x1024x128_0_0_0 w []
theorem wr0 (a w : S4x1024x128.Idx → Elt F .f32) :
    scM0.view.writes (Elt F) a [⟨Rect.unit (s := S4x1024x128) ![0, 0, 0] S4x1024x128.size inb_S4x1024x128_S4x1024x128_0_0_0, w⟩] = w :=
  (rd0 _).symm.trans (rw0 a w)
theorem rd1 (f : S4x1024x128.Idx → Elt F .f32) : scM1.view.read (Elt F) f = f := rfl
theorem rw1 (a w : S4x1024x128.Idx → Elt F .f32) :
    scM1.view.read (Elt F) (scM1.view.writes (Elt F) a [⟨Rect.unit (s := S4x1024x128) ![0, 0, 0] S4x1024x128.size inb_S4x1024x128_S4x1024x128_0_0_0, w⟩]) = w :=
  View.read_writes_full (Val := Elt F) scM1.view a (off := ![0, 0, 0]) inb_S4x1024x128_S4x1024x128_0_0_0 w []
theorem wr1 (a w : S4x1024x128.Idx → Elt F .f32) :
    scM1.view.writes (Elt F) a [⟨Rect.unit (s := S4x1024x128) ![0, 0, 0] S4x1024x128.size inb_S4x1024x128_S4x1024x128_0_0_0, w⟩] = w :=
  (rd1 _).symm.trans (rw1 a w)
theorem rd2 (f : S4x1024x128.Idx → Elt F .f32) : scM2.view.read (Elt F) f = f := rfl
theorem rw2 (a w : S4x1024x128.Idx → Elt F .f32) :
    scM2.view.read (Elt F) (scM2.view.writes (Elt F) a [⟨Rect.unit (s := S4x1024x128) ![0, 0, 0] S4x1024x128.size inb_S4x1024x128_S4x1024x128_0_0_0, w⟩]) = w :=
  View.read_writes_full (Val := Elt F) scM2.view a (off := ![0, 0, 0]) inb_S4x1024x128_S4x1024x128_0_0_0 w []
theorem wr2 (a w : S4x1024x128.Idx → Elt F .f32) :
    scM2.view.writes (Elt F) a [⟨Rect.unit (s := S4x1024x128) ![0, 0, 0] S4x1024x128.size inb_S4x1024x128_S4x1024x128_0_0_0, w⟩] = w :=
  (rd2 _).symm.trans (rw2 a w)
/-- At the first point of a row of blocks each is set. -/
theorem ini0_first (i : grid0.Coords) (h : cond1 i = 1#1) (a : S4x1024x128.Idx → Elt F .f32) : ini0 i a = k0_pay1 := by
  unfold ini0; rw [dif_pos h]; exact wr0 a _
theorem ini1_first (i : grid0.Coords) (h : cond1 i = 1#1) (a : S4x1024x128.Idx → Elt F .f32) : ini1 i a = k0_pay2 := by
  unfold ini1; rw [dif_pos h]; exact wr1 a _
theorem ini2_first (i : grid0.Coords) (h : cond1 i = 1#1) (a : S4x1024x128.Idx → Elt F .f32) : ini2 i a = k0_pay3 := by
  unfold ini2; rw [dif_pos h]; exact wr2 a _

/-- At the first point of a row of blocks they don't depend on what they held. -/
theorem iniS_first (i : grid0.Coords) (h : cond1 i = 1#1) (s s' : St F) : iniS i s = iniS i s' := by
  unfold iniS
  rw [ini0_first i h, ini1_first i h, ini2_first i h, ini0_first i h s'.1, ini1_first i h s'.2.1, ini2_first i h s'.2.2]

/-- One point's change of the scratches, from what its loads find. -/
def stepI (i : grid0.Coords) (L : Ld F) (s : St F) : St F :=
  if cond2 i = 1#1 then (off0 L s.1, off1 L s.1 s.2.1, off2 L s.1 s.2.2) else (dia0 L s.1, dia1 L s.1 s.2.1, dia2 L s.1 s.2.2)

/-- The scratches before point `n`: what the points before it leave. -/
def traj (c : Dev nD) : ℕ → St F
  | 0 => (scM0.view.junk, scM1.view.junk, scM2.view.junk)
  | n + 1 => if h : n < grid0.N then stepI (crd ⟨n, h⟩) (blkL m c ⟨n, h⟩) (iniS (crd ⟨n, h⟩) (traj c n)) else traj c n

theorem traj_succ (c : Dev nD) (t : Fin grid0.N) : traj m c (t.val + 1) = stepI (crd t) (blkL m c t) (iniS (crd t) (traj m c t.val)) := by
  rw [traj, dif_pos t.isLt]

/-- The invariant before point `t`: the scratches at what the points before it leave (anything before the first), the
    tables' halves, the generator's register. -/
def Phi (c : Dev nD) (t : Fin (grid0.N + 1)) : sProp 𝕄 :=
  iprop((∃ a0 a1 a2, ⌜t.val ≠ 0 → (a0, a1, a2) = traj m c t.val⌝ ∗ scrs c a0 a1 a2)
    ∗ (tbM0.view.loc (c : Thread nD τ) ↦{fullShare.right} tbl0)
    ∗ (tbM1.view.loc (c : Thread nD τ) ↦{fullShare.right} tbl1)
    ∗ (∃ r, prngReg c r))

/-- What a point that ends a row of blocks leaves in the two outputs' buffers. -/
@[irreducible] def out3 (s : St F) : S1024x512.Idx → Elt F .f32 := View.canon (ps3 s.2.1 s.2.2)
@[irreducible] def out4 (s : St F) : S4x1x1024.Idx → Elt F .f32 := View.canon (ps4 s.1 s.2.1)

theorem out3_eq (s : St F) : out3 s = View.canon (ps3 s.2.1 s.2.2) := by unfold out3; rfl
theorem out4_eq (s : St F) : out4 s = View.canon (ps4 s.1 s.2.1) := by unfold out4; rfl

/-- The proof data of the pipeline on core `c`. -/
def dats (_ : Fin 1) (c : Dev nD) : Dat τ (Elt F) Unit ℕ (UR sig nD τ) ℕ (cfgA (F := F)) c where
  A w := V m c (Pipeline.arrRef spec0 w)
  after w t := match w with
    | ⟨0, _⟩ => iblk m c (0 : Fin 5) t
    | ⟨1, _⟩ => iblk m c (1 : Fin 5) t
    | ⟨2, _⟩ => iblk m c (2 : Fin 5) t
    | ⟨3, _⟩ => out3 (traj m c (t.val + 1))
    | ⟨4, _⟩ => out4 (traj m c (t.val + 1))
  Φ t := Phi m c t
  q _ := fullShare
  owed _ := 0

theorem after0 (c : Dev nD) (t : Fin grid0.N) : (dats m 0 c).after (0 : Fin 5) t = iblk m c (0 : Fin 5) t := rfl
theorem after1 (c : Dev nD) (t : Fin grid0.N) : (dats m 0 c).after (1 : Fin 5) t = iblk m c (1 : Fin 5) t := rfl
theorem after2 (c : Dev nD) (t : Fin grid0.N) : (dats m 0 c).after (2 : Fin 5) t = iblk m c (2 : Fin 5) t := rfl
theorem after3 (c : Dev nD) (t : Fin grid0.N) : (dats m 0 c).after (3 : Fin 5) t = out3 (traj m c (t.val + 1)) := rfl
theorem after4 (c : Dev nD) (t : Fin grid0.N) : (dats m 0 c).after (4 : Fin 5) t = out4 (traj m c (t.val + 1)) := rfl
theorem before0 (c : Dev nD) (t : Fin grid0.N) (d) : (dats m 0 c).before (0 : Fin 5) t d = iblk m c (0 : Fin 5) t :=
  ((dats m 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin grid0.N) (d) : (dats m 0 c).before (1 : Fin 5) t d = iblk m c (1 : Fin 5) t :=
  ((dats m 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin grid0.N) (d) : (dats m 0 c).before (2 : Fin 5) t d = iblk m c (2 : Fin 5) t :=
  ((dats m 0 c).before_in_eq_fetched (2 : Fin 5) rfl (fun _ => rfl) (fun _ _ _ => rfl) (fun t => by rw [after2]; unfold Dat.blockOf iblk; rfl) t d).trans
    (by unfold Dat.fetched Dat.blockOf iblk; rfl)

set_option maxHeartbeats 8000000 in
/-- The body at point `t`, from the invariant and the staging buffers, gives them back as the proof data say. -/
theorem sound_body (c : Dev nD) (t : Fin grid0.N) :
    iprop((dats m 0 c).Φ t.castSucc ∗ (dats m 0 c).owesAt () t.castSucc
        ∗ (∃ d, owns (c : Thread nD τ) (ms0 (F := F) t) fullShare ((dats m 0 c).before (0 : Fin 5) t d))
        ∗ (∃ d, owns (c : Thread nD τ) (ms1 (F := F) t) fullShare ((dats m 0 c).before (1 : Fin 5) t d))
        ∗ (∃ d, owns (c : Thread nD τ) (ms2 (F := F) t) fullShare ((dats m 0 c).before (2 : Fin 5) t d))
        ∗ (∃ d, owns (c : Thread nD τ) (ms3 (F := F) t) fullShare ((dats m 0 c).before (3 : Fin 5) t d))
        ∗ (∃ d, owns (c : Thread nD τ) (ms4 (F := F) t) fullShare ((dats m 0 c).before (4 : Fin 5) t d)))
      ⊢ wp frame (wpE (defs₀ (F := F)) Variants.none c none) Set.univ (body (crd t) (ms0 (F := F) t) (hs0 (F := F) t) (ms1 (F := F) t) (hs1 (F := F) t) (ms2 (F := F) t) (hs2 (F := F) t) (ms3 (F := F) t) (hs3 (F := F) t) (ms4 (F := F) t) (hs4 (F := F) t)) fun _ =>
          iprop((dats m 0 c).Φ t.succ ∗ (dats m 0 c).owesAt () t.succ
            ∗ bigSep Finset.univ fun w : Fin (cfgA (F := F)).W =>
                match (cfgA (F := F)).idle w ((cfgA (F := F)).grid.coords t) with
                | true =>
                  match ((cfgA (F := F)).win w).flush t with
                  | false => iprop(∃ d, owns (c : Thread nD τ) (((cfgA (F := F)).win w).stage ((cfgA (F := F)).slots t w)) fullShare ((dats m 0 c).before w t d))
                  | true => owns (c : Thread nD τ) (((cfgA (F := F)).win w).stage ((cfgA (F := F)).slots t w)) fullShare ((dats m 0 c).after w t)
                | false => owns (c : Thread nD τ) (((cfgA (F := F)).win w).stage ((cfgA (F := F)).slots t w)) fullShare ((dats m 0 c).after w t)) := by
  rw [bigSep_W0]
  have i3 : (cfgA (F := F)).idle (3 : Fin 5) ((cfgA (F := F)).grid.coords t) = _ := idle3 (F := F) t
  have i4 : (cfgA (F := F)).idle (4 : Fin 5) ((cfgA (F := F)).grid.coords t) = _ := idle4 (F := F) t
  have f3 := flush3 (F := F) t
  have f4 := flush4 (F := F) t
  have e2 : (dats m 0 c).Φ t.succ = Phi m c t.succ := rfl
  have e1 : (dats m 0 c).Φ t.castSucc = Phi m c t.castSucc := rfl
  have e0 : (dats m 0 c).owesAt () t.succ = (dats m 0 c).owesAt () t.castSucc := rfl
  have est : traj m c t.succ.val = stepI (crd t) (blkL m c t) (iniS (crd t) (traj m c t.val)) := traj_succ m c t
  have hini : ∀ a : St F, (t.castSucc.val ≠ 0 → a = traj m c t.castSucc.val) → iniS (crd t) (traj m c t.val) = iniS (crd t) a := fun a ha => by
    by_cases ht : t.val = 0
    · exact iniS_first _ (by rw [show t = ⟨0, by decide⟩ from Fin.ext ht]; exact first0) _ _
    · rw [ha ht]; rfl
  by_cases h2 : cond2 (crd t) = 1#1
  · have h3 : ¬ k0_cond3 (wq (crd t)) (wk (crd t)) = 1#1 := fun h => (cond3_iff _).1 h h2
    have b3 : (k0_cond3 (wq (crd t)) (wk (crd t)) == 1#1) = false := beq_eq_false_iff_ne.2 h3
    rw [b3] at i3 i4 f3 f4
    unfold stepI at est
    rw [if_pos h2] at est
    rewrite [i3]
    simp only [Bool.not_true, Bool.not_false, before0, before1, before2, after0, after1, after2, after3, after4, f3, f4]
    rewrite [e2, e1, e0]
    unfold Phi
    iintro ⟨⟨⟨%a0, %a1, %a2, %ha, HS⟩, HT0, HT1, HR⟩, Ho, ⟨%d0, H0⟩, ⟨%d1, H1⟩, ⟨%d2, H2⟩, ⟨%d3, H3⟩, ⟨%d4, H4⟩⟩
    rw [hini _ ha] at est
    iapply (runO c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (iblk m c (0 : Fin 5) t) (iblk m c (1 : Fin 5) t) (iblk m c (2 : Fin 5) t) h2 h3 _ _ (blkL m c t) (Ld.at_eq _ _ _ _ _ _) a0 a1 a2 _ _ _ rfl rfl rfl _)
    isplitl [H0 H1 H2 HT0 HT1]
    · unfold inps
      isplitl [H0]; · iapply rep_of_owns; iexact H0
      isplitl [H1]; · iapply rep_of_owns; iexact H1
      isplitl [H2]; · iapply rep_of_owns; iexact H2
      isplitl [HT0]; · iexact HT0
      iexact HT1
    isplitl [H3 H4]
    · unfold outs
      isplitl [H3]; · iexact H3
      iexact H4
    isplitl [HS]; · iexact HS
    unfold inps outs
    iintro ⟨⟨H0, H1, H2, HT0, HT1⟩, ⟨H3, H4⟩, HS⟩
    isplitl [HS HT0 HT1 HR]
    · isplitl [HS]
      · iexists _; iexists _; iexists _; isplitr; rotate_left
        · iexact HS
        · ipureintro; intro _; exact est.symm
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    isplitl [H3]
    · iexists d3; iexact H3
    iexists d4; iexact H4
  · have h3 := (cond3_iff _).2 h2
    have b3 : (k0_cond3 (wq (crd t)) (wk (crd t)) == 1#1) = true := beq_iff_eq.2 h3
    rw [b3] at i3 i4 f3 f4
    unfold stepI at est
    rw [if_neg h2] at est
    rewrite [i3]
    simp only [Bool.not_true, Bool.not_false, before0, before1, before2, after0, after1, after2, after3, after4, f3, f4]
    rewrite [e2, e1, e0]
    unfold Phi
    iintro ⟨⟨⟨%a0, %a1, %a2, %ha, HS⟩, HT0, HT1, HR⟩, Ho, ⟨%d0, H0⟩, ⟨%d1, H1⟩, ⟨%d2, H2⟩, ⟨%d3, H3⟩, ⟨%d4, H4⟩⟩
    rw [hini _ ha] at est
    have est' : traj m c (t.val + 1) = (dia0 (blkL m c t) (ini0 (crd t) a0), dia1 (blkL m c t) (ini0 (crd t) a0) (ini1 (crd t) a1), dia2 (blkL m c t) (ini0 (crd t) a0) (ini2 (crd t) a2)) := est
    have o3 : out3 (traj m c (t.val + 1)) = View.canon (ps3 (dia1 (blkL m c t) (ini0 (crd t) a0) (ini1 (crd t) a1)) (dia2 (blkL m c t) (ini0 (crd t) a0) (ini2 (crd t) a2))) := by
      rw [est', out3_eq]
    have o4 : out4 (traj m c (t.val + 1)) = View.canon (ps4 (dia0 (blkL m c t) (ini0 (crd t) a0)) (dia1 (blkL m c t) (ini0 (crd t) a0) (ini1 (crd t) a1))) := by
      rw [est', out4_eq]
    iapply (runD c (crd t) (ms0 (F := F) t) (hs0 (F := F) t) (ms1 (F := F) t) (hs1 (F := F) t) (ms2 (F := F) t) (hs2 (F := F) t) (ms3 (F := F) t) (hs3 (F := F) t) (ms4 (F := F) t) (hs4 (F := F) t) (iblk m c (0 : Fin 5) t) (iblk m c (1 : Fin 5) t) (iblk m c (2 : Fin 5) t) h2 h3 _ _ (blkL m c t) (Ld.at_eq _ _ _ _ _ _) a0 a1 a2 _ _ _ rfl rfl rfl _)
    isplitl [H0 H1 H2 HT0 HT1]
    · unfold inps
      isplitl [H0]; · iapply rep_of_owns; iexact H0
      isplitl [H1]; · iapply rep_of_owns; iexact H1
      isplitl [H2]; · iapply rep_of_owns; iexact H2
      isplitl [HT0]; · iexact HT0
      iexact HT1
    isplitl [H3 H4]
    · unfold outs
      isplitl [H3]; · iexact H3
      iexact H4
    isplitl [HS]; · iexact HS
    unfold inps
    iintro ⟨⟨H0, H1, H2, HT0, HT1⟩, ⟨H3, H4⟩, HS⟩
    isplitl [HS HT0 HT1 HR]
    · isplitl [HS]
      · iexists _; iexists _; iexists _; isplitr; rotate_left
        · iexact HS
        · ipureintro; intro _; exact est.symm
      isplitl [HT0]; · iexact HT0
      isplitl [HT1]; · iexact HT1
      iexact HR
    isplitl [Ho]; · iexact Ho
    isplitl [H0]; · iapply owns_of_rep; iexact H0
    isplitl [H1]; · iapply owns_of_rep; iexact H1
    isplitl [H2]; · iapply owns_of_rep; iexact H2
    rw [o3, o4]
    generalize ps3 (dia1 (blkL m c t) (ini0 (crd t) a0) (ini1 (crd t) a1)) (dia2 (blkL m c t) (ini0 (crd t) a0) (ini2 (crd t) a2)) = P3
    generalize ps4 (dia0 (blkL m c t) (ini0 (crd t) a0)) (dia1 (blkL m c t) (ini0 (crd t) a0) (ini1 (crd t) a1)) = P4
    isplitl [H3]
    · unfold owns; iexists _; isplitr; rotate_left
      · iexact H3
      · ipureintro; exact View.read_writes_junk_eq_canon _ _
    · unfold owns; iexists _; isplitr; rotate_left
      · iexact H4
      · ipureintro; exact View.read_writes_junk_eq_canon _ _

end Cert.Kernel2Ideal.Fwd

end
-- ==== Proof.Fwd.Frame.lean ====
/- The body of the attention forward call, path by path. -/
module

public import proofs.«01_k».proof.Defs
public import proofs.«01_k».proof.Proof.Fwd.Body
public import proofs.«01_k».proof.Proof.Fwd.State
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.PureOps.BitExact
public import Idealize.ShloMosaic.Adequacy
public import Idealize.ShloMosaic.Init

@[expose] public section

set_option maxRecDepth 16384
set_option Elab.async false

noncomputable section

namespace Cert.Kernel2Ideal.Fwd

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
theorem body_obligation (c : Dev nD) : BodyObligation (dats m 0 c) (defs₀ (F := F)) Variants.none () Set.univ := fun t => by
  rw [bigSep_W0]
  exact sound_body m c t

theorem share_eq (c : Dev nD) (w : Fin (cfgA (F := F)).W) : (dats m 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi_in (c : Dev nD) :
    iprop(Pipeline.ΦA (Val := Elt F) (U := UR sig nD τ) spec0 c ∗ Pipeline.ΦT pre0 (adm (F := F)).1 c) ⊢ (dats m 0 c).Φ 0 := by
  unfold Pipeline.ΦA Pipeline.ΦT
  rw [show (dats m 0 c).Φ 0 = Phi m c 0 from rfl]
  unfold Phi
  rw [prefHeld_eq, scopedRest0_eq]
  unfold scrs
  iintro ⟨⟨⟨⟨%a0, HS0⟩, ⟨%a1, HS1⟩, ⟨%a2, HS2⟩⟩, HR⟩, ⟨HT0, HT1⟩⟩
  isplitl [HS0 HS1 HS2]
  · iexists a0; iexists a1; iexists a2
    isplitr
    · ipureintro; intro h; exact absurd rfl h
    isplitl [HS0]; · iexact HS0
    isplitl [HS1]; · iexact HS1
    iexact HS2
  isplitl [HT0]; · iexact HT0
  isplitl [HT1]; · iexact HT1
  iexact HR

theorem phi_out (c : Dev nD) : (dats m 0 c).Φ (Fin.last (cfgA (F := F)).N) ⊢ Pipeline.ΦA (Val := Elt F) (U := UR sig nD τ) spec0 c := by
  unfold Pipeline.ΦA
  rw [show (dats m 0 c).Φ (Fin.last (cfgA (F := F)).N) = Phi m c (Fin.last _) from rfl]
  unfold Phi
  rw [scopedRest0_eq]
  unfold scrs
  iintro ⟨⟨%a0, %a1, %a2, -, HS0, HS1, HS2⟩, -, -, HR⟩
  isplitr [HR]
  · isplitl [HS0]
    · iexists a0; iexact HS0
    isplitl [HS1]
    · iexists a1; iexact HS1
    iexists a2; iexact HS2
  iexact HR

set_option maxHeartbeats 4000000 in
theorem V_pre (c : Dev nD) (k : Fin 2) : V m c (pre0.ref k) = (adm (F := F)).1 k := by
  fin_cases k
  · show StableHlo.after hostOps0 (fun b => m (c, b)) main_c = tbl0
    after_results_simp <;> rfl
  · show StableHlo.after hostOps0 (fun b => m (c, b)) main_c_0 = tbl1
    after_results_simp <;> rfl

set_option backward.isDefEq.respectTransparency.types false in
set_option maxHeartbeats 4000000 in
/-- From any memory with zero counters every weakly fair execution of @main terminates, with each array at the computed
    contents, every other buffer as when the region was entered, and every counter at zero. -/
theorem run_main : θ_run (defs (F := F)) (onTc (τ := τ) (main (F := F))) ⟨m, fun _ => 0, ρ⟩
    (fun r => Pipeline.FramePost (Pipeline.pin (pcfgs (F := F)) fun _ => adm) (dats m) 0 (V m) r ∧ r.2.sem = fun _ => 0) :=
  Pipeline.θ_run_frameP_track (Q' := _) (pcfgs (F := F)) (fun _ => adm) (dats m) (0 : Fin 1) launch0 defs₀ Variants.none m ρ main
    (fun c => (body_obligation m c).loose) (share_eq m) (fun _ _ => rfl) (V m)
    (Pipeline.hmainP_prefix (pcfgs (F := F)) (0 : Fin 1) defs₀ Variants.none m main hostOps0 hostOps0_sub (by repeat' constructor) main_chain)
    (fun _ _ => rfl) (V_pre m) (phi_in m) (phi_out m) (hQ' := fun _ h => h)

set_option maxHeartbeats 4000000 in
/-- What the arguments hold when the region is entered: what they held at the start. -/
theorem V_arg (c : Dev nD) : V m c main_arg0 = m ((c : Thread nD τ).loc main_arg0) ∧ V m c main_arg1 = m ((c : Thread nD τ).loc main_arg1)
    ∧ V m c main_arg2 = m ((c : Thread nD τ).loc main_arg2) := by
  unfold V
  refine ⟨?_, ?_, ?_⟩ <;> (after_results_simp <;> rfl)

/-- The run ends with the arguments unchanged and every counter at zero. -/
theorem frame_main : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of _ rfl (show ∀ w : Fin 5, Pipeline.arrRef spec0 w ≠ main_arg0 by decide))).trans (V_arg m c).1,
     ((h.1 c).2 main_arg1 (Pipeline.mem_restRefs_of _ rfl (show ∀ w : Fin 5, Pipeline.arrRef spec0 w ≠ main_arg1 by decide))).trans (V_arg m c).2.1,
     ((h.1 c).2 main_arg2 (Pipeline.mem_restRefs_of _ rfl (show ∀ w : Fin 5, Pipeline.arrRef spec0 w ≠ main_arg2 by decide))).trans (V_arg m c).2.2⟩, h.2⟩) (run_main m ρ)

end Cert.Kernel2Ideal.Fwd

end
-- ==== Proof.Fwd.Pre.lean ====
/- The side conditions of the forward call's precondition, what it says of an argument, and the runs of its reference with its counters. -/
module

public import proofs.«01_k».proof.Proof.Fin
public import proofs.«01_k».proof.Proof.Gen.Reference2Ideal
public import proofs.«01_k».proof.Proof.Gen.Reference2Ideal.Run

@[expose] public section

noncomputable section

open Idealize.ShloMosaic Idealize.ShloMosaic.TcCoe Idealize.SL.Sem

namespace Cert.Pre_finite2

/-- The shape relations the precondition's operations take. -/
theorem facts : Cert.Pre_finite2.Facts where
  bcast_S_S8x8192x256 := by decide
  reducesTo_S8x8192x256_S_d0_1_2 := by decide
  h_S_ := by decide
  bcast_S_S8x8192x128 := by decide
  reducesTo_S8x8192x128_S_d0_1_2 := by decide

end Cert.Pre_finite2

namespace Cert.Finite

open Cert.Pre_finite2 in
/-- Where the precondition holds every argument's entries are real numbers. -/
theorem reals2 [Facts] (x0 x1 : FVec Ideal S8x8192x256 .f32) (x2 : FVec Ideal S8x8192x128 .f32) (h : fn (F := Ideal) x0 x1 x2 = fun _ => 1#1) :
    (∀ i, ∃ y : ℝ, x0 i = (y : EReal)) ∧ (∀ i, ∃ y : ℝ, x1 i = (y : EReal)) ∧ ∀ i, ∃ y : ℝ, x2 i = (y : EReal) := by
  have hj := congrFun h (fun a => a.elim0)
  dsimp only [fn] at hj
  obtain ⟨hj, h2⟩ := IntOp.andi_eq_one.1 hj
  obtain ⟨h0, h1⟩ := IntOp.andi_eq_one.1 hj
  haveI : Subsingleton S_.Idx := ⟨fun a b => funext fun t => t.elim0⟩
  exact ⟨fun i => real_of_abs (Host.reduce_andi_all _ _ _ _ _ h0 i), fun i => real_of_abs (Host.reduce_andi_all _ _ _ _ _ h1 i),
    fun i => real_of_abs (Host.reduce_andi_all _ _ _ _ _ h2 i)⟩

end Cert.Finite

namespace Cert.Reference2Ideal.Value

open Cert.Reference2Ideal Cert.Reference2Ideal.Gen

/-- The reference ends with its arguments unchanged and every counter at zero: it has none. -/
theorem frame_main {F : FTy → Type} [FloatOps F] [Named F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2, sem_eq_zero_of_no_sems (by decide) r.2⟩) (run m ρ)

end Cert.Reference2Ideal.Value

end
-- ==== Proof.Fwd.Pay.lean ====
/- The values of the forward call's body read at an index, over the extended reals. -/
module

public import proofs.«01_k».proof.Proof.Fwd.Body
public import Idealize.ShloMosaic.Lib.Pointwise

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic

/-- Comparing two small row numbers as words. -/
theorem sge_word (a b : ℕ) (ha : a < 4096) (hb : b < 4096) :
    IntOp.cmpi CmpIPredicate.sge (BitVec.ofNat 32 a) (BitVec.ofNat 32 b) = BitVec.ofBool (decide (b ≤ a)) := by
  simp only [IntOp.cmpi]
  congr 1
  rw [Bool.eq_iff_iff]
  simp only [BitVec.sle_iff_toInt_le, decide_eq_true_eq]
  rw [BitVec.toInt_eq_toNat_of_lt (by rw [BitVec.toNat_ofNat]; omega), BitVec.toInt_eq_toNat_of_lt (by rw [BitVec.toNat_ofNat]; omega)]
  simp only [BitVec.toNat_ofNat]
  omega

theorem select_ofBool {α : Type} (p : Prop) [Decidable p] (x y : α) : Scalar.select (BitVec.ofBool (decide p)) x y = if p then x else y := by
  by_cases h : p
  · simp only [h, decide_true, if_true]; rfl
  · simp only [h, decide_false, if_false]; rfl

theorem mask_eq : (Named.named κ "mask" 0xF149F2CA#32 : Ideal .f32) = (⊥ : EReal) :=
  IdealRules.named_const.ideal_named_scalar _ _ _ _ rfl

theorem rln2_eq : (Named.named κ "rln2" 0x3FB8AA3B#32 : Ideal .f32) = (((Real.log 2)⁻¹ : ℝ) : EReal) :=
  IdealRules.named_const.ideal_named_scalar _ _ _ _ rfl

/-- A lane of a column. -/
def lane (c : ℕ) : Fin 128 := ⟨c % 128, Nat.mod_lt _ (by decide)⟩

/-- The greatest of the entries of a lane, and their sum, in rows of 1024 and of 512. -/
def mx8 (f : Fin 1024 → EReal) (x : Fin 128) : EReal :=
  max (max (max (max (max (max (max (f ⟨x.val, by omega⟩) (f ⟨128 + x.val, by omega⟩)) (f ⟨256 + x.val, by omega⟩)) (f ⟨384 + x.val, by omega⟩)) (f ⟨512 + x.val, by omega⟩))
    (f ⟨640 + x.val, by omega⟩)) (f ⟨768 + x.val, by omega⟩)) (f ⟨896 + x.val, by omega⟩)
def mx4 (f : Fin 512 → EReal) (x : Fin 128) : EReal :=
  max (max (max (f ⟨x.val, by omega⟩) (f ⟨128 + x.val, by omega⟩)) (f ⟨256 + x.val, by omega⟩)) (f ⟨384 + x.val, by omega⟩)
def sm8 (f : Fin 1024 → EReal) (x : Fin 128) : EReal :=
  f ⟨x.val, by omega⟩ + f ⟨128 + x.val, by omega⟩ + f ⟨256 + x.val, by omega⟩ + f ⟨384 + x.val, by omega⟩ + f ⟨512 + x.val, by omega⟩
    + f ⟨640 + x.val, by omega⟩ + f ⟨768 + x.val, by omega⟩ + f ⟨896 + x.val, by omega⟩
def sm4 (f : Fin 512 → EReal) (x : Fin 128) : EReal :=
  f ⟨x.val, by omega⟩ + f ⟨128 + x.val, by omega⟩ + f ⟨256 + x.val, by omega⟩ + f ⟨384 + x.val, by omega⟩

/-! ## The initial contents -/

theorem pay1_apply (h : Fin 4) (r : Fin 1024) (d : Fin 128) : (k0_pay1 (F := Ideal) (ix3 h r d) : EReal) = ⊥ := by
  pointwise [k0_pay1]
  exact mask_eq
theorem pay2_apply (h : Fin 4) (r : Fin 1024) (d : Fin 128) : (k0_pay2 (F := Ideal) (ix3 h r d) : EReal) = 0 := by
  pointwise [k0_pay2]
theorem pay3_apply (h : Fin 4) (r : Fin 1024) (d : Fin 128) : (k0_pay3 (F := Ideal) (ix3 h r d) : EReal) = 0 := by
  pointwise [k0_pay3]

/-! ## Off the diagonal -/

section off
variable (q k : Vec Ideal S1x1024x256 .bf16) (v : Vec Ideal S1x1024x128 .bf16) (m l a : Vec Ideal S1x1024x128 .f32)

theorem pay8_apply (r c : Fin 1024) : (k0_pay8 q k (ix2 r c) : EReal) = ∑ x : Fin 256, q (ix3 0 r x) * k (ix3 0 c x) := by
  pointwise [k0_pay8]
theorem pay10_apply (r : Fin 1024) (d : Fin 128) : (k0_pay10 q k m (ix2 r d) : EReal)
    = max (m (ix3 0 r d) : EReal) (Finset.univ.fold max (Ideal.ofBits .f32 0xFF800000#32) (mx8 fun c => (k0_pay8 q k (ix2 r c) : EReal))) := by
  pointwise [k0_pay10, k0_pay9]
  rfl
theorem pay12_apply (r c : Fin 1024) : (k0_pay12 q k m (ix2 r c) : EReal) = Ideal.exp2 ((k0_pay8 q k (ix2 r c) : EReal) - k0_pay10 q k m (ix2 r (lane c.val))) := by
  pointwise [k0_pay12]
  refine congrArg (fun z : EReal => Ideal.exp2 ((k0_pay8 q k (ix2 r c) : EReal) - z)) ?_
  split_ifs <;> exact congrArg (fun z => (k0_pay10 q k m (ix2 r z) : EReal)) (Fin.ext (by show _ = c.val % 128; simp only []; omega))
theorem mO_apply (r : Fin 1024) (d : Fin 128) : (mO q k m (ix3 0 r d) : EReal) = k0_pay10 q k m (ix2 r d) := by
  pointwise [mO, k0_pay16]
theorem lO_apply (r : Fin 1024) (d : Fin 128) : (lO q k m l (ix3 0 r d) : EReal)
    = Ideal.exp2 ((m (ix3 0 r d) : EReal) - k0_pay10 q k m (ix2 r d)) * l (ix3 0 r d) + sm8 (fun c => (k0_pay12 q k m (ix2 r c) : EReal)) d := by
  pointwise [lO, k0_pay14, k0_pay11, k0_pay9, k0_pay13]
  rfl
theorem aO_apply (r : Fin 1024) (d : Fin 128) : (aO q k v m a (ix3 0 r d) : EReal)
    = Ideal.exp2 ((m (ix3 0 r d) : EReal) - k0_pay10 q k m (ix2 r d)) * a (ix3 0 r d) + ∑ c : Fin 1024, (k0_pay12 q k m (ix2 r c) : EReal) * v (ix3 0 c d) := by
  pointwise [aO, k0_pay15, k0_pay11, k0_pay9]
  try rfl
end off

/-! ## On the diagonal, the lower half of the rows -/

section low
variable (q k : Vec Ideal S1x512x256 .bf16) (v : Vec Ideal S1x512x128 .bf16) (m l a : Vec Ideal S1x512x128 .f32)

theorem pay44_apply (r c : Fin 512) : (k0_pay44 q k (ix2 r c) : EReal) = if c.val ≤ r.val then ∑ x : Fin 256, q (ix3 0 r x) * k (ix3 0 c x) else ⊥ := by
  pointwise [k0_pay44]
  rw [mask_eq]
  simp only [IntOp.addi, BitVec.add_zero]
  rw [sge_word _ _ (by omega) (by omega), select_ofBool]
theorem pay46_apply (r : Fin 512) (d : Fin 128) : (k0_pay46 q k m (ix2 r d) : EReal)
    = max (m (ix3 0 r d) : EReal) (Finset.univ.fold max (Ideal.ofBits .f32 0xFF800000#32) (mx4 fun c => (k0_pay44 q k (ix2 r c) : EReal))) := by
  pointwise [k0_pay46, k0_pay45]
  rfl
theorem pay48_apply (r c : Fin 512) : (k0_pay48 q k m (ix2 r c) : EReal) = Ideal.exp2 ((k0_pay44 q k (ix2 r c) : EReal) - k0_pay46 q k m (ix2 r (lane c.val))) := by
  pointwise [k0_pay48]
  refine congrArg (fun z : EReal => Ideal.exp2 ((k0_pay44 q k (ix2 r c) : EReal) - z)) ?_
  split_ifs <;> exact congrArg (fun z => (k0_pay46 q k m (ix2 r z) : EReal)) (Fin.ext (by show _ = c.val % 128; simp only []; omega))
theorem mL_apply (r : Fin 512) (d : Fin 128) : (mL q k m (ix3 0 r d) : EReal) = k0_pay46 q k m (ix2 r d) := by
  pointwise [mL, k0_pay52]
theorem lL_apply (r : Fin 512) (d : Fin 128) : (lL q k m l (ix3 0 r d) : EReal)
    = Ideal.exp2 ((m (ix3 0 r d) : EReal) - k0_pay46 q k m (ix2 r d)) * l (ix3 0 r d) + sm4 (fun c => (k0_pay48 q k m (ix2 r c) : EReal)) d := by
  pointwise [lL, k0_pay50, k0_pay49, k0_pay47, k0_pay45]
  rfl
theorem aL_apply (r : Fin 512) (d : Fin 128) : (aL q k v m a (ix3 0 r d) : EReal)
    = Ideal.exp2 ((m (ix3 0 r d) : EReal) - k0_pay46 q k m (ix2 r d)) * a (ix3 0 r d) + ∑ c : Fin 512, (k0_pay48 q k m (ix2 r c) : EReal) * v (ix3 0 c d) := by
  pointwise [aL, k0_pay51, k0_pay47, k0_pay45]
  try rfl
end low

/-! ## On the diagonal, the upper half of the rows -/

section high
variable (q : Vec Ideal S1x512x256 .bf16) (k : Vec Ideal S1x1024x256 .bf16) (v : Vec Ideal S1x1024x128 .bf16) (m l a : Vec Ideal S1x512x128 .f32)

/-- The new maxima and the weights. -/
abbrev hM : FVec Ideal S512x128 .f32 := k0_pay57 (k0_pay53 q k) (k0_pay54 q k) (k0_pay55 q k) m
abbrev hP : FVec Ideal S512x1024 .f32 := k0_pay59 (k0_pay53 q k) (k0_pay54 q k) (k0_pay55 q k) m

theorem pay53_apply (r : Fin 512) (c : Fin 1024) : (k0_pay53 q k (ix2 r c) : EReal) = if c.val ≤ r.val + 512 then ∑ x : Fin 256, q (ix3 0 r x) * k (ix3 0 c x) else ⊥ := by
  pointwise [k0_pay53]
  rw [mask_eq]
  have e : ∀ n : ℕ, IntOp.addi (BitVec.ofNat 32 n) 512#32 = BitVec.ofNat 32 (n + 512) := fun n => by
    unfold IntOp.addi; exact (BitVec.ofNat_add n 512).symm
  rw [e, sge_word _ _ (by omega) (by omega), select_ofBool]
theorem hM_apply (r : Fin 512) (d : Fin 128) : (hM q k m (ix2 r d) : EReal)
    = max (m (ix3 0 r d) : EReal) (Finset.univ.fold max (Ideal.ofBits .f32 0xFF800000#32) (mx8 fun c => (k0_pay53 q k (ix2 r c) : EReal))) := by
  pointwise [hM, k0_pay57, k0_pay54, k0_pay55, k0_pay56]
  rfl
theorem hP_apply (r : Fin 512) (c : Fin 1024) : (hP q k m (ix2 r c) : EReal) = Ideal.exp2 ((k0_pay53 q k (ix2 r c) : EReal) - hM q k m (ix2 r (lane c.val))) := by
  unfold hP hM
  generalize k0_pay53 q k = x
  generalize k0_pay54 q k = y
  generalize k0_pay55 q k = z
  pointwise [k0_pay59]
  refine congrArg (fun w : EReal => Ideal.exp2 ((x (ix2 r c) : EReal) - w)) ?_
  split_ifs <;> exact congrArg (fun w => (k0_pay57 x y z m (ix2 r w) : EReal)) (Fin.ext (by show _ = c.val % 128; simp only []; omega))
theorem mH_apply (r : Fin 512) (d : Fin 128) : (mH q k m (ix3 0 r d) : EReal) = hM q k m (ix2 r d) := by
  pointwise [mH, k0_pay64]
theorem lH_apply (r : Fin 512) (d : Fin 128) : (lH q k m l (ix3 0 r d) : EReal)
    = Ideal.exp2 ((m (ix3 0 r d) : EReal) - hM q k m (ix2 r d)) * l (ix3 0 r d) + sm8 (fun c => (hP q k m (ix2 r c) : EReal)) d := by
  pointwise [lH, k0_pay60, k0_pay58, k0_pay56]
  rfl
theorem aH_apply (r : Fin 512) (d : Fin 128) : (aH q k v m a (ix3 0 r d) : EReal)
    = Ideal.exp2 ((m (ix3 0 r d) : EReal) - hM q k m (ix2 r d)) * a (ix3 0 r d) + ∑ c : Fin 1024, (hP q k m (ix2 r c) : EReal) * v (ix3 0 c d) := by
  pointwise [aH, k0_pay63, k0_pay61, k0_pay62, k0_pay58, k0_pay56]
  try rfl
end high

/-! ## The outputs -/

section out
variable (m l a : Vec Ideal S1x1024x128 .f32)
theorem oF_apply (r : Fin 1024) (d : Fin 128) : (oF l a (ix2 r d) : EReal) = Ideal.div (a (ix3 0 r d)) (∑ x, (l (ix3 0 r x) : EReal)) := by
  pointwise [oF, k0_pay124, k0_pay123]
theorem sF_apply (r : Fin 1024) : (sF l m (ix3 0 0 r) : EReal) = (m (ix3 0 r 0) : EReal) + Ideal.log (∑ x, (l (ix3 0 r x) : EReal)) * (((Real.log 2)⁻¹ : ℝ) : EReal) := by
  pointwise [sF, k0_pay126, k0_pay125, k0_pay123]
  rw [rln2_eq]
end out

end Cert.Kernel2Ideal.Fwd

end
-- ==== Proof.Fwd.Row.lean ====
/- The running maximum, sum and products of one row, over the reals. -/
module

public import proofs.«01_k».proof.Proof.Fwd.Pay
public import proofs.«01_k».proof.Proof.Fin
public import Mathlib.Algebra.BigOperators.Intervals

@[expose] public section

set_option maxRecDepth 16384

noncomputable section

namespace Cert.Kernel2Ideal.Fwd

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of entries below infinity of which one is above minus infinity. -/
theorem fold_real (f : Fin 128 → EReal) (h1 : ∀ x, f x < ⊤) (h2 : ⊥ < f 0) :
    ∃ g : ℝ, Finset.univ.fold max (Ideal.ofBits .f32 0xFF800000#32) f = (g : EReal) := by
  rw [Cert.Finite.neg_inf]
  have a1 : Finset.univ.fold max ⊥ f < ⊤ := by
    rw [Finset.fold_max_lt]
    exact ⟨bot_lt_top, fun c _ => h1 c⟩
  have a2 : ⊥ < Finset.univ.fold max ⊥ f := by
    rw [Finset.lt_fold_max]
    exact Or.inr ⟨0, Finset.mem_univ _, h2⟩
  exact ⟨_, (EReal.coe_toReal a1.ne a2.ne').symm⟩

theorem mx8_real (f : Fin 1024 → EReal) (h1 : ∀ c, f c < ⊤) (h2 : ⊥ < f 0) :
    ∃ g : ℝ, Finset.univ.fold max (Ideal.ofBits .f32 0xFF800000#32) (mx8 f) = (g : EReal) := by
  refine fold_real _ (fun x => ?_) ?_
  · unfold mx8
    simp only [max_lt_iff, h1, and_self]
  · unfold mx8
    simp only [lt_max_iff]
    exact Or.inl (Or.inl (Or.inl (Or.inl (Or.inl (Or.inl (Or.inl h2))))))
theorem mx4_real (f : Fin 512 → EReal) (h1 : ∀ c, f c < ⊤) (h2 : ⊥ < f 0) :
    ∃ g : ℝ, Finset.univ.fold max (Ideal.ofBits .f32 0xFF800000#32) (mx4 f) = (g : EReal) := by
  refine fold_real _ (fun x => ?_) ?_
  · unfold mx4
    simp only [max_lt_iff, h1, and_self]
  · unfold mx4
    simp only [lt_max_iff]
    exact Or.inl (Or.inl (Or.inl h2))

theorem sm8_eq (f : ℕ → EReal) (x : Fin 128) : sm8 (fun c => f c.val) x = ∑ j ∈ Finset.range 8, f (128 * j + x.val) := by
  unfold sm8
  simp only [Finset.sum_range_succ, Finset.sum_range_zero, zero_add, Nat.mul_zero, Nat.mul_one, Nat.reduceMul]
theorem sm4_eq (f : ℕ → EReal) (x : Fin 128) : sm4 (fun c => f c.val) x = ∑ j ∈ Finset.range 4, f (128 * j + x.val) := by
  unfold sm4
  simp only [Finset.sum_range_succ, Finset.sum_range_zero, zero_add, Nat.mul_zero, Nat.mul_one, Nat.reduceMul]

/-- A row: its scores, the values, and its number. -/
structure Row where
  σ : ℕ → ℝ
  V : ℕ → Fin 128 → ℝ
  R : ℕ

section row
variable (W : Row)

/-- A score, with the keys after the row masked. -/
def Row.s (c : ℕ) : EReal := if c ≤ W.R then (W.σ c : EReal) else ⊥
/-- The weight of a key against the score `μ`. -/
def Row.w (μ : ℝ) (c : ℕ) : ℝ := if c ≤ W.R then (2 : ℝ) ^ (W.σ c - μ) else 0

theorem Row.exp2_s (μ : ℝ) (c : ℕ) : Ideal.exp2 (W.s c - (μ : EReal)) = (W.w μ c : EReal) := by
  unfold Row.s Row.w
  split
  · rw [← EReal.coe_sub, Ideal.exp2_coe]; rfl
  · rw [EReal.bot_sub, Ideal.exp2_bot, EReal.coe_zero]

theorem Row.w_mul (μ μ' : ℝ) (c : ℕ) : (2 : ℝ) ^ (μ - μ') * W.w μ c = W.w μ' c := by
  unfold Row.w
  split
  · rw [← Real.rpow_add two_pos]; congr 1; ring
  · rw [mul_zero]

theorem Row.s_lt (c : ℕ) : W.s c < ⊤ := by
  unfold Row.s
  split
  · exact EReal.coe_lt_top _
  · exact bot_lt_top
theorem Row.s_gt {c : ℕ} (h : c ≤ W.R) : ⊥ < W.s c := by
  unfold Row.s
  rw [if_pos h]
  exact EReal.bot_lt_coe _

/-- The three rows after `n` groups of 128 keys: nothing, or the sums against one score, the same in all lanes. -/
def RowI (n : ℕ) (m l a : Fin 128 → EReal) : Prop :=
  (n = 0 ∧ (∀ d, m d = ⊥) ∧ (∀ d, l d = 0) ∧ ∀ d, a d = 0)
  ∨ ∃ μ : ℝ, (∀ d, m d = (μ : EReal)) ∧ (∀ d, l d = ((∑ j ∈ Finset.range n, W.w μ (128 * j + d.val) : ℝ) : EReal))
    ∧ ∀ d, a d = ((∑ c ∈ Finset.range (128 * n), W.w μ c * W.V c d : ℝ) : EReal)

/-- Rescaled, and with `J` groups of keys more. -/
structure Upd (n J : ℕ) (m l a m' l' a' : Fin 128 → EReal) : Prop where
  hm : ∃ g : ℝ, ∀ d, m' d = max (m d) (g : EReal)
  hl : ∀ d, l' d = Ideal.exp2 (m d - m' d) * l d + ∑ j ∈ Finset.range J, Ideal.exp2 (W.s (128 * (n + j) + d.val) - m' d)
  ha : ∀ d, a' d = Ideal.exp2 (m d - m' d) * a d + ∑ c ∈ Finset.range (128 * J), Ideal.exp2 (W.s (128 * n + c) - m' (lane c)) * (W.V (128 * n + c) d : EReal)

variable {W}

theorem RowI.step {n J : ℕ} {m l a m' l' a' : Fin 128 → EReal} (I : RowI W n m l a) (U : Upd W n J m l a m' l' a') : RowI W (n + J) m' l' a' := by
  right
  obtain ⟨g, hg⟩ := U.hm
  have key : ∀ μ' : ℝ, (∀ d, m' d = (μ' : EReal)) →
      (∀ d, ∑ j ∈ Finset.range J, Ideal.exp2 (W.s (128 * (n + j) + d.val) - m' d) = ((∑ j ∈ Finset.range J, W.w μ' (128 * (n + j) + d.val) : ℝ) : EReal))
      ∧ ∀ d, ∑ c ∈ Finset.range (128 * J), Ideal.exp2 (W.s (128 * n + c) - m' (lane c)) * (W.V (128 * n + c) d : EReal)
          = ((∑ c ∈ Finset.range (128 * J), W.w μ' (128 * n + c) * W.V (128 * n + c) d : ℝ) : EReal) := fun μ' h => by
    refine ⟨fun d => ?_, fun d => ?_⟩
    · rw [coe_sum]
      exact Finset.sum_congr rfl fun j _ => by rw [h, W.exp2_s]
    · rw [coe_sum]
      exact Finset.sum_congr rfl fun c _ => by rw [h, W.exp2_s, ← EReal.coe_mul]
  rcases I with ⟨rfl, h1, h2, h3⟩ | ⟨μ, h1, h2, h3⟩
  · have hm' : ∀ d, m' d = (g : EReal) := fun d => by rw [hg, h1, max_eq_right bot_le]
    obtain ⟨k1, k2⟩ := key g hm'
    refine ⟨g, hm', fun d => ?_, fun d => ?_⟩
    · rw [U.hl, k1, h2, mul_zero, zero_add]
      simp only [Nat.zero_add]
    · rw [U.ha, k2, h3, mul_zero, zero_add]
      simp only [Nat.zero_add, Nat.mul_zero]
  · have hm' : ∀ d, m' d = ((max μ g : ℝ) : EReal) := fun d => by rw [hg, h1]; exact (EReal.coe_strictMono.monotone.map_max).symm
    obtain ⟨k1, k2⟩ := key _ hm'
    have ex : ∀ d, Ideal.exp2 (m d - m' d) = (((2 : ℝ) ^ (μ - max μ g) : ℝ) : EReal) := fun d => by
      rw [h1, hm', ← EReal.coe_sub, Ideal.exp2_coe]; rfl
    refine ⟨max μ g, hm', fun d => ?_, fun d => ?_⟩
    · rw [U.hl, k1, h2, ex, ← EReal.coe_mul, ← EReal.coe_add, Finset.sum_range_add, Finset.mul_sum]
      simp only [W.w_mul]
    · rw [U.ha, k2, h3, ex, ← EReal.coe_mul, ← EReal.coe_add, Nat.mul_add, Finset.sum_range_add, Finset.mul_sum]
      simp only [← mul_assoc, W.w_mul]

/-- Groups of masked keys change nothing. -/
theorem RowI.extend {n : ℕ} {m l a : Fin 128 → EReal} (I : RowI W n m l a) (h0 : n ≠ 0) (J : ℕ) (h : W.R < 128 * n) : RowI W (n + J) m l a := by
  rcases I with ⟨rfl, -⟩ | ⟨μ, h1, h2, h3⟩
  · exact absurd rfl h0
  have z : ∀ c, 128 * n ≤ c → W.w μ c = 0 := fun c hc => by
    unfold Row.w
    rw [if_neg (by omega)]
  refine Or.inr ⟨μ, h1, fun d => ?_, fun d => ?_⟩
  · rw [h2, Finset.sum_range_add, Finset.sum_eq_zero (s := Finset.range J) fun j _ => z _ (by rw [Nat.mul_add]; omega), add_zero]
  · rw [h3, Nat.mul_add, Finset.sum_range_add, Finset.sum_eq_zero (s := Finset.range (128 * J)) fun j _ => by rw [z _ (by omega), zero_mul], add_zero]

theorem sum_lanes (f : ℕ → ℝ) (n : ℕ) : ∑ d : Fin 128, ∑ j ∈ Finset.range n, f (128 * j + d.val) = ∑ c ∈ Finset.range (128 * n), f c := by
  induction n with
  | zero => simp
  | succ n ih =>
    simp only [Finset.sum_range_succ, Finset.sum_add_distrib]
    rw [ih, Nat.mul_add, Nat.mul_one, Finset.sum_range_add, Finset.sum_range (fun x => f (128 * n + x))]

/-- The sum of the weights, and the row's outputs. -/
def Row.l (W : Row) (N : ℕ) : ℝ := ∑ c ∈ Finset.range N, W.w 0 c
def Row.o (W : Row) (N : ℕ) (d : Fin 128) : ℝ := (∑ c ∈ Finset.range N, W.w 0 c * W.V c d) / W.l N
def Row.t (W : Row) (N : ℕ) : ℝ := Real.log (W.l N) / Real.log 2

theorem Row.w_nonneg (μ : ℝ) (c : ℕ) : 0 ≤ W.w μ c := by
  unfold Row.w
  split
  · exact (Real.rpow_pos_of_pos two_pos _).le
  · exact le_rfl

theorem Row.l_pos {N : ℕ} (h : 0 < N) : 0 < W.l N := by
  unfold Row.l
  refine Finset.sum_pos' (fun c _ => W.w_nonneg 0 c) ⟨0, Finset.mem_range.2 h, ?_⟩
  unfold Row.w
  rw [if_pos (Nat.zero_le _)]
  exact Real.rpow_pos_of_pos two_pos _

theorem div_real (x : ℝ) {y : ℝ} (h : y ≠ 0) : Ideal.div (x : EReal) (y : EReal) = ((x / y : ℝ) : EReal) := by
  rw [Ideal.div_coe h, ← EReal.coe_mul]
  congr 1
  ring

theorem log2_ne : Real.log 2 ≠ 0 := (Real.log_pos one_lt_two).ne'

/-- The outputs are the same against any score. -/
theorem RowI.out {n : ℕ} {m l a : Fin 128 → EReal} (I : RowI W n m l a) (h0 : 0 < n) :
    (∀ d, Ideal.div (a d) (∑ x, l x) = (W.o (128 * n) d : EReal))
    ∧ ∀ d, m d + Ideal.log (∑ x, l x) * (((Real.log 2)⁻¹ : ℝ) : EReal) = (W.t (128 * n) : EReal) := by
  rcases I with ⟨rfl, -⟩ | ⟨μ, h1, h2, h3⟩
  · exact absurd h0 (lt_irrefl _)
  have p := W.l_pos (N := 128 * n) (by omega)
  have e2 : (0 : ℝ) < (2 : ℝ) ^ (0 - μ) := Real.rpow_pos_of_pos two_pos _
  have es : ∑ x, l x = (((2 : ℝ) ^ (0 - μ) * W.l (128 * n) : ℝ) : EReal) := by
    simp only [h2]
    rw [← coe_sum, sum_lanes]
    congr 1
    unfold Row.l
    rw [Finset.mul_sum]
    exact Finset.sum_congr rfl fun c _ => (W.w_mul 0 μ c).symm
  refine ⟨fun d => ?_, fun d => ?_⟩
  · rw [es, h3, div_real _ (mul_pos e2 p).ne']
    congr 1
    unfold Row.o
    have : ∑ c ∈ Finset.range (128 * n), W.w μ c * W.V c d = (2 : ℝ) ^ (0 - μ) * ∑ c ∈ Finset.range (128 * n), W.w 0 c * W.V c d := by
      rw [Finset.mul_sum]
      exact Finset.sum_congr rfl fun c _ => by rw [← mul_assoc, W.w_mul]
    rw [this, mul_div_mul_left _ _ e2.ne']
  · rw [es, h1, Ideal.log_coe, if_neg (not_le.2 (mul_pos e2 p)), ← EReal.coe_mul, ← EReal.coe_add]
    congr 1
    unfold Row.t
    rw [Real.log_mul e2.ne' p.ne', Real.log_rpow two_pos]
    have := log2_ne
    field_simp
    ring
end row

end Cert.Kernel2Ideal.Fwd

end
-- ==== Proof.Fwd.Step.lean ====
/- One point's change of the scratches of the forward call, row by row: the sums run over one block of keys more. -/
module

public import proofs.«01_k».proof.Proof.Fwd.Row
public import Idealize.ShloMosaic.Lib.Pipeline.Value
public import Idealize.ShloMosaic.Lib.Pipeline.FrameBody

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic

/-- A head's queries, keys and values. -/
structure Hd where
  Q : ℕ → Fin 256 → ℝ
  K : ℕ → Fin 256 → ℝ
  V : ℕ → Fin 128 → ℝ

/-- A query's row. -/
def Hd.row (H : Hd) (R : ℕ) : Row where
  σ c := ∑ x, H.Q R x * H.K c x
  V := H.V
  R := R

/-- The blocks read are row block `i` of the queries and row block `j` of the keys of four heads. -/
structure Blk (H : Fin 4 → Hd) (i j : ℕ) (L : Ld Ideal) : Prop where
  q : ∀ (h : Fin 4) (r : Fin 1024) (x : Fin 256), (L.q h (ix3 0 r x) : EReal) = ((H h).Q (i * 1024 + r.val) x : EReal)
  k : ∀ (h : Fin 4) (c : Fin 1024) (x : Fin 256), (L.k h (ix3 0 c x) : EReal) = ((H h).K (j * 1024 + c.val) x : EReal)
  v : ∀ (h : Fin 4) (c : Fin 1024) (x : Fin 128), (L.v h (ix3 0 c x) : EReal) = ((H h).V (j * 1024 + c.val) x : EReal)
  ql : ∀ (h : Fin 4) (r : Fin 512) (x : Fin 256), (L.ql h (ix3 0 r x) : EReal) = ((H h).Q (i * 1024 + r.val) x : EReal)
  qh : ∀ (h : Fin 4) (r : Fin 512) (x : Fin 256), (L.qh h (ix3 0 r x) : EReal) = ((H h).Q (i * 1024 + (512 + r.val)) x : EReal)
  kl : ∀ (h : Fin 4) (c : Fin 512) (x : Fin 256), (L.kl h (ix3 0 c x) : EReal) = ((H h).K (j * 1024 + c.val) x : EReal)
  vl : ∀ (h : Fin 4) (c : Fin 512) (x : Fin 128), (L.vl h (ix3 0 c x) : EReal) = ((H h).V (j * 1024 + c.val) x : EReal)

/-! ## A row's change -/

theorem lane_add (j : ℕ) (d : Fin 128) : lane (128 * j + d.val) = d := by
  apply Fin.ext
  show (128 * j + d.val) % 128 = d.val
  omega

section upd
variable {W : Row} {n : ℕ} (m l a M L A : Fin 128 → EReal)

theorem upd8 (s p : Fin 1024 → EReal) (v : Fin 1024 → Fin 128 → EReal) (hs : ∀ c, s c = W.s (128 * n + c.val)) (hv : ∀ c d, v c d = (W.V (128 * n + c.val) d : EReal))
    (h0 : 128 * n ≤ W.R) (hM : ∀ d, M d = max (m d) (Finset.univ.fold max (Ideal.ofBits .f32 0xFF800000#32) (mx8 s)))
    (hp : ∀ c, p c = Ideal.exp2 (s c - M (lane c.val))) (hL : ∀ d, L d = Ideal.exp2 (m d - M d) * l d + sm8 p d)
    (hA : ∀ d, A d = Ideal.exp2 (m d - M d) * a d + ∑ c, p c * v c d) : Upd W n 8 m l a M L A where
  hm := by
    obtain ⟨g, hg⟩ := mx8_real s (fun c => by rw [hs]; exact W.s_lt _) (by rw [hs]; exact W.s_gt h0)
    exact ⟨g, fun d => by rw [hM, hg]⟩
  hl d := by
    have hpf : p = fun c : Fin 1024 => (fun k : ℕ => Ideal.exp2 (W.s (128 * n + k) - M (lane k))) c.val := funext fun c => by rw [hp, hs]
    rw [hL, hpf]
    refine congrArg (_ + ·) ((sm8_eq (fun k : ℕ => Ideal.exp2 (W.s (128 * n + k) - M (lane k))) d).trans (Finset.sum_congr rfl fun j _ => ?_))
    show Ideal.exp2 (W.s (128 * n + (128 * j + d.val)) - M (lane (128 * j + d.val))) = _
    rw [lane_add, Nat.mul_add, Nat.add_assoc]
  ha d := by
    rw [hA, Finset.sum_range]
    exact congrArg (_ + ·) (Finset.sum_congr rfl fun c _ => by rw [hp, hs, hv])

theorem upd4 (s p : Fin 512 → EReal) (v : Fin 512 → Fin 128 → EReal) (hs : ∀ c, s c = W.s (128 * n + c.val)) (hv : ∀ c d, v c d = (W.V (128 * n + c.val) d : EReal))
    (h0 : 128 * n ≤ W.R) (hM : ∀ d, M d = max (m d) (Finset.univ.fold max (Ideal.ofBits .f32 0xFF800000#32) (mx4 s)))
    (hp : ∀ c, p c = Ideal.exp2 (s c - M (lane c.val))) (hL : ∀ d, L d = Ideal.exp2 (m d - M d) * l d + sm4 p d)
    (hA : ∀ d, A d = Ideal.exp2 (m d - M d) * a d + ∑ c, p c * v c d) : Upd W n 4 m l a M L A where
  hm := by
    obtain ⟨g, hg⟩ := mx4_real s (fun c => by rw [hs]; exact W.s_lt _) (by rw [hs]; exact W.s_gt h0)
    exact ⟨g, fun d => by rw [hM, hg]⟩
  hl d := by
    have hpf : p = fun c : Fin 512 => (fun k : ℕ => Ideal.exp2 (W.s (128 * n + k) - M (lane k))) c.val := funext fun c => by rw [hp, hs]
    rw [hL, hpf]
    refine congrArg (_ + ·) ((sm4_eq (fun k : ℕ => Ideal.exp2 (W.s (128 * n + k) - M (lane k))) d).trans (Finset.sum_congr rfl fun j _ => ?_))
    show Ideal.exp2 (W.s (128 * n + (128 * j + d.val)) - M (lane (128 * j + d.val))) = _
    rw [lane_add, Nat.mul_add, Nat.add_assoc]
  ha d := by
    rw [hA, Finset.sum_range]
    exact congrArg (_ + ·) (Finset.sum_congr rfl fun c _ => by rw [hp, hs, hv])
end upd

/-- A masked score, from the blocks. -/
theorem score (H : Hd) (R c : ℕ) (q k : Fin 256 → EReal) (hq : ∀ x, q x = (H.Q R x : EReal)) (hk : ∀ x, k x = (H.K c x : EReal)) (p : Prop) [Decidable p] (hp : p ↔ c ≤ R) :
    (if p then ∑ x, q x * k x else ⊥) = (H.row R).s c := by
  unfold Row.s
  refine if_congr hp ?_ rfl
  rw [show (H.row R).σ c = ∑ x, H.Q R x * H.K c x from rfl, coe_sum]
  exact Finset.sum_congr rfl fun x _ => by rw [hq, hk, ← EReal.coe_mul]

section rows
variable {H : Fin 4 → Hd} {i j : ℕ} {L : Ld Ideal} (B : Blk H i j L) (h : Fin 4)

include B in
theorem upd_off (hj : j < i) (r : Fin 1024) (m l a : Vec Ideal S1x1024x128 .f32) :
    Upd ((H h).row (i * 1024 + r.val)) (8 * j) 8 (fun d => (m (ix3 0 r d) : EReal)) (fun d => (l (ix3 0 r d) : EReal)) (fun d => (a (ix3 0 r d) : EReal))
      (fun d => (mO (L.q h) (L.k h) m (ix3 0 r d) : EReal)) (fun d => (lO (L.q h) (L.k h) m l (ix3 0 r d) : EReal)) (fun d => (aO (L.q h) (L.k h) (L.v h) m a (ix3 0 r d) : EReal)) := by
  have e : ∀ c : ℕ, 128 * (8 * j) + c = j * 1024 + c := fun c => by omega
  refine upd8 _ _ _ _ _ _ (fun c => (k0_pay8 (L.q h) (L.k h) (ix2 r c) : EReal)) (fun c => (k0_pay12 (L.q h) (L.k h) m (ix2 r c) : EReal)) (fun c d => (L.v h (ix3 0 c d) : EReal))
    (fun c => ?_) (fun c d => ?_) ?_ (fun d => ?_) (fun c => ?_) (fun d => ?_) (fun d => ?_)
  · rw [e, pay8_apply, ← score (H h) _ _ _ _ (fun x => B.q h r x) (fun x => B.k h c x) True (by have := c.isLt; simp only [true_iff]; omega), if_pos trivial]
  · rw [e, B.v]; rfl
  · show 128 * (8 * j) ≤ i * 1024 + r.val
    omega
  · rw [mO_apply, pay10_apply]
  · rw [pay12_apply, mO_apply]
  · rw [mO_apply, lO_apply]
  · rw [mO_apply, aO_apply]

include B in
theorem upd_low (hj : j = i) (r : Fin 512) (m l a : Vec Ideal S1x512x128 .f32) :
    Upd ((H h).row (i * 1024 + r.val)) (8 * i) 4 (fun d => (m (ix3 0 r d) : EReal)) (fun d => (l (ix3 0 r d) : EReal)) (fun d => (a (ix3 0 r d) : EReal))
      (fun d => (mL (L.ql h) (L.kl h) m (ix3 0 r d) : EReal)) (fun d => (lL (L.ql h) (L.kl h) m l (ix3 0 r d) : EReal)) (fun d => (aL (L.ql h) (L.kl h) (L.vl h) m a (ix3 0 r d) : EReal)) := by
  subst hj
  have e : ∀ c : ℕ, 128 * (8 * j) + c = j * 1024 + c := fun c => by omega
  refine upd4 _ _ _ _ _ _ (fun c => (k0_pay44 (L.ql h) (L.kl h) (ix2 r c) : EReal)) (fun c => (k0_pay48 (L.ql h) (L.kl h) m (ix2 r c) : EReal)) (fun c d => (L.vl h (ix3 0 c d) : EReal))
    (fun c => ?_) (fun c d => ?_) ?_ (fun d => ?_) (fun c => ?_) (fun d => ?_) (fun d => ?_)
  · rw [e, pay44_apply, ← score (H h) _ _ _ _ (fun x => B.ql h r x) (fun x => B.kl h c x) (c.val ≤ r.val) (by omega)]
  · rw [e, B.vl]; rfl
  · show 128 * (8 * j) ≤ j * 1024 + r.val
    omega
  · rw [mL_apply, pay46_apply]
  · rw [pay48_apply, mL_apply]
  · rw [mL_apply, lL_apply]
  · rw [mL_apply, aL_apply]

include B in
theorem upd_high (hj : j = i) (r : Fin 512) (m l a : Vec Ideal S1x512x128 .f32) :
    Upd ((H h).row (i * 1024 + (512 + r.val))) (8 * i) 8 (fun d => (m (ix3 0 r d) : EReal)) (fun d => (l (ix3 0 r d) : EReal)) (fun d => (a (ix3 0 r d) : EReal))
      (fun d => (mH (L.qh h) (L.k h) m (ix3 0 r d) : EReal)) (fun d => (lH (L.qh h) (L.k h) m l (ix3 0 r d) : EReal)) (fun d => (aH (L.qh h) (L.k h) (L.v h) m a (ix3 0 r d) : EReal)) := by
  subst hj
  have e : ∀ c : ℕ, 128 * (8 * j) + c = j * 1024 + c := fun c => by omega
  refine upd8 _ _ _ _ _ _ (fun c => (k0_pay53 (L.qh h) (L.k h) (ix2 r c) : EReal)) (fun c => (hP (L.qh h) (L.k h) m (ix2 r c) : EReal)) (fun c d => (L.v h (ix3 0 c d) : EReal))
    (fun c => ?_) (fun c d => ?_) ?_ (fun d => ?_) (fun c => ?_) (fun d => ?_) (fun d => ?_)
  · rw [e, pay53_apply, ← score (H h) _ _ _ _ (fun x => B.qh h r x) (fun x => B.k h c x) (c.val ≤ r.val + 512) (by omega)]
  · rw [e, B.v]; rfl
  · show 128 * (8 * j) ≤ j * 1024 + (512 + r.val)
    omega
  · rw [mH_apply, hM_apply]
  · rw [hP_apply, mH_apply]
  · rw [mH_apply, lH_apply]
  · rw [mH_apply, aH_apply]
end rows

/-! ## The pieces of a store, at an index -/

theorem mem_of {S : Shape} (R : Rect S) (x : R.shape.Idx) (y : S.Idx) (h : R.emb x = y) : y ∈ R.set := h ▸ R.idx_mem x

/-- Four heads' rows. -/
theorem full4 (w : Fin 4 → S1x1024x128.Idx → EReal) (h : Fin 4) (r : Fin 1024) (d : Fin 128) :
    (View.canon (Val := Elt Ideal) (e := .f32) [⟨rF 3, w 3⟩, ⟨rF 2, w 2⟩, ⟨rF 1, w 1⟩, ⟨rF 0, w 0⟩] (ix3 h r d) : EReal) = w h (ix3 0 r d) := by
  have e : ∀ (k : Fin 4) (x : S1x1024x128.Idx), ((rF k).emb x : S4x1024x128.Idx) = ix3 k (x 1) (x 2) := fun k x => by
    funext a
    apply Fin.ext
    fin_cases a
    · show k.val + 1 * (x 0).val = k.val
      have h : (x 0).val < 1 := (x 0).isLt
      omega
    · show 0 + 1 * (x 1).val = (x 1).val
      omega
    · show 0 + 1 * (x 2).val = (x 2).val
      omega
  have g : ∀ (k : Fin 4) (x : S1x1024x128.Idx), w k x = w ((rF k).emb x 0) (ix3 0 ((rF k).emb x 1) ((rF k).emb x 2)) := fun k x => by
    rw [e k x]
    obtain ⟨x0, x1, x2, rfl⟩ : ∃ (x0 : Fin 1) (x1 : Fin 1024) (x2 : Fin 128), x = ix3 x0 x1 x2 := ⟨x 0, x 1, x 2, eq_ix3 x⟩
    obtain rfl : x0 = 0 := Subsingleton.elim _ _
    rfl
  refine View.canon_apply_of_pieces (Val := Elt Ideal) (e := .f32) (fun y : S4x1024x128.Idx => w (y 0) (ix3 0 (y 1) (y 2))) _ (fun p hp => ?_) (ix3 h r d)
    ⟨⟨rF h, w h⟩, by fin_cases h <;> simp, mem_of _ (ix3 (0 : Fin 1) r d : S1x1024x128.Idx) _ (e h _)⟩
  simp only [List.mem_cons, List.not_mem_nil, or_false] at hp
  rcases hp with rfl | rfl | rfl | rfl
  · exact g 3
  · exact g 2
  · exact g 1
  · exact g 0

theorem embL (k : Fin 4) (x : S1x512x128.Idx) : ((rL k).emb x : S4x1024x128.Idx) = ix3 k (⟨(x 1).val, Nat.lt_trans (x 1).isLt (by decide)⟩ : Fin 1024) (x 2) := by
  funext a
  apply Fin.ext
  fin_cases a
  · show k.val + 1 * (x 0).val = k.val
    have h : (x 0).val < 1 := (x 0).isLt
    omega
  · show 0 + 1 * (x 1).val = (x 1).val
    omega
  · show 0 + 1 * (x 2).val = (x 2).val
    omega
theorem embH (k : Fin 4) (x : S1x512x128.Idx) : ((rH k).emb x : S4x1024x128.Idx) = ix3 k (⟨512 + (x 1).val, Nat.add_lt_add_left (x 1).isLt 512⟩ : Fin 1024) (x 2) := by
  funext a
  apply Fin.ext
  fin_cases a
  · show k.val + 1 * (x 0).val = k.val
    have h : (x 0).val < 1 := (x 0).isLt
    omega
  · show 512 + 1 * (x 1).val = 512 + (x 1).val
    omega
  · show 0 + 1 * (x 2).val = (x 2).val
    omega

/-- Four heads' rows in two halves. -/
def half (w u : Fin 4 → S1x512x128.Idx → EReal) (y : S4x1024x128.Idx) : EReal :=
  if (y 1).val < 512 then w (y 0) (ix3 0 ⟨(y 1).val % 512, Nat.mod_lt _ (by decide)⟩ (y 2)) else u (y 0) (ix3 0 ⟨(y 1).val % 512, Nat.mod_lt _ (by decide)⟩ (y 2))

theorem half_low (w u : Fin 4 → S1x512x128.Idx → EReal) (h : Fin 4) (r : Fin 512) (d : Fin 128) : half w u (ix3 h ⟨r.val, Nat.lt_trans r.isLt (by decide)⟩ d) = w h (ix3 0 r d) :=
  (if_pos r.isLt).trans (congrArg (fun z => w h (ix3 0 z d)) (Fin.ext (Nat.mod_eq_of_lt r.isLt)))
theorem half_high (w u : Fin 4 → S1x512x128.Idx → EReal) (h : Fin 4) (r : Fin 512) (d : Fin 128) : half w u (ix3 h ⟨512 + r.val, Nat.add_lt_add_left r.isLt 512⟩ d) = u h (ix3 0 r d) :=
  (if_neg (Nat.not_lt.2 (Nat.le_add_right 512 r.val))).trans (congrArg (fun z => u h (ix3 0 z d)) (Fin.ext ((Nat.add_mod_left _ _).trans (Nat.mod_eq_of_lt r.isLt))))

theorem half8 (w u : Fin 4 → S1x512x128.Idx → EReal) (y : S4x1024x128.Idx) :
    (View.canon (Val := Elt Ideal) (e := .f32) [⟨rH 3, u 3⟩, ⟨rL 3, w 3⟩, ⟨rH 2, u 2⟩, ⟨rL 2, w 2⟩, ⟨rH 1, u 1⟩, ⟨rL 1, w 1⟩, ⟨rH 0, u 0⟩, ⟨rL 0, w 0⟩] y : EReal) = half w u y := by
  have gL : ∀ (k : Fin 4) (x : S1x512x128.Idx), w k x = half w u ((rL k).emb x) := fun k x => by
    obtain ⟨x0, x1, x2, rfl⟩ : ∃ (x0 : Fin 1) (x1 : Fin 512) (x2 : Fin 128), x = ix3 x0 x1 x2 := ⟨x 0, x 1, x 2, eq_ix3 x⟩
    obtain rfl : x0 = 0 := Subsingleton.elim _ _
    rw [embL]
    exact (half_low w u k x1 x2).symm
  have gH : ∀ (k : Fin 4) (x : S1x512x128.Idx), u k x = half w u ((rH k).emb x) := fun k x => by
    obtain ⟨x0, x1, x2, rfl⟩ : ∃ (x0 : Fin 1) (x1 : Fin 512) (x2 : Fin 128), x = ix3 x0 x1 x2 := ⟨x 0, x 1, x 2, eq_ix3 x⟩
    obtain rfl : x0 = 0 := Subsingleton.elim _ _
    rw [embH]
    exact (half_high w u k x1 x2).symm
  obtain ⟨h, r, d, rfl⟩ : ∃ (h : Fin 4) (r : Fin 1024) (d : Fin 128), y = ix3 h r d := ⟨y 0, y 1, y 2, eq_ix3 y⟩
  refine View.canon_apply_of_pieces (Val := Elt Ideal) (e := .f32) (half w u) _ (fun p hp => ?_) (ix3 h r d) ?_
  · simp only [List.mem_cons, List.not_mem_nil, or_false] at hp
    rcases hp with rfl | rfl | rfl | rfl | rfl | rfl | rfl | rfl
    · exact gH 3
    · exact gL 3
    · exact gH 2
    · exact gL 2
    · exact gH 1
    · exact gL 1
    · exact gH 0
    · exact gL 0
  · by_cases hr : r.val < 512
    · exact ⟨⟨rL h, w h⟩, by fin_cases h <;> simp, mem_of _ (ix3 (0 : Fin 1) (⟨r.val, hr⟩ : Fin 512) d : S1x512x128.Idx) _ (embL h _)⟩
    · refine ⟨⟨rH h, u h⟩, by fin_cases h <;> simp, mem_of _ (ix3 (0 : Fin 1) (⟨r.val - 512, by omega⟩ : Fin 512) d : S1x512x128.Idx) _ ((embH h _).trans ?_)⟩
      exact congrArg (fun z => (ix3 h z d : S4x1024x128.Idx)) (Fin.ext (by show 512 + (r.val - 512) = r.val; omega))

/-- The heads' lanes of the output. -/
theorem cols4 (w : Fin 4 → S1024x128.Idx → EReal) (h : Fin 4) (r : Fin 1024) (d : Fin 128) :
    (View.canon (Val := Elt Ideal) (e := .f32) [⟨rC 3, w 3⟩, ⟨rC 2, w 2⟩, ⟨rC 1, w 1⟩, ⟨rC 0, w 0⟩] (ix2 r ⟨128 * h.val + d.val, by omega⟩) : EReal) = w h (ix2 r d) := by
  have e : ∀ (k : Fin 4) (x : S1024x128.Idx), ((rC k).emb x : S1024x512.Idx) = ix2 (x 0) (⟨128 * k.val + (x 1).val, by have h : (x 1).val < 128 := (x 1).isLt; omega⟩ : Fin 512) := fun k x => by
    funext a
    apply Fin.ext
    fin_cases a
    · show 0 + 1 * (x 0).val = (x 0).val
      omega
    · show 128 * k.val + 1 * (x 1).val = 128 * k.val + (x 1).val
      omega
  let G : S1024x512.Idx → EReal := fun y => w ⟨(y 1).val / 128, by have h : (y 1).val < 512 := (y 1).isLt; omega⟩ (ix2 (y 0) (lane (y 1).val))
  have gG : ∀ (k : Fin 4) (r : Fin 1024) (d : Fin 128), G (ix2 r ⟨128 * k.val + d.val, by omega⟩) = w k (ix2 r d) := fun k r d => by
    show w _ (ix2 r (lane (128 * k.val + d.val))) = _
    rw [lane_add]
    exact congrArg (fun z => w z (ix2 r d)) (Fin.ext (by show (128 * k.val + d.val) / 128 = k.val; omega))
  have g : ∀ (k : Fin 4) (x : S1024x128.Idx), w k x = G ((rC k).emb x) := fun k x => by
    obtain ⟨x0, x1, rfl⟩ : ∃ (x0 : Fin 1024) (x1 : Fin 128), x = ix2 x0 x1 := ⟨x 0, x 1, eq_ix2 x⟩
    rw [e k _]
    exact (gG k x0 x1).symm
  rw [← gG h r d]
  refine View.canon_apply_of_pieces (Val := Elt Ideal) (e := .f32) G _ (fun p hp => ?_) _
    ⟨⟨rC h, w h⟩, by fin_cases h <;> simp, mem_of _ (ix2 r d : S1024x128.Idx) _ (e h _)⟩
  simp only [List.mem_cons, List.not_mem_nil, or_false] at hp
  rcases hp with rfl | rfl | rfl | rfl
  · exact g 3
  · exact g 2
  · exact g 1
  · exact g 0

/-- The heads' rows of log-sums. -/
theorem rows4 (w : Fin 4 → S1x1x1024.Idx → EReal) (h : Fin 4) (r : Fin 1024) :
    (View.canon (Val := Elt Ideal) (e := .f32) [⟨rR 3, w 3⟩, ⟨rR 2, w 2⟩, ⟨rR 1, w 1⟩, ⟨rR 0, w 0⟩] (ix3 h 0 r) : EReal) = w h (ix3 0 0 r) := by
  have e : ∀ (k : Fin 4) (x : S1x1x1024.Idx), ((rR k).emb x : S4x1x1024.Idx) = ix3 k (x 1) (x 2) := fun k x => by
    funext a
    apply Fin.ext
    fin_cases a
    · show k.val + 1 * (x 0).val = k.val
      have h : (x 0).val < 1 := (x 0).isLt
      omega
    · show 0 + 1 * (x 1).val = (x 1).val
      omega
    · show 0 + 1 * (x 2).val = (x 2).val
      omega
  have g : ∀ (k : Fin 4) (x : S1x1x1024.Idx), w k x = w ((rR k).emb x 0) (ix3 0 0 ((rR k).emb x 2)) := fun k x => by
    rw [e k x]
    obtain ⟨x0, x1, x2, rfl⟩ : ∃ (x0 : Fin 1) (x1 : Fin 1) (x2 : Fin 1024), x = ix3 x0 x1 x2 := ⟨x 0, x 1, x 2, eq_ix3 x⟩
    obtain rfl : x0 = 0 := Subsingleton.elim _ _
    obtain rfl : x1 = 0 := Subsingleton.elim _ _
    rfl
  refine View.canon_apply_of_pieces (Val := Elt Ideal) (e := .f32) (fun y : S4x1x1024.Idx => w (y 0) (ix3 0 0 (y 2))) _ (fun p hp => ?_) (ix3 h 0 r)
    ⟨⟨rR h, w h⟩, by fin_cases h <;> simp, mem_of _ (ix3 (0 : Fin 1) (0 : Fin 1) r : S1x1x1024.Idx) _ (e h _)⟩
  simp only [List.mem_cons, List.not_mem_nil, or_false] at hp
  rcases hp with rfl | rfl | rfl | rfl
  · exact g 3
  · exact g 2
  · exact g 1
  · exact g 0

end Cert.Kernel2Ideal.Fwd

end
-- ==== Proof.Fwd.Inv.lean ====
/- The scratches of the forward call after each point: the row sums over the blocks of keys met so far. -/
module

public import proofs.«01_k».proof.Proof.Fwd.Step
public import proofs.«01_k».proof.Proof.Fwd.State

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic

/-! ## The scratches, at an index -/

/-- A head's rows of a scratch, and the two halves of them. -/
theorem rdF (b : S4x1024x128.Idx → EReal) (h : Fin 4) (r : Fin 1024) (d : Fin 128) :
    (View.readAt (Elt Ideal) scM0.view (rF h).toLoadRect b (ix3 0 r d) : EReal) = b (ix3 h r d) := by
  refine congrArg b (funext fun a => Fin.ext ?_)
  fin_cases a
  · rfl
  · show 0 + 1 * r.val = r.val
    omega
  · show 0 + 1 * d.val = d.val
    omega
theorem rdL (b : S4x1024x128.Idx → EReal) (h : Fin 4) (r : Fin 512) (d : Fin 128) :
    (View.readAt (Elt Ideal) scM0.view (rL h).toLoadRect b (ix3 0 r d) : EReal) = b (ix3 h ⟨r.val, Nat.lt_trans r.isLt (by decide)⟩ d) := by
  refine congrArg b (funext fun a => Fin.ext ?_)
  fin_cases a
  · rfl
  · show 0 + 1 * r.val = r.val
    omega
  · show 0 + 1 * d.val = d.val
    omega
theorem rdH (b : S4x1024x128.Idx → EReal) (h : Fin 4) (r : Fin 512) (d : Fin 128) :
    (View.readAt (Elt Ideal) scM0.view (rH h).toLoadRect b (ix3 0 r d) : EReal) = b (ix3 h ⟨512 + r.val, Nat.add_lt_add_left r.isLt 512⟩ d) := by
  refine congrArg b (funext fun a => Fin.ext ?_)
  fin_cases a
  · rfl
  · show 512 + 1 * r.val = 512 + r.val
    omega
  · show 0 + 1 * d.val = d.val
    omega

theorem RowI.congr {W : Row} {n n' : ℕ} {m l a m' l' a' : Fin 128 → EReal} (I : RowI W n m l a) (hn : n' = n) (hm : ∀ d, m' d = m d) (hl : ∀ d, l' d = l d) (ha : ∀ d, a' d = a d) :
    RowI W n' m' l' a' := by
  rw [hn, funext hm, funext hl, funext ha]; exact I

section scratch
variable (L : Ld Ideal) (b0 b1 b2 : S4x1024x128.Idx → EReal) (h : Fin 4)

/-- A head's rows of the three scratches, as the loads read them. -/
abbrev fM : Vec Ideal S1x1024x128 .f32 := View.readAt (Elt Ideal) scM0.view (rF h).toLoadRect b0
abbrev lM : Vec Ideal S1x512x128 .f32 := View.readAt (Elt Ideal) scM0.view (rL h).toLoadRect b0
abbrev hM' : Vec Ideal S1x512x128 .f32 := View.readAt (Elt Ideal) scM0.view (rH h).toLoadRect b0

theorem off0_at (r : Fin 1024) (d : Fin 128) : (off0 L b0 (ix3 h r d) : EReal) = mO (L.q h) (L.k h) (fM b0 h) (ix3 0 r d) := by
  have e : off0 L b0 = View.canon [pO0 L b0 3, pO0 L b0 2, pO0 L b0 1, pO0 L b0 0] := by
    unfold off0; exact (rd0 _).symm.trans (View.read_writes_junk_eq_canon _ _)
  rw [e]
  exact full4 (fun h => mO (L.q h) (L.k h) (fM b0 h)) h r d
theorem off1_at (r : Fin 1024) (d : Fin 128) : (off1 L b0 b1 (ix3 h r d) : EReal) = lO (L.q h) (L.k h) (fM b0 h) (fM b1 h) (ix3 0 r d) := by
  have e : off1 L b0 b1 = View.canon [pO1 L b0 b1 3, pO1 L b0 b1 2, pO1 L b0 b1 1, pO1 L b0 b1 0] := by
    unfold off1; exact (rd1 _).symm.trans (View.read_writes_junk_eq_canon _ _)
  rw [e]
  exact full4 (fun h => lO (L.q h) (L.k h) (fM b0 h) (fM b1 h)) h r d
theorem off2_at (r : Fin 1024) (d : Fin 128) : (off2 L b0 b2 (ix3 h r d) : EReal) = aO (L.q h) (L.k h) (L.v h) (fM b0 h) (fM b2 h) (ix3 0 r d) := by
  have e : off2 L b0 b2 = View.canon [pO2 L b0 b2 3, pO2 L b0 b2 2, pO2 L b0 b2 1, pO2 L b0 b2 0] := by
    unfold off2; exact (rd2 _).symm.trans (View.read_writes_junk_eq_canon _ _)
  rw [e]
  exact full4 (fun h => aO (L.q h) (L.k h) (L.v h) (fM b0 h) (fM b2 h)) h r d

theorem dia0_at (y : S4x1024x128.Idx) : (dia0 L b0 y : EReal) = half (fun h => mL (L.ql h) (L.kl h) (lM b0 h)) (fun h => mH (L.qh h) (L.k h) (hM' b0 h)) y := by
  have e : dia0 L b0 = View.canon [pH0 L b0 3, pL0 L b0 3, pH0 L b0 2, pL0 L b0 2, pH0 L b0 1, pL0 L b0 1, pH0 L b0 0, pL0 L b0 0] := by
    unfold dia0; exact (rd0 _).symm.trans (View.read_writes_junk_eq_canon _ _)
  rw [e]
  exact half8 (fun h => mL (L.ql h) (L.kl h) (lM b0 h)) (fun h => mH (L.qh h) (L.k h) (hM' b0 h)) y
theorem dia1_at (y : S4x1024x128.Idx) : (dia1 L b0 b1 y : EReal) = half (fun h => lL (L.ql h) (L.kl h) (lM b0 h) (lM b1 h)) (fun h => lH (L.qh h) (L.k h) (hM' b0 h) (hM' b1 h)) y := by
  have e : dia1 L b0 b1 = View.canon [pH1 L b0 b1 3, pL1 L b0 b1 3, pH1 L b0 b1 2, pL1 L b0 b1 2, pH1 L b0 b1 1, pL1 L b0 b1 1, pH1 L b0 b1 0, pL1 L b0 b1 0] := by
    unfold dia1; exact (rd1 _).symm.trans (View.read_writes_junk_eq_canon _ _)
  rw [e]
  exact half8 (fun h => lL (L.ql h) (L.kl h) (lM b0 h) (lM b1 h)) (fun h => lH (L.qh h) (L.k h) (hM' b0 h) (hM' b1 h)) y
theorem dia2_at (y : S4x1024x128.Idx) : (dia2 L b0 b2 y : EReal) = half (fun h => aL (L.ql h) (L.kl h) (L.vl h) (lM b0 h) (lM b2 h)) (fun h => aH (L.qh h) (L.k h) (L.v h) (hM' b0 h) (hM' b2 h)) y := by
  have e : dia2 L b0 b2 = View.canon [pH2 L b0 b2 3, pL2 L b0 b2 3, pH2 L b0 b2 2, pL2 L b0 b2 2, pH2 L b0 b2 1, pL2 L b0 b2 1, pH2 L b0 b2 0, pL2 L b0 b2 0] := by
    unfold dia2; exact (rd2 _).symm.trans (View.read_writes_junk_eq_canon _ _)
  rw [e]
  exact half8 (fun h => aL (L.ql h) (L.kl h) (L.vl h) (lM b0 h) (lM b2 h)) (fun h => aH (L.qh h) (L.k h) (L.v h) (hM' b0 h) (hM' b2 h)) y
end scratch

/-! ## One point -/

/-- The rows of row block `i`, over the first `n` lots of 128 keys. -/
def StI (H : Fin 4 → Hd) (i n : ℕ) (s : St Ideal) : Prop :=
  ∀ (h : Fin 4) (r : Fin 1024), RowI ((H h).row (i * 1024 + r.val)) n (fun d => (s.1 (ix3 h r d) : EReal)) (fun d => (s.2.1 (ix3 h r d) : EReal)) (fun d => (s.2.2 (ix3 h r d) : EReal))

section point
variable {H : Fin 4 → Hd} {i j : ℕ} {L : Ld Ideal} (B : Blk H i j L) (b0 b1 b2 : S4x1024x128.Idx → EReal) (h : Fin 4)

include B in
theorem off_row (hj : j < i) (r : Fin 1024) (I : RowI ((H h).row (i * 1024 + r.val)) (8 * j) (fun d => (b0 (ix3 h r d) : EReal)) (fun d => (b1 (ix3 h r d) : EReal)) (fun d => (b2 (ix3 h r d) : EReal))) :
    RowI ((H h).row (i * 1024 + r.val)) (8 * j + 8) (fun d => (off0 L b0 (ix3 h r d) : EReal)) (fun d => (off1 L b0 b1 (ix3 h r d) : EReal)) (fun d => (off2 L b0 b2 (ix3 h r d) : EReal)) :=
  ((I.congr rfl (fun d => rdF b0 h r d) (fun d => rdF b1 h r d) (fun d => rdF b2 h r d)).step (upd_off B h hj r (fM b0 h) (fM b1 h) (fM b2 h))).congr rfl
    (fun d => off0_at L b0 h r d) (fun d => off1_at L b0 b1 h r d) (fun d => off2_at L b0 b2 h r d)

include B in
theorem low_row (hj : j = i) (r : Fin 512) (I : RowI ((H h).row (i * 1024 + r.val)) (8 * i) (fun d => (b0 (ix3 h ⟨r.val, Nat.lt_trans r.isLt (by decide)⟩ d) : EReal)) (fun d => (b1 (ix3 h ⟨r.val, Nat.lt_trans r.isLt (by decide)⟩ d) : EReal)) (fun d => (b2 (ix3 h ⟨r.val, Nat.lt_trans r.isLt (by decide)⟩ d) : EReal))) :
    RowI ((H h).row (i * 1024 + r.val)) (8 * i + 8) (fun d => (dia0 L b0 (ix3 h ⟨r.val, Nat.lt_trans r.isLt (by decide)⟩ d) : EReal)) (fun d => (dia1 L b0 b1 (ix3 h ⟨r.val, Nat.lt_trans r.isLt (by decide)⟩ d) : EReal)) (fun d => (dia2 L b0 b2 (ix3 h ⟨r.val, Nat.lt_trans r.isLt (by decide)⟩ d) : EReal)) :=
  ((I.congr rfl (fun d => rdL b0 h r d) (fun d => rdL b1 h r d) (fun d => rdL b2 h r d)).step (upd_low B h hj r (lM b0 h) (lM b1 h) (lM b2 h))
    |>.extend (Nat.succ_ne_zero _) 4 (by show i * 1024 + r.val < _; omega)).congr (Nat.add_assoc _ 4 4).symm
    (fun d => (dia0_at L b0 _).trans (half_low _ _ h r d)) (fun d => (dia1_at L b0 b1 _).trans (half_low _ _ h r d)) (fun d => (dia2_at L b0 b2 _).trans (half_low _ _ h r d))

include B in
theorem high_row (hj : j = i) (r : Fin 512) (I : RowI ((H h).row (i * 1024 + (512 + r.val))) (8 * i) (fun d => (b0 (ix3 h ⟨512 + r.val, Nat.add_lt_add_left r.isLt 512⟩ d) : EReal)) (fun d => (b1 (ix3 h ⟨512 + r.val, Nat.add_lt_add_left r.isLt 512⟩ d) : EReal)) (fun d => (b2 (ix3 h ⟨512 + r.val, Nat.add_lt_add_left r.isLt 512⟩ d) : EReal))) :
    RowI ((H h).row (i * 1024 + (512 + r.val))) (8 * i + 8) (fun d => (dia0 L b0 (ix3 h ⟨512 + r.val, Nat.add_lt_add_left r.isLt 512⟩ d) : EReal)) (fun d => (dia1 L b0 b1 (ix3 h ⟨512 + r.val, Nat.add_lt_add_left r.isLt 512⟩ d) : EReal)) (fun d => (dia2 L b0 b2 (ix3 h ⟨512 + r.val, Nat.add_lt_add_left r.isLt 512⟩ d) : EReal)) :=
  ((I.congr rfl (fun d => rdH b0 h r d) (fun d => rdH b1 h r d) (fun d => rdH b2 h r d)).step (upd_high B h hj r (hM' b0 h) (hM' b1 h) (hM' b2 h))).congr rfl
    (fun d => (dia0_at L b0 _).trans (half_high _ _ h r d)) (fun d => (dia1_at L b0 b1 _).trans (half_high _ _ h r d)) (fun d => (dia2_at L b0 b2 _).trans (half_high _ _ h r d))

theorem StI.mk {n : ℕ} {s0 s1 s2 : S4x1024x128.Idx → EReal}
    (I : ∀ (h : Fin 4) (r : Fin 1024), RowI ((H h).row (i * 1024 + r.val)) n (fun d => (s0 (ix3 h r d) : EReal)) (fun d => (s1 (ix3 h r d) : EReal)) (fun d => (s2 (ix3 h r d) : EReal))) :
    StI H i n (s0, s1, s2) := I
theorem StI.row {n : ℕ} {s0 s1 s2 : S4x1024x128.Idx → EReal} (I : StI H i n (s0, s1, s2)) (h : Fin 4) (r : Fin 1024) :
    RowI ((H h).row (i * 1024 + r.val)) n (fun d => (s0 (ix3 h r d) : EReal)) (fun d => (s1 (ix3 h r d) : EReal)) (fun d => (s2 (ix3 h r d) : EReal)) := I h r

theorem stepI_off (g : grid0.Coords) (h : cond2 g = 1#1) : stepI g L (b0, b1, b2) = (off0 L b0, off1 L b0 b1, off2 L b0 b2) := by
  unfold stepI; rw [if_pos h]
theorem stepI_dia (g : grid0.Coords) (h : ¬ cond2 g = 1#1) : stepI g L (b0, b1, b2) = (dia0 L b0, dia1 L b0 b1, dia2 L b0 b2) := by
  unfold stepI; rw [if_neg h]

include B in
theorem step_inv (g : grid0.Coords) (h1 : cond2 g = 1#1 → j < i) (h2 : ¬ cond2 g = 1#1 → j = i) (s : St Ideal) {n n' : ℕ} (hn : n = 8 * j) (hn' : n' = 8 * j + 8) (I : StI H i n s) :
    StI H i n' (stepI g L s) := by
  obtain ⟨b0, b1, b2⟩ := s
  subst hn hn'
  by_cases h : cond2 g = 1#1
  · rw [stepI_off b0 b1 b2 g h]
    exact StI.mk fun k r => off_row B b0 b1 b2 k (h1 h) r (I.row k r)
  · rw [stepI_dia b0 b1 b2 g h]
    have e := h2 h
    subst e
    refine StI.mk fun k r => ?_
    by_cases hr : r.val < 512
    · exact low_row B b0 b1 b2 k rfl ⟨r.val, hr⟩ (I.row k r)
    · obtain ⟨r, rfl⟩ : ∃ r' : Fin 512, r = ⟨512 + r'.val, Nat.add_lt_add_left r'.isLt 512⟩ := ⟨⟨r.val - 512, by omega⟩, Fin.ext (by show r.val = 512 + (r.val - 512); omega)⟩
      exact high_row B b0 b1 b2 k rfl r (I.row k _)
end point

theorem ini_first (H : Fin 4 → Hd) (i : ℕ) (g : grid0.Coords) (h : cond1 g = 1#1) (s : St Ideal) : StI H i 0 (iniS g s) := by
  intro k r
  unfold iniS
  rw [ini0_first g h, ini1_first g h, ini2_first g h]
  exact Or.inl ⟨rfl, fun d => pay1_apply k r d, fun d => pay2_apply k r d, fun d => pay3_apply k r d⟩

theorem ini_next (g : grid0.Coords) (h : ¬ cond1 g = 1#1) (s : St Ideal) : iniS g s = s := by
  unfold iniS ini0 ini1 ini2
  rw [dif_neg h, dif_neg h, dif_neg h]

/-! ## The tables -/

theorem t_lt (t : Fin grid0.N) : t.val < 72 := t.isLt

/-- A head of a point. -/
def hix (t : Fin grid0.N) (h : Fin 4) : Fin 8 := ⟨t.val / 36 * 4 + h.val, by have := t_lt t; omega⟩

theorem head_eq : ∀ t : Fin grid0.N, (BitVec.ofNat 32 (crd t 0).val).toNat = t.val / 36 := by decide +kernel
theorem wq_le : ∀ t : Fin grid0.N, (wq (crd t)).toNat ≤ 7 := by decide +kernel
theorem wk_le : ∀ t : Fin grid0.N, (wk (crd t)).toNat ≤ 7 := by decide +kernel
theorem first_eq : ∀ t : Fin grid0.N, cond1 (crd t) = 1#1 → (wk (crd t)).toNat = 0 := by decide +kernel
theorem next_eq : ∀ t : Fin grid0.N, ∀ h : t.val + 1 < grid0.N, ¬ cond1 (crd ⟨t.val + 1, h⟩) = 1#1 →
    (t.val + 1) / 36 = t.val / 36 ∧ (wq (crd ⟨t.val + 1, h⟩)).toNat = (wq (crd t)).toNat ∧ (wk (crd ⟨t.val + 1, h⟩)).toNat = (wk (crd t)).toNat + 1 := by decide +kernel
theorem off_eq : ∀ t : Fin grid0.N, cond2 (crd t) = 1#1 → (wk (crd t)).toNat < (wq (crd t)).toNat := by decide +kernel
theorem dia_eq : ∀ t : Fin grid0.N, ¬ cond2 (crd t) = 1#1 → (wk (crd t)).toNat = (wq (crd t)).toNat := by decide +kernel
theorem ex3 : ∀ (g : Fin 2) (i : Fin 8), ∃ t : Fin grid0.N, k0_cond3 (wq (crd t)) (wk (crd t)) = 1#1 ∧ t.val / 36 = g.val ∧ (wq (crd t)).toNat = i.val := by decide +kernel

/-! ## The blocks of a point, at an index -/

variable (m : (ℓ : Loc nD τ sig) → Buf (Elt Ideal) ℓ)

/-- A row of a block lies in its array. -/
theorem row_lt {b : ℕ} (h : b ≤ 7) (r : Fin 1024) : b * 1024 + r.val < 8192 := by omega

theorem iblk0_apply (c : Dev nD) (t : Fin grid0.N) (h : Fin 4) (r : Fin 1024) (x : Fin 256) :
    ((iblk m c (0 : Fin 5) t : S4x1024x256.Idx → EReal) (ix3 h r x) : EReal) = V m c main_v5 (ix3 (hix t h) ⟨(wq (crd t)).toNat * 1024 + r.val, row_lt (wq_le t) r⟩ x) := by
  refine congrArg (V m c main_v5) (funext fun a => Fin.ext ?_)
  fin_cases a
  · show (BitVec.ofNat 32 (crd t 0).val).toNat * 4 + 1 * h.val = t.val / 36 * 4 + h.val
    rw [head_eq]; omega
  · show (wq (crd t)).toNat * 1024 + 1 * r.val = _
    rw [Nat.one_mul]; rfl
  · show 0 * 256 + 1 * x.val = x.val
    omega

theorem iblk1_apply (c : Dev nD) (t : Fin grid0.N) (h : Fin 4) (r : Fin 1024) (x : Fin 256) :
    ((iblk m c (1 : Fin 5) t : S4x1024x256.Idx → EReal) (ix3 h r x) : EReal) = V m c main_v6 (ix3 (hix t h) ⟨(wk (crd t)).toNat * 1024 + r.val, row_lt (wk_le t) r⟩ x) := by
  refine congrArg (V m c main_v6) (funext fun a => Fin.ext ?_)
  fin_cases a
  · show (BitVec.ofNat 32 (crd t 0).val).toNat * 4 + 1 * h.val = t.val / 36 * 4 + h.val
    rw [head_eq]; omega
  · show (wk (crd t)).toNat * 1024 + 1 * r.val = _
    rw [Nat.one_mul]; rfl
  · show 0 * 256 + 1 * x.val = x.val
    omega

theorem iblk2_apply (c : Dev nD) (t : Fin grid0.N) (h : Fin 4) (r : Fin 1024) (x : Fin 128) :
    ((iblk m c (2 : Fin 5) t : S4x1024x128.Idx → EReal) (ix3 h r x) : EReal) = V m c main_v7 (ix3 (hix t h) ⟨(wk (crd t)).toNat * 1024 + r.val, row_lt (wk_le t) r⟩ x) := by
  refine congrArg (V m c main_v7) (funext fun a => Fin.ext ?_)
  fin_cases a
  · show (BitVec.ofNat 32 (crd t 0).val).toNat * 4 + 1 * h.val = t.val / 36 * 4 + h.val
    rw [head_eq]; omega
  · show (wk (crd t)).toNat * 1024 + 1 * r.val = _
    rw [Nat.one_mul]; rfl
  · show 0 * 128 + 1 * x.val = x.val
    omega

/-- A head's rows of a block, from row `o` on. -/
theorem win3 {n M : ℕ} (f : (⟨3, ![4, 1024, n]⟩ : Shape).Idx → EReal) (h : Fin 4) (o : ℕ)
    (inb : ∀ a, (![h.val, o, 0] : Fin 3 → ℕ) a + (![1, M, n] : Fin 3 → ℕ) a ≤ (![4, 1024, n] : Fin 3 → ℕ) a) (r : Fin M) (x : Fin n) (hr : o + r.val < 1024) :
    (VecWindow.window (s := ⟨3, ![4, 1024, n]⟩) f ![h.val, o, 0] ![1, M, n] inb (ix3 0 r x) : EReal) = f (ix3 h ⟨o + r.val, hr⟩ x) := by
  refine congrArg f (funext fun a => Fin.ext ?_)
  fin_cases a
  · rfl
  · show o + 1 * r.val = o + r.val
    omega
  · show 0 + 1 * x.val = x.val
    omega

/-- The reads of blocks that hold four heads' rows. -/
theorem Blk.of {H : Fin 4 → Hd} {i j : ℕ} (x0 x1 : S4x1024x256.Idx → EReal) (x2 : S4x1024x128.Idx → EReal)
    (q : ∀ (h : Fin 4) (r : Fin 1024) (x : Fin 256), x0 (ix3 h r x) = ((H h).Q (i * 1024 + r.val) x : EReal))
    (k : ∀ (h : Fin 4) (r : Fin 1024) (x : Fin 256), x1 (ix3 h r x) = ((H h).K (j * 1024 + r.val) x : EReal))
    (v : ∀ (h : Fin 4) (r : Fin 1024) (x : Fin 128), x2 (ix3 h r x) = ((H h).V (j * 1024 + r.val) x : EReal)) : Blk H i j (Ld.of (F := Ideal) x0 x1 x2) where
  q h r x := (win3 (n := 256) (M := 1024) x0 h 0 _ r x (by omega)).trans ((q h ⟨0 + r.val, by omega⟩ x).trans (congrArg (fun n => ((H h).Q (i * 1024 + n) x : EReal)) (Nat.zero_add r.val)))
  k h r x := (win3 (n := 256) (M := 1024) x1 h 0 _ r x (by omega)).trans ((k h ⟨0 + r.val, by omega⟩ x).trans (congrArg (fun n => ((H h).K (j * 1024 + n) x : EReal)) (Nat.zero_add r.val)))
  v h r x := (win3 (n := 128) (M := 1024) x2 h 0 _ r x (by omega)).trans ((v h ⟨0 + r.val, by omega⟩ x).trans (congrArg (fun n => ((H h).V (j * 1024 + n) x : EReal)) (Nat.zero_add r.val)))
  ql h r x := (win3 (n := 256) (M := 512) x0 h 0 _ r x (by omega)).trans ((q h ⟨0 + r.val, by omega⟩ x).trans (congrArg (fun n => ((H h).Q (i * 1024 + n) x : EReal)) (Nat.zero_add r.val)))
  qh h r x := (win3 (n := 256) (M := 512) x0 h 512 _ r x (by omega)).trans (q h ⟨512 + r.val, by omega⟩ x)
  kl h r x := (win3 (n := 256) (M := 512) x1 h 0 _ r x (by omega)).trans ((k h ⟨0 + r.val, by omega⟩ x).trans (congrArg (fun n => ((H h).K (j * 1024 + n) x : EReal)) (Nat.zero_add r.val)))
  vl h r x := (win3 (n := 128) (M := 512) x2 h 0 _ r x (by omega)).trans ((v h ⟨0 + r.val, by omega⟩ x).trans (congrArg (fun n => ((H h).V (j * 1024 + n) x : EReal)) (Nat.zero_add r.val)))

/-- A head's operands, of three real arrays. -/
def hdOf (q k : S8x8192x256.Idx → ℝ) (v : S8x8192x128.Idx → ℝ) (h : Fin 8) : Hd where
  Q r x := if hr : r < 8192 then q (ix3 h ⟨r, hr⟩ x) else 0
  K r x := if hr : r < 8192 then k (ix3 h ⟨r, hr⟩ x) else 0
  V r x := if hr : r < 8192 then v (ix3 h ⟨r, hr⟩ x) else 0

section rd
variable (q k : S8x8192x256.Idx → ℝ) (v : S8x8192x128.Idx → ℝ) (h : Fin 8) (r : ℕ) (hr : r < 8192)
theorem hdOf_Q (x : Fin 256) : (hdOf q k v h).Q r x = q (ix3 h ⟨r, hr⟩ x) := dif_pos hr
theorem hdOf_K (x : Fin 256) : (hdOf q k v h).K r x = k (ix3 h ⟨r, hr⟩ x) := dif_pos hr
theorem hdOf_V (x : Fin 128) : (hdOf q k v h).V r x = v (ix3 h ⟨r, hr⟩ x) := dif_pos hr
end rd

/-! ## The scratches after a point -/

/-- The arrays the region finds hold real numbers. -/
structure Rl (c : Dev nD) (q k : S8x8192x256.Idx → ℝ) (v : S8x8192x128.Idx → ℝ) : Prop where
  hq : ∀ y : S8x8192x256.Idx, (V m c main_v5 y : EReal) = (q y : EReal)
  hk : ∀ y : S8x8192x256.Idx, (V m c main_v6 y : EReal) = (k y : EReal)
  hv : ∀ y : S8x8192x128.Idx, (V m c main_v7 y : EReal) = (v y : EReal)

section traj
variable {c : Dev nD} {q k : S8x8192x256.Idx → ℝ} {v : S8x8192x128.Idx → ℝ} (R : Rl m c q k v)

include R in
/-- The blocks a point reads are its heads'. -/
theorem blk (t : Fin grid0.N) : Blk (fun h => hdOf q k v (hix t h)) (wq (crd t)).toNat (wk (crd t)).toNat (blkL m c t) :=
  Blk.of _ _ _
    (fun h r x => by rw [iblk0_apply m c t h r x, R.hq, hdOf_Q q k v _ _ (row_lt (wq_le t) r)])
    (fun h r x => by rw [iblk1_apply m c t h r x, R.hk, hdOf_K q k v _ _ (row_lt (wk_le t) r)])
    (fun h r x => by rw [iblk2_apply m c t h r x, R.hv, hdOf_V q k v _ _ (row_lt (wk_le t) r)])

include R in
theorem traj_inv : ∀ (n : ℕ) (hn : n < grid0.N),
    StI (fun h => hdOf q k v (hix ⟨n, hn⟩ h)) (wq (crd ⟨n, hn⟩)).toNat (8 * ((wk (crd ⟨n, hn⟩)).toNat + 1)) (traj m c (n + 1)) := by
  intro n
  induction n with
  | zero =>
    intro hn
    rw [show traj m c (0 + 1) = _ from traj_succ m c ⟨0, hn⟩]
    refine step_inv (blk m R ⟨0, hn⟩) _ (off_eq _) (dia_eq _) _ (n := 0) (by rw [first_eq ⟨0, hn⟩ first0]) (Nat.mul_succ 8 _) ?_
    exact ini_first _ _ _ first0 _
  | succ n ih =>
    intro hn
    rw [show traj m c (n + 1 + 1) = _ from traj_succ m c ⟨n + 1, hn⟩]
    by_cases h : cond1 (crd ⟨n + 1, hn⟩) = 1#1
    · refine step_inv (blk m R ⟨n + 1, hn⟩) _ (off_eq _) (dia_eq _) _ (n := 0) (by rw [first_eq _ h]) (Nat.mul_succ 8 _) ?_
      exact ini_first _ _ _ h _
    · have hn' : n < grid0.N := Nat.lt_of_succ_lt hn
      obtain ⟨e, f1, f2⟩ := next_eq ⟨n, hn'⟩ hn h
      refine step_inv (blk m R ⟨n + 1, hn⟩) _ (off_eq _) (dia_eq _) _ (n := 8 * ((wk (crd ⟨n, hn'⟩)).toNat + 1)) (congrArg (8 * ·) f2.symm) (Nat.mul_succ 8 _) ?_
      rw [ini_next _ h, show hix ⟨n + 1, hn⟩ = hix ⟨n, hn'⟩ from funext fun k => Fin.ext (by show (n + 1) / 36 * 4 + k.val = n / 36 * 4 + k.val; rw [show (n + 1) / 36 = n / 36 from e])]
      rw [show (wq (crd ⟨n + 1, hn⟩)).toNat = _ from f1]
      exact ih hn'
end traj

end Cert.Kernel2Ideal.Fwd

end
-- ==== Proof.Fwd.Out.lean ====
/- The two results of the forward call after the region, over the extended reals. -/
module

public import proofs.«01_k».proof.Proof.Fwd.Inv
public import proofs.«01_k».proof.Proof.Fwd.Frame
public import Idealize.ShloMosaic.Lib.Pipeline.ValueKit.Geometry

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic

section res
variable (q k : S8x8192x256.Idx → ℝ) (v : S8x8192x128.Idx → ℝ)

/-- The attention's output, of the heads' operands, -/
def go : S8192x1024.Idx → EReal := fun y =>
  (((hdOf q k v ⟨(y 1).val / 128, by have h : (y 1).val < 1024 := (y 1).isLt; omega⟩).row (y 0).val).o (128 * 64) (lane (y 1).val) : EReal)
/-- and the log-sums of its rows. -/
def gl : S8x1x8192.Idx → EReal := fun y => (((hdOf q k v (y 0)).row (y 2).val).t (128 * 64) : EReal)
end res

theorem lane_lt (h : Fin 4) (d : Fin 128) : 128 * h.val + d.val < 512 := by omega

section stage
variable {H : Fin 4 → Hd} {i : ℕ} {s : St Ideal} (I : StI H i 64 s) (h : Fin 4)
include I

/-- What the last point of a row block stores of the output, and of the log-sums. -/
theorem st3 (r : Fin 1024) (d : Fin 128) : (out3 s (ix2 r ⟨128 * h.val + d.val, by omega⟩) : EReal) = (((H h).row (i * 1024 + r.val)).o (128 * 64) d : EReal) := by
  obtain ⟨s0, s1, s2⟩ := s
  rw [out3_eq]
  refine (cols4 (fun h => oF (fM s1 h) (fM s2 h)) h r d).trans ?_
  rw [oF_apply]
  have e := (I.row h r).congr rfl (fun d => rdF s0 h r d) (fun d => rdF s1 h r d) (fun d => rdF s2 h r d)
  exact (e.out (by decide)).1 d

theorem st4 (r : Fin 1024) : (out4 s (ix3 h 0 r) : EReal) = (((H h).row (i * 1024 + r.val)).t (128 * 64) : EReal) := by
  obtain ⟨s0, s1, s2⟩ := s
  rw [out4_eq]
  refine (rows4 (fun h => sF (fM s1 h) (fM s0 h)) h r).trans ?_
  rw [sF_apply]
  have e := (I.row h r).congr rfl (fun d => rdF s0 h r d) (fun d => rdF s1 h r d) (fun d => rdF s2 h r d)
  exact (e.out (by decide)).2 0
end stage

variable (m : (ℓ : Loc nD τ sig) → Buf (Elt Ideal) ℓ)

theorem emb3 (t : Fin grid0.N) (y : S1024x512.Idx) :
    ((((cfgA (F := Ideal)).win (3 : Fin 5)).blk t).view.emb y : S8192x1024.Idx)
      = ix2 ⟨(wq (crd t)).toNat * 1024 + (y 0).val, row_lt (wq_le t) (y 0)⟩ ⟨t.val / 36 * 512 + (y 1).val, by have := t_lt t; have h : (y 1).val < 512 := (y 1).isLt; omega⟩ := by
  refine funext fun a => Fin.ext ?_
  fin_cases a
  · show (wq (crd t)).toNat * 1024 + 1 * (y 0).val = (wq (crd t)).toNat * 1024 + (y 0).val
    rw [Nat.one_mul]
  · show (BitVec.ofNat 32 (crd t 0).val).toNat * 512 + 1 * (y 1).val = t.val / 36 * 512 + (y 1).val
    rw [head_eq, Nat.one_mul]

theorem emb4 (t : Fin grid0.N) (y : S4x1x1024.Idx) :
    ((((cfgA (F := Ideal)).win (4 : Fin 5)).blk t).view.emb y : S8x1x8192.Idx) = ix3 (hix t (y 0)) 0 ⟨(wq (crd t)).toNat * 1024 + (y 2).val, row_lt (wq_le t) (y 2)⟩ := by
  refine funext fun a => Fin.ext ?_
  fin_cases a
  · show (BitVec.ofNat 32 (crd t 0).val).toNat * 4 + 1 * (y 0).val = t.val / 36 * 4 + (y 0).val
    rw [head_eq, Nat.one_mul]
  · show 0 * 1 + 1 * (y 1).val = 0
    have h : (y 1).val < 1 := (y 1).isLt
    omega
  · show (wq (crd t)).toNat * 1024 + 1 * (y 2).val = (wq (crd t)).toNat * 1024 + (y 2).val
    rw [Nat.one_mul]

section traj
variable {c : Dev nD} {q k : S8x8192x256.Idx → ℝ} {v : S8x8192x128.Idx → ℝ} (R : Rl m c q k v)
include R

/-- At the last point of a row block the sums are over all the keys: those further on are masked. -/
theorem inv_at (t : Fin grid0.N) (h3 : k0_cond3 (wq (crd t)) (wk (crd t)) = 1#1) : StI (fun h => hdOf q k v (hix t h)) (wq (crd t)).toNat 64 (traj m c (t.val + 1)) := by
  have I : StI (fun h => hdOf q k v (hix t h)) (wq (crd t)).toNat (8 * ((wk (crd t)).toNat + 1)) (traj m c (t.val + 1)) := traj_inv m R t.val t.isLt
  have e := dia_eq t ((cond3_iff _).1 h3)
  have l := wq_le t
  intro h r
  refine ((I h r).extend (Nat.mul_ne_zero (by decide) (Nat.succ_ne_zero _)) (64 - 8 * ((wk (crd t)).toNat + 1)) ?_).congr (by omega) (fun _ => rfl) (fun _ => rfl) (fun _ => rfl)
  show (wq (crd t)).toNat * 1024 + r.val < 128 * (8 * ((wk (crd t)).toNat + 1))
  omega

/-- The array of window 3 after the region. -/
theorem out3_arr : (dats m (0 : Fin 1) c).arrAt (3 : Fin 5) (cfgA (F := Ideal)).N = go q k v := by
  refine (dats m (0 : Fin 1) c).arrAt_eq_of_emb (3 : Fin 5) (go q k v) (fun t hf y => ?_) (fun i => ?_)
  · have h3 : k0_cond3 (wq (crd t)) (wk (crd t)) = 1#1 := beq_iff_eq.1 ((flush3 t).symm.trans hf)
    have I := inv_at m R t h3
    refine Eq.trans ?_ (congrArg (go q k v) (emb3 t y)).symm
    obtain ⟨r, x, rfl⟩ : ∃ (r : Fin 1024) (x : Fin 512), y = ix2 r x := ⟨y 0, y 1, eq_ix2 y⟩
    obtain ⟨h, d, rfl⟩ : ∃ (h : Fin 4) (d : Fin 128), x = ⟨128 * h.val + d.val, lane_lt h d⟩ :=
      ⟨⟨x.val / 128, by omega⟩, ⟨x.val % 128, by omega⟩, Fin.ext (by show x.val = 128 * (x.val / 128) + x.val % 128; omega)⟩
    refine (st3 I h r d).trans ?_
    show _ = (((hdOf q k v ⟨(t.val / 36 * 512 + (128 * h.val + d.val)) / 128, _⟩).row ((wq (crd t)).toNat * 1024 + r.val)).o (128 * 64) (lane (t.val / 36 * 512 + (128 * h.val + d.val))) : EReal)
    rw [show lane (t.val / 36 * 512 + (128 * h.val + d.val)) = d from Fin.ext (by show (t.val / 36 * 512 + (128 * h.val + d.val)) % 128 = d.val; omega)]
    exact congrArg (fun z => (((hdOf q k v z).row ((wq (crd t)).toNat * 1024 + r.val)).o (128 * 64) d : EReal))
      (Fin.ext (by show t.val / 36 * 4 + h.val = (t.val / 36 * 512 + (128 * h.val + d.val)) / 128; omega))
  · have hi : (i (0 : Fin 2)).val < 8192 := (i (0 : Fin 2)).isLt
    have hj : (i (1 : Fin 2)).val < 1024 := (i (1 : Fin 2)).isLt
    obtain ⟨t, h3, h0, h1⟩ := ex3 ⟨(i (1 : Fin 2)).val / 512, by omega⟩ ⟨(i (0 : Fin 2)).val / 1024, by omega⟩
    refine ⟨t, (flush3 t).trans (beq_iff_eq.2 h3), Finset.mem_map.2 ⟨(ix2 (⟨(i (0 : Fin 2)).val % 1024, Nat.mod_lt _ (by decide)⟩ : Fin 1024) (⟨(i (1 : Fin 2)).val % 512, Nat.mod_lt _ (by decide)⟩ : Fin 512) : S1024x512.Idx), Finset.mem_univ _, ?_⟩⟩
    refine (emb3 t _).trans (funext fun a => Fin.ext ?_)
    fin_cases a
    · show (wq (crd t)).toNat * 1024 + (i (0 : Fin 2)).val % 1024 = (i (0 : Fin 2)).val
      rw [h1]; show (i (0 : Fin 2)).val / 1024 * 1024 + (i (0 : Fin 2)).val % 1024 = (i (0 : Fin 2)).val; omega
    · show t.val / 36 * 512 + (i (1 : Fin 2)).val % 512 = (i (1 : Fin 2)).val
      rw [h0]; show (i (1 : Fin 2)).val / 512 * 512 + (i (1 : Fin 2)).val % 512 = (i (1 : Fin 2)).val; omega

/-- The array of window 4 after the region. -/
theorem out4_arr : (dats m (0 : Fin 1) c).arrAt (4 : Fin 5) (cfgA (F := Ideal)).N = gl q k v := by
  refine (dats m (0 : Fin 1) c).arrAt_eq_of_emb (4 : Fin 5) (gl q k v) (fun t hf y => ?_) (fun i => ?_)
  · have h3 : k0_cond3 (wq (crd t)) (wk (crd t)) = 1#1 := beq_iff_eq.1 ((flush4 t).symm.trans hf)
    have I := inv_at m R t h3
    refine Eq.trans ?_ (congrArg (gl q k v) (emb4 t y)).symm
    obtain ⟨h, u, r, rfl⟩ : ∃ (h : Fin 4) (u : Fin 1) (r : Fin 1024), y = ix3 h u r := ⟨y 0, y 1, y 2, eq_ix3 y⟩
    obtain rfl : u = 0 := Subsingleton.elim _ _
    exact st4 I h r
  · have hi : (i (0 : Fin 3)).val < 8 := (i (0 : Fin 3)).isLt
    have hu : (i (1 : Fin 3)).val < 1 := (i (1 : Fin 3)).isLt
    have hj : (i (2 : Fin 3)).val < 8192 := (i (2 : Fin 3)).isLt
    obtain ⟨t, h3, h0, h1⟩ := ex3 ⟨(i (0 : Fin 3)).val / 4, by omega⟩ ⟨(i (2 : Fin 3)).val / 1024, by omega⟩
    refine ⟨t, (flush4 t).trans (beq_iff_eq.2 h3), Finset.mem_map.2 ⟨(ix3 (⟨(i (0 : Fin 3)).val % 4, Nat.mod_lt _ (by decide)⟩ : Fin 4) (0 : Fin 1) (⟨(i (2 : Fin 3)).val % 1024, Nat.mod_lt _ (by decide)⟩ : Fin 1024) : S4x1x1024.Idx), Finset.mem_univ _, ?_⟩⟩
    refine (emb4 t _).trans (funext fun a => Fin.ext ?_)
    fin_cases a
    · show t.val / 36 * 4 + (i (0 : Fin 3)).val % 4 = (i (0 : Fin 3)).val
      rw [h0]; show (i (0 : Fin 3)).val / 4 * 4 + (i (0 : Fin 3)).val % 4 = (i (0 : Fin 3)).val; omega
    · show 0 = (i (1 : Fin 3)).val
      omega
    · show (wq (crd t)).toNat * 1024 + (i (2 : Fin 3)).val % 1024 = (i (2 : Fin 3)).val
      rw [h1]; show (i (2 : Fin 3)).val / 1024 * 1024 + (i (2 : Fin 3)).val % 1024 = (i (2 : Fin 3)).val; omega
end traj

end Cert.Kernel2Ideal.Fwd

end
-- ==== Proof.Fwd.Host.lean ====
/- The arrays the region of the forward call finds, over the extended reals. -/
module

public import proofs.«01_k».proof.Proof.Fwd.State
public import proofs.«01_k».proof.Proof.Fin
public import Idealize.ShloMosaic.Lib.Pointwise
public import Idealize.ShloMosaic.Lib.StableHlo.Run

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic Idealize.ShloMosaic.StableHlo

/-- The queries, scaled and to the base two. -/
def fQ (q : FVec Ideal S8x8192x256 .f32) : FVec Ideal S8x8192x256 .f32 :=
  Host.divf (mulf q (broadcastInDim S8x8192x256 ![] bcast_S_S8x8192x256 (constant S_ .f32 0x3D93CD3A#32)))
    (broadcastInDim S8x8192x256 ![] bcast_S_S8x8192x256 (Host.log (constant S_ .f32 0x40000000#32)))

theorem fQ_apply (q : FVec Ideal S8x8192x256 .f32) (h : Fin 8) (r : Fin 8192) (x : Fin 256) :
    (fQ q (ix3 h r x) : EReal) = Ideal.div ((q (ix3 h r x) : EReal) * Ideal.ofBits .f32 0x3D93CD3A#32) (Ideal.log (Ideal.ofBits .f32 0x40000000#32)) := by
  pointwise [fQ]

variable (m : (ℓ : Loc nD τ sig) → Buf (Elt Ideal) ℓ) (c : Dev nD)

/-- The arguments. -/
abbrev a0 : FVec Ideal S8x8192x256 .f32 := m ((c : Thread nD τ).loc main_arg0)
abbrev a1 : FVec Ideal S8x8192x256 .f32 := m ((c : Thread nD τ).loc main_arg1)
abbrev a2 : FVec Ideal S8x8192x128 .f32 := m ((c : Thread nD τ).loc main_arg2)

set_option maxHeartbeats 4000000 in
theorem V5 : V m c main_v5 = (truncf .bf16 (fQ (a0 m c)) bitsLt_bf16_f32 : FVec Ideal S8x8192x256 .bf16) := by
  unfold V
  after_results_simp
  rfl
set_option maxHeartbeats 4000000 in
theorem V6 : V m c main_v6 = (truncf .bf16 (a1 m c) bitsLt_bf16_f32 : FVec Ideal S8x8192x256 .bf16) := by
  unfold V
  after_results_simp
set_option maxHeartbeats 4000000 in
theorem V7 : V m c main_v7 = (truncf .bf16 (a2 m c) bitsLt_bf16_f32 : FVec Ideal S8x8192x128 .bf16) := by
  unfold V
  after_results_simp

end Cert.Kernel2Ideal.Fwd

end
-- ==== Proof.Fwd.RefAt.lean ====
/- The forward call's reference at an index, over the extended reals. -/
module

public import proofs.«01_k».proof.Proof.Gen.Reference2Ideal.Read
public import Idealize.ShloMosaic.Lib.Pointwise

@[expose] public section

set_option maxRecDepth 16384

noncomputable section

namespace Cert.Reference2Ideal.At

open Cert.Reference2Ideal Cert.Reference2Ideal.Gen Cert.Reference2Ideal.Read Idealize.ShloMosaic Idealize.ShloMosaic.TcCoe
open Idealize.ShloMosaic.Tactic

section at_
variable (x0 x1 : FVec Ideal S8x8192x256 .f32) (x2 : FVec Ideal S8x8192x128 .f32)
  (h : Fin 8) (r c : Fin 8192)

theorem ext3 {a b d : ℕ} {i j : (⟨3, ![a, b, d]⟩ : Shape).Idx} (h0 : (i 0).val = (j 0).val) (h1 : (i 1).val = (j 1).val) (h2 : (i 2).val = (j 2).val) : i = j := by
  funext t
  apply Fin.ext
  fin_cases t
  · exact h0
  · exact h1
  · exact h2
theorem ext2 {a b : ℕ} {i j : (⟨2, ![a, b]⟩ : Shape).Idx} (h0 : (i 0).val = (j 0).val) (h1 : (i 1).val = (j 1).val) : i = j := by
  funext t
  apply Fin.ext
  fin_cases t
  · exact h0
  · exact h1

theorem sge_at : IntOp.cmpi .sge (BitVec.ofNat 32 r.val) (BitVec.ofNat 32 c.val) = BitVec.ofBool (decide (c.val ≤ r.val)) := by
  have hr := r.isLt
  have hc := c.isLt
  simp only [IntOp.cmpi]
  congr 1
  rw [Bool.eq_iff_iff]
  simp only [BitVec.sle_iff_toInt_le, decide_eq_true_eq]
  rw [BitVec.toInt_eq_toNat_of_lt (by rw [BitVec.toNat_ofNat]; omega), BitVec.toInt_eq_toNat_of_lt (by rw [BitVec.toNat_ofNat]; omega)]
  simp only [BitVec.toNat_ofNat]
  omega

theorem sel_at {α : Type} (w : BitVec 1) (hw : w = IntOp.cmpi .sge (BitVec.ofNat 32 r.val) (BitVec.ofNat 32 c.val)) (x y : α) : Scalar.select w x y = if c.val ≤ r.val then x else y := by
  rw [hw, sge_at]
  by_cases g : c.val ≤ r.val
  · rw [decide_eq_true g, if_pos g]; rfl
  · rw [decide_eq_false g, if_neg g]; rfl

theorem max_at (y : FVec Ideal S8x8192x8192 .f32) (z : FVec Ideal S_ .f32) :
    Host.reduce (FloatOps.maximumf (F := Ideal) (φ := .f32)) y z reducesTo_S8x8192x8192_S8x8192_d2 h_S_ (ix2 h r)
    = (Finset.univ : Finset (Fin 8192)).fold max (z (Shape.Idx.first h_S_) : EReal) (fun c => (y (ix3 h r c) : EReal)) := by
  have hd : S8x8192x8192.Reduces [2] S8x8192 := by decide
  rw [Host.reduce_eq_fold_single (FloatOps.maximumf (F := Ideal) (φ := .f32)) y z reducesTo_S8x8192x8192_S8x8192_d2 hd h_S_]
  have hf : (y ∘ hd.lift (ix2 h r)) = fun k : Fin 8192 => y (ix3 h r k) :=
    funext fun k => congrArg y (ext3 rfl rfl rfl)
  exact congrArg (fun f => Finset.fold max (z (Shape.Idx.first h_S_) : EReal) f (Finset.univ : Finset (Fin 8192))) hf

/-! ## The log-sums -/

theorem v1_at (x : Fin 256) : (val_main_v1 (F := Ideal) x0 (ix3 h r x) : EReal) = (x0 (ix3 h r x) : EReal) * Ideal.ofBits .f32 0x3D93CD3A#32 := by
  rw [val_main_v1_apply, val_main_v0_apply, val_main_cst_apply]
  rfl

theorem v2_at : (val_main_v2 (F := Ideal) x0 x1 (ix3 h r c) : EReal) = ∑ x : Fin 256, (val_main_v1 (F := Ideal) x0 (ix3 h r x) : EReal) * x1 (ix3 h c x) := by
  rw [val_main_v2_apply]
  refine Finset.sum_congr rfl fun x _ => ?_
  rw [show lidx_main_v2 (ix3 h r c) x = ix3 h r x from ext3 rfl rfl rfl, show ridx_main_v2 (ix3 h r c) x = ix3 h c x from ext3 rfl rfl rfl]

theorem v11_at : val_main_v11 (F := Ideal) (ix3 h r c) = IntOp.cmpi .sge (BitVec.ofNat 32 r.val) (BitVec.ofNat 32 c.val) := by
  rw [val_main_v11_apply, val_main_v10_apply, val_main_v9_apply, val_main_v7_apply, val_main_v8_apply, val_main_v4_apply, val_main_v6_apply, val_main_v3_apply, val_main_v5_apply]
  rfl

theorem v13_at : (val_main_v13 (F := Ideal) x0 x1 (ix3 h r c) : EReal) = if c.val ≤ r.val then (val_main_v2 (F := Ideal) x0 x1 (ix3 h r c) : EReal) else Ideal.ofBits .f32 0xFF800000#32 := by
  rw [val_main_v13_apply, sel_at r c _ (v11_at h r c), val_main_v12_apply, val_main_cst_0_apply]
  rfl

theorem v14_at : (val_main_v14 (F := Ideal) x0 x1 (ix2 h r) : EReal)
    = (Finset.univ : Finset (Fin 8192)).fold max (Ideal.ofBits .f32 0xFF800000#32) (fun c => (val_main_v13 (F := Ideal) x0 x1 (ix3 h r c) : EReal)) := by
  unfold val_main_v14
  exact max_at h r (val_main_v13 (F := Ideal) x0 x1) (val_main_cst_1 (F := Ideal))

theorem v16_at : (val_main_v16 (F := Ideal) x0 x1 (ix3 h r c) : EReal) = val_main_v14 (F := Ideal) x0 x1 (ix2 h r) := by
  rw [val_main_v16_apply, val_main_v15_apply]
  exact congrArg (val_main_v14 (F := Ideal) x0 x1) (ext2 rfl rfl)

theorem v18_at : (val_main_v18 (F := Ideal) x0 x1 (ix3 h r c) : EReal)
    = Ideal.exp ((val_main_v13 (F := Ideal) x0 x1 (ix3 h r c) : EReal) - val_main_v14 (F := Ideal) x0 x1 (ix2 h r)) := by
  rw [val_main_v18_apply, val_main_v17_apply, ← v16_at x0 x1 h r c]
  rfl

theorem v19_at : (val_main_v19 (F := Ideal) x0 x1 (ix2 h r) : EReal) = ∑ c : Fin 8192, (val_main_v18 (F := Ideal) x0 x1 (ix3 h r c) : EReal) := by
  rw [val_main_v19_apply, val_main_cst_2_apply]
  refine (congrArg (· + _) Ideal.ofBits_zero_f32).trans ((zero_add _).trans (Finset.sum_congr rfl fun k _ => ?_))
  exact congrArg (val_main_v18 (F := Ideal) x0 x1) (ext3 rfl rfl rfl)

theorem v52_at : (val_main_v52 (F := Ideal) x0 x1 (ix2 h r) : EReal)
    = Ideal.div ((val_main_v14 (F := Ideal) x0 x1 (ix2 h r) : EReal) + Ideal.log (val_main_v19 (F := Ideal) x0 x1 (ix2 h r))) (Ideal.log (Ideal.ofBits .f32 0x40000000#32)) := by
  rw [val_main_v52_apply, val_main_v51_apply, val_main_v50_apply, val_main_cst_8_apply, val_main_v21_apply, val_main_v20_apply]
  rfl

theorem v53_at (u : Fin 1) : (val_main_v53 (F := Ideal) x0 x1 (ix3 h u r) : EReal) = val_main_v52 (F := Ideal) x0 x1 (ix2 h r) := by
  rw [val_main_v53_apply]
  refine congrArg (val_main_v52 (F := Ideal) x0 x1) (ext2 ?_ ?_) <;>
  · have := h.isLt; have := r.isLt; have := u.isLt
    simp only [idx_main_v53, ix3, ix2]
    show _ = _
    omega

/-! ## The attention -/

theorem v23_at (x : Fin 256) : (val_main_v23 (F := Ideal) x0 (ix3 h r x) : EReal) = (x0 (ix3 h r x) : EReal) * Ideal.ofBits .f32 0x3D93CD3A#32 := by
  rw [val_main_v23_apply, val_main_v22_apply, val_main_cst_3_apply]
  rfl

theorem v24_at : (val_main_v24 (F := Ideal) x0 x1 (ix3 h r c) : EReal) = ∑ x : Fin 256, (val_main_v23 (F := Ideal) x0 (ix3 h r x) : EReal) * x1 (ix3 h c x) := by
  rw [val_main_v24_apply]
  refine Finset.sum_congr rfl fun x _ => ?_
  rw [show lidx_main_v24 (ix3 h r c) x = ix3 h r x from ext3 rfl rfl rfl, show ridx_main_v24 (ix3 h r c) x = ix3 h c x from ext3 rfl rfl rfl]

theorem v33_at : val_main_v33 (F := Ideal) (ix3 h r c) = IntOp.cmpi .sge (BitVec.ofNat 32 r.val) (BitVec.ofNat 32 c.val) := by
  rw [val_main_v33_apply, val_main_v32_apply, val_main_v31_apply, val_main_v29_apply, val_main_v30_apply, val_main_v26_apply, val_main_v28_apply, val_main_v25_apply, val_main_v27_apply]
  rfl

theorem v35_at : (val_main_v35 (F := Ideal) x0 x1 (ix3 h r c) : EReal) = if c.val ≤ r.val then (val_main_v24 (F := Ideal) x0 x1 (ix3 h r c) : EReal) else Ideal.ofBits .f32 0xFF800000#32 := by
  rw [val_main_v35_apply, sel_at r c _ (v33_at h r c), val_main_v34_apply, val_main_cst_4_apply]
  rfl

theorem v36_at : (val_main_v36 (F := Ideal) x0 x1 (ix2 h r) : EReal)
    = (Finset.univ : Finset (Fin 8192)).fold max (Ideal.ofBits .f32 0xFF800000#32) (fun c => (val_main_v35 (F := Ideal) x0 x1 (ix3 h r c) : EReal)) := by
  unfold val_main_v36
  exact max_at h r (val_main_v35 (F := Ideal) x0 x1) (val_main_cst_5 (F := Ideal))

theorem v40_at : (val_main_v40 (F := Ideal) x0 x1 (ix3 h r c) : EReal) = max (Ideal.ofBits .f32 0xFF800000#32) (val_main_v36 (F := Ideal) x0 x1 (ix2 h r)) := by
  rw [val_main_v40_apply, val_main_v39_apply, val_main_v38_apply, val_main_v37_apply, val_main_cst_6_apply]
  rw [show idx_main_v39 (idx_main_v40 (ix3 h r c)) = ix2 h r from ext2 rfl rfl]
  rfl

theorem v42_at : (val_main_v42 (F := Ideal) x0 x1 (ix3 h r c) : EReal)
    = Ideal.exp ((val_main_v35 (F := Ideal) x0 x1 (ix3 h r c) : EReal) - max (Ideal.ofBits .f32 0xFF800000#32) (val_main_v36 (F := Ideal) x0 x1 (ix2 h r))) := by
  rw [val_main_v42_apply, val_main_v41_apply, ← v40_at x0 x1 h r c]
  rfl

theorem v43_at : (val_main_v43 (F := Ideal) x0 x1 (ix2 h r) : EReal) = ∑ c : Fin 8192, (val_main_v42 (F := Ideal) x0 x1 (ix3 h r c) : EReal) := by
  rw [val_main_v43_apply, val_main_cst_7_apply]
  refine (congrArg (· + _) Ideal.ofBits_zero_f32).trans ((zero_add _).trans (Finset.sum_congr rfl fun k _ => ?_))
  exact congrArg (val_main_v42 (F := Ideal) x0 x1) (ext3 rfl rfl rfl)

theorem v45_at : (val_main_v45 (F := Ideal) x0 x1 (ix3 h r c) : EReal) = val_main_v43 (F := Ideal) x0 x1 (ix2 h r) := by
  rw [val_main_v45_apply, val_main_v44_apply]
  exact congrArg (val_main_v43 (F := Ideal) x0 x1) (ext2 rfl rfl)

theorem v46_at : (val_main_v46 (F := Ideal) x0 x1 (ix3 h r c) : EReal) = Ideal.div (val_main_v42 (F := Ideal) x0 x1 (ix3 h r c)) (val_main_v43 (F := Ideal) x0 x1 (ix2 h r)) := by
  rw [val_main_v46_apply, ← v45_at x0 x1 h r c]
  rfl

theorem v47_at (d : Fin 128) : (val_main_v47 (F := Ideal) x0 x1 x2 (ix3 h d r) : EReal) = ∑ c : Fin 8192, (x2 (ix3 h c d) : EReal) * val_main_v46 (F := Ideal) x0 x1 (ix3 h r c) := by
  rw [val_main_v47_apply]
  refine Finset.sum_congr rfl fun x _ => ?_
  rw [show lidx_main_v47 (ix3 h d r) x = ix3 h x d from ext3 rfl rfl rfl, show ridx_main_v47 (ix3 h d r) x = ix3 h r x from ext3 rfl rfl rfl]

theorem v49_at (x : Fin 1024) : (val_main_v49 (F := Ideal) x0 x1 x2 (ix2 r x) : EReal) = val_main_v47 (F := Ideal) x0 x1 x2 (ix3 ⟨x.val / 128, by omega⟩ ⟨x.val % 128, by omega⟩ r) := by
  rw [val_main_v49_apply, val_main_v48_apply]
  refine congrArg (val_main_v47 (F := Ideal) x0 x1 x2) (ext3 ?_ ?_ ?_) <;>
  · have := x.isLt; have := r.isLt
    simp only [idx_main_v48, idx_main_v49, ix3, ix2]
    show _ = _
    omega
end at_

end Cert.Reference2Ideal.At

end
-- ==== Proof.Fwd.Value.lean ====
/- The forward call's two results and its reference's, where the arguments are real. -/
module

public import proofs.«01_k».proof.Proof.Fwd.Out
public import proofs.«01_k».proof.Proof.Fwd.Host
public import proofs.«01_k».proof.Proof.Fwd.RefAt
public import proofs.«01_k».proof.Proof.Fwd.Pre
public import proofs.«01_k».proof.Proof.Math

@[expose] public section

set_option maxRecDepth 16384

noncomputable section

namespace Cert.Kernel2Ideal.Fwd

open Cert.Kernel2Ideal Cert.Kernel2Ideal.Gen
open Idealize.ShloMosaic
open Idealize.ShloMosaic.TcCoe Idealize.ShloMosaic.Tactic
open Cert.Reference2Ideal.Read Cert.Reference2Ideal.At
open Cert.KernelIdeal.Bwd (rs rst re rl rl_pos max_real exp_rst)

/-! ## A row, in the two spellings -/

section row
variable (A K : Fin 8192 → Fin 256 → ℝ) (W : Fin 8192 → Fin 128 → ℝ) (μ : Fin 8192 → ℝ) (T : Row) (r : Fin 8192)
  (hσ : ∀ c : Fin 8192, T.σ c.val = rs A K r c / Real.log 2) (hV : ∀ (c : Fin 8192) d, T.V c.val d = W c d) (hR : T.R = r.val)

include hσ hR

theorem row_w (c : Fin 8192) : T.w 0 c.val = Real.exp (μ r) * re A K μ r c := by
  unfold Row.w re
  rw [hR]
  split
  · rw [hσ, sub_zero, Real.rpow_def_of_pos two_pos, ← Real.exp_add]
    congr 1
    have := log2_ne
    field_simp
    ring
  · rw [mul_zero]

theorem row_l : T.l (128 * 64) = Real.exp (μ r) * rl A K μ r := by
  unfold Row.l rl
  rw [Finset.mul_sum, show 128 * 64 = 8192 from rfl, Finset.sum_range]
  exact Finset.sum_congr rfl fun c _ => row_w A K μ T r hσ hR c

theorem row_t : T.t (128 * 64) = (μ r + Real.log (rl A K μ r)) / Real.log 2 := by
  unfold Row.t
  rw [row_l A K μ T r hσ hR, Real.log_mul (Real.exp_pos _).ne' (rl_pos A K μ r).ne', Real.log_exp]

include hV in
theorem row_o (d : Fin 128) : T.o (128 * 64) d = ∑ c, W c d * (re A K μ r c / rl A K μ r) := by
  unfold Row.o
  have h1 := (rl_pos A K μ r).ne'
  have h2 := (Real.exp_pos (μ r)).ne'
  rw [row_l A K μ T r hσ hR, show 128 * 64 = 8192 from rfl, Finset.sum_range, Finset.sum_div]
  refine Finset.sum_congr rfl fun c _ => ?_
  rw [row_w A K μ T r hσ hR c, hV]
  field_simp
end row

/-! ## The reference -/

section ref
variable (x0 x1 : FVec Ideal S8x8192x256 .f32) (x2 : FVec Ideal S8x8192x128 .f32) (h : Fin 8)
  (A K : Fin 8192 → Fin 256 → ℝ) (W : Fin 8192 → Fin 128 → ℝ) (μ : Fin 8192 → ℝ)
  (hA : ∀ r x, ((x0 (ix3 h r x) : EReal) * Ideal.ofBits .f32 0x3D93CD3A#32) = (A r x : EReal))
  (hK : ∀ r x, (x1 (ix3 h r x) : EReal) = (K r x : EReal))
  (hW : ∀ r d, (x2 (ix3 h r d) : EReal) = (W r d : EReal))
  (hμ : ∀ r, (Finset.univ : Finset (Fin 8192)).fold max ⊥ (rst A K r) = (μ r : EReal))

include hA hK in
theorem r13 (r c : Fin 8192) : (val_main_v13 (F := Ideal) x0 x1 (ix3 h r c) : EReal) = rst A K r c := by
  rw [v13_at, Cert.Finite.neg_inf]
  unfold rst
  refine if_congr Iff.rfl ?_ rfl
  rw [v2_at]
  unfold rs
  rw [coe_sum]
  exact Finset.sum_congr rfl fun x _ => by rw [v1_at, hA, hK, ← EReal.coe_mul]
include hA hK in
theorem r35 (r c : Fin 8192) : (val_main_v35 (F := Ideal) x0 x1 (ix3 h r c) : EReal) = rst A K r c := by
  rw [v35_at, Cert.Finite.neg_inf]
  unfold rst
  refine if_congr Iff.rfl ?_ rfl
  rw [v24_at]
  unfold rs
  rw [coe_sum]
  exact Finset.sum_congr rfl fun x _ => by rw [v23_at, hA, hK, ← EReal.coe_mul]

include hA hK hμ

theorem r14 (r : Fin 8192) : (val_main_v14 (F := Ideal) x0 x1 (ix2 h r) : EReal) = (μ r : EReal) := by
  rw [v14_at, Cert.Finite.neg_inf, ← hμ r]
  exact congrArg (fun f => Finset.fold max ⊥ f Finset.univ) (funext fun c => r13 x0 x1 h A K hA hK r c)
theorem r36 (r : Fin 8192) : (val_main_v36 (F := Ideal) x0 x1 (ix2 h r) : EReal) = (μ r : EReal) := by
  rw [v36_at, Cert.Finite.neg_inf, ← hμ r]
  exact congrArg (fun f => Finset.fold max ⊥ f Finset.univ) (funext fun c => r35 x0 x1 h A K hA hK r c)

theorem r18 (r c : Fin 8192) : (val_main_v18 (F := Ideal) x0 x1 (ix3 h r c) : EReal) = (re A K μ r c : EReal) := by
  rw [v18_at, r14 x0 x1 h A K μ hA hK hμ, r13 x0 x1 h A K hA hK]
  exact exp_rst A K μ r c
theorem r42 (r c : Fin 8192) : (val_main_v42 (F := Ideal) x0 x1 (ix3 h r c) : EReal) = (re A K μ r c : EReal) := by
  rw [v42_at, Cert.Finite.neg_inf, r36 x0 x1 h A K μ hA hK hμ, r35 x0 x1 h A K hA hK, max_eq_right bot_le]
  exact exp_rst A K μ r c

theorem r19 (r : Fin 8192) : (val_main_v19 (F := Ideal) x0 x1 (ix2 h r) : EReal) = (rl A K μ r : EReal) := by
  rw [v19_at]
  unfold rl
  rw [coe_sum]
  exact Finset.sum_congr rfl fun c _ => r18 x0 x1 h A K μ hA hK hμ r c
theorem r43 (r : Fin 8192) : (val_main_v43 (F := Ideal) x0 x1 (ix2 h r) : EReal) = (rl A K μ r : EReal) := by
  rw [v43_at]
  unfold rl
  rw [coe_sum]
  exact Finset.sum_congr rfl fun c _ => r42 x0 x1 h A K μ hA hK hμ r c

/-- The reference's log-sums, -/
theorem r53 (r : Fin 8192) (u : Fin 1) : (val_main_v53 (F := Ideal) x0 x1 (ix3 h u r) : EReal) = (((μ r + Real.log (rl A K μ r)) / Real.log 2 : ℝ) : EReal) := by
  rw [v53_at, v52_at, Cert.Finite.log_two, r14 x0 x1 h A K μ hA hK hμ, r19 x0 x1 h A K μ hA hK hμ, Ideal.log_coe, if_neg (not_le.2 (rl_pos A K μ r)), ← EReal.coe_add,
    div_real _ log2_ne]

include hW in
/-- and its output. -/
theorem r47 (r : Fin 8192) (d : Fin 128) : (val_main_v47 (F := Ideal) x0 x1 x2 (ix3 h d r) : EReal) = ((∑ c, W c d * (re A K μ r c / rl A K μ r) : ℝ) : EReal) := by
  rw [v47_at, coe_sum]
  exact Finset.sum_congr rfl fun c _ => by
    rw [v46_at, r42 x0 x1 h A K μ hA hK hμ, r43 x0 x1 h A K μ hA hK hμ, div_real _ (rl_pos A K μ r).ne', hW, ← EReal.coe_mul]
end ref

/-! ## The kernel -/

section main
variable (m : (ℓ : Loc nD τ sig) → Buf (Elt Ideal) ℓ) (c : Dev nD)
  (h0 : ∀ i, ∃ y : ℝ, a0 m c i = (y : EReal)) (h1 : ∀ i, ∃ y : ℝ, a1 m c i = (y : EReal)) (h2 : ∀ i, ∃ y : ℝ, a2 m c i = (y : EReal))
include h0 h1 h2

/-- Where the arguments are real the region finds real arrays, and of them the kernel's results are the reference's. -/
theorem real_eq : ∃ (q k : S8x8192x256.Idx → ℝ) (v : S8x8192x128.Idx → ℝ), Rl m c q k v
    ∧ go q k v = val_main_v49 (F := Ideal) (a0 m c) (a1 m c) (a2 m c) ∧ gl q k v = val_main_v53 (F := Ideal) (a0 m c) (a1 m c) := by
  obtain ⟨s, hs⟩ := Cert.Finite.scale
  choose X0 e0 using h0
  choose X1 e1 using h1
  choose X2 e2 using h2
  have hA : ∀ (h : Fin 8) r x, ((a0 m c (ix3 h r x) : EReal) * Ideal.ofBits .f32 0x3D93CD3A#32) = ((X0 (ix3 h r x) * s : ℝ) : EReal) := fun h r x => by
    rw [hs, e0, ← EReal.coe_mul]
  have key : ∀ (h : Fin 8) (r : Fin 8192), ∃ μ : Fin 8192 → ℝ, (∀ r, (Finset.univ : Finset (Fin 8192)).fold max ⊥ (rst (fun r x => X0 (ix3 h r x) * s) (fun r x => X1 (ix3 h r x)) r) = (μ r : EReal))
      ∧ (∀ c : Fin 8192, ((hdOf (fun y => X0 y * s / Real.log 2) X1 X2 h).row r.val).σ c.val = rs (fun r x => X0 (ix3 h r x) * s) (fun r x => X1 (ix3 h r x)) r c / Real.log 2)
      ∧ ∀ (c : Fin 8192) d, ((hdOf (fun y => X0 y * s / Real.log 2) X1 X2 h).row r.val).V c.val d = X2 (ix3 h c d) := fun h r => by
    choose μ hμ using max_real (fun r x => X0 (ix3 h r x) * s) (fun r x => X1 (ix3 h r x))
    refine ⟨μ, hμ, fun c => ?_, fun c d => hdOf_V (fun y => X0 y * s / Real.log 2) X1 X2 h c.val c.isLt d⟩
    show ∑ x, (hdOf (fun y => X0 y * s / Real.log 2) X1 X2 h).Q r.val x * (hdOf (fun y => X0 y * s / Real.log 2) X1 X2 h).K c.val x = _
    unfold rs
    rw [Finset.sum_div]
    refine Finset.sum_congr rfl fun x _ => ?_
    rw [hdOf_Q (fun y => X0 y * s / Real.log 2) X1 X2 h r.val r.isLt, hdOf_K (fun y => X0 y * s / Real.log 2) X1 X2 h c.val c.isLt]
    ring
  refine ⟨fun y => X0 y * s / Real.log 2, X1, X2, ⟨fun y => ?_, fun y => ?_, fun y => ?_⟩, funext fun y => ?_, funext fun y => ?_⟩
  · rw [V5]
    obtain ⟨h, r, x, rfl⟩ : ∃ (h : Fin 8) (r : Fin 8192) (x : Fin 256), y = ix3 h r x := ⟨y 0, y 1, y 2, eq_ix3 y⟩
    refine (fQ_apply (a0 m c) h r x).trans ?_
    rw [hA, Cert.Finite.log_two, div_real _ log2_ne]
  · rw [V6]; exact e1 y
  · rw [V7]; exact e2 y
  · obtain ⟨r, x, rfl⟩ : ∃ (r : Fin 8192) (x : Fin 1024), y = ix2 r x := ⟨y 0, y 1, eq_ix2 y⟩
    obtain ⟨μ, hμ, hσ, hV⟩ := key ⟨x.val / 128, by omega⟩ r
    rw [v49_at, r47 _ _ _ _ _ _ _ μ (hA _) (fun r x => e1 _) (fun r d => e2 _) hμ]
    exact congrArg (fun z : ℝ => (z : EReal)) (row_o _ _ _ μ _ r hσ hV rfl _)
  · obtain ⟨h, u, r, rfl⟩ : ∃ (h : Fin 8) (u : Fin 1) (r : Fin 8192), y = ix3 h u r := ⟨y 0, y 1, y 2, eq_ix3 y⟩
    obtain ⟨μ, hμ, hσ, hV⟩ := key h r
    rw [r53 _ _ _ _ _ μ (hA _) (fun r x => e1 _) hμ]
    exact congrArg (fun z : ℝ => (z : EReal)) (row_t _ _ μ _ r hσ rfl)
end main

end Cert.Kernel2Ideal.Fwd

end
-- ==== Proof.Fwd.Alg.lean ====
/- The algebraic claim of the forward call. -/
module

public import proofs.«01_k».proof.Proof.Fwd.Value
public import proofs.«01_k».proof.Proof.Gen.Reference2Ideal.Run
public import proofs.«01_k».proof.Defs

@[expose] public section

set_option maxRecDepth 16384

noncomputable section

namespace Cert.Kernel2Ideal.Fwd

open Cert.Kernel2Ideal Cert.Kernel2Ideal.Gen
open Idealize.ShloMosaic Idealize.SL.Sem
open Idealize.ShloMosaic.TcCoe Idealize.ShloMosaic.Tactic

/-- The forward call ends with the arrays its region leaves, and the arguments unchanged. -/
theorem run_val (m : (ℓ : Loc nD τ sig) → Buf (Elt Ideal) ℓ) (ρ : Dev nD → PrngReg) (o : Dev nD → S8192x1024.Idx → EReal) (l : Dev nD → S8x1x8192.Idx → EReal)
    (ho : ∀ c, (dats m (0 : Fin 1) c).arrAt (3 : Fin 5) (cfgA (F := Ideal)).N = o c) (hl : ∀ c, (dats m (0 : Fin 1) c).arrAt (4 : Fin 5) (cfgA (F := Ideal)).N = l c) :
    θ_run defs (onTc (τ := τ) (main (F := Ideal))) ⟨m, fun _ => 0, ρ⟩ (fun r => ∀ c : Dev nD,
      r.2.mem ((c.tc : Thread nD τ).loc main_v8_0) = o c
      ∧ r.2.mem ((c.tc : Thread nD τ).loc main_v8_1) = l c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r hr c => ?_) (run_main m ρ)
  obtain ⟨h, -⟩ := hr
  obtain ⟨e0, e1, e2⟩ := V_arg m c
  exact ⟨((h c).1 (3 : Fin 5)).trans (ho c), ((h c).1 (4 : Fin 5)).trans (hl c),
    ((h c).2 main_arg0 (Pipeline.mem_restRefs_of _ rfl (show ∀ w : Fin 5, Pipeline.arrRef spec0 w ≠ main_arg0 by decide))).trans e0,
    ((h c).2 main_arg1 (Pipeline.mem_restRefs_of _ rfl (show ∀ w : Fin 5, Pipeline.arrRef spec0 w ≠ main_arg1 by decide))).trans e1,
    ((h c).2 main_arg2 (Pipeline.mem_restRefs_of _ rfl (show ∀ w : Fin 5, Pipeline.arrRef spec0 w ≠ main_arg2 by decide))).trans e2⟩

/-- The forward call and its reference end with the same output and the same log-sums where the arguments are real numbers. -/
theorem algebraic : @Cert.algebraic_Kernel2Ideal_Reference2Ideal_pre_finite2 Cert.Kernel2Ideal.Gen.facts Cert.Reference2Ideal.Gen.facts Cert.Pre_finite2.facts := by
  intro m g m' g' hpre hargs
  have key := fun c : Dev nD => by
    obtain ⟨h0, h1, h2⟩ := @Cert.Finite.reals2 Cert.Pre_finite2.facts _ _ _ (hpre c)
    exact real_eq m c h0 h1 h2
  choose q k v hR ho hl using key
  refine ⟨fun c => go (q c) (k c) (v c), fun c => gl (q c) (k c) (v c), run_val m g _ _ (fun c => out3_arr m (hR c)) (fun c => out4_arr m (hR c)), ?_⟩
  refine (θ_run _ _ _).mono (fun r hr c => ?_) (Cert.Reference2Ideal.Value.run m' g')
  obtain ⟨eo, el, hrest⟩ := hr c
  obtain ⟨e0, e1, e2⟩ := hargs c
  refine ⟨eo.trans ?_, el.trans ?_, hrest⟩
  · rw [Cert.Reference2Ideal.Read.val_main_v49_eq, e0, e1, e2]
    exact (ho c).symm
  · rw [Cert.Reference2Ideal.Read.val_main_v53_eq, e0, e1]
    exact (hl c).symm

end Cert.Kernel2Ideal.Fwd

end
-- ==== Proof.lean ====
/- The claim: for the backward and for the forward call the frames, the named constants and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Frame
public import proofs.«01_k».proof.Proof.Bits.Frame
public import proofs.«01_k».proof.Proof.Pre
public import proofs.«01_k».proof.Proof.Alg
public import proofs.«01_k».proof.Proof.Fwd.Frame
public import proofs.«01_k».proof.Proof.Fwd.Bits.Frame
public import proofs.«01_k».proof.Proof.Fwd.Pre
public import proofs.«01_k».proof.Proof.Fwd.Alg
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite.facts, Cert.Pre_finite2.facts,
  fun m g _ => Cert.Kernel.Bwd.frame_main m g, fun m g _ => Cert.KernelIdeal.Bwd.frame_main m g, fun m g _ => Cert.KernelIdeal.Bwd.frame_main m g,
  fun m g _ => Cert.ReferenceIdeal.Value.frame_main m g, fun m g _ => Cert.ReferenceIdeal.Value.frame_main m g,
  fun m g _ => Cert.Kernel2.Fwd.frame_main m g, fun m g _ => Cert.Kernel2Ideal.Fwd.frame_main m g, fun m g _ => Cert.Kernel2Ideal.Fwd.frame_main m g,
  fun m g _ => Cert.Reference2Ideal.Value.frame_main m g, fun m g _ => Cert.Reference2Ideal.Value.frame_main m g,
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩,
  Cert.KernelIdeal.Bwd.algebraic,
  ⟨IdealRules.named_const.statement Cert.Kernel2Ideal.κ "mask" .f32 0xF149F2CA#32 ⊥ rfl,
    IdealRules.named_const.statement Cert.Kernel2Ideal.κ "rln2" .f32 0x3FB8AA3B#32 (((Real.log 2)⁻¹ : ℝ) : EReal) rfl⟩,
  Cert.Kernel2Ideal.Fwd.algebraic⟩

end Cert.Proof

end
